-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v40_0)) (v1 : (c : Dev Cert.KernelIdeal.nD) → Buf (Elt Ideal) ((c.tc : Thread Cert.KernelIdeal.nD Cert.KernelIdeal.τ).loc Cert.KernelIdeal.main_v40_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40_0) = v0 c
          ∧ r.2.mem ((c.tc : Thread Cert.KernelIdeal.nD Cert.KernelIdeal.τ).loc Cert.KernelIdeal.main_v40_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_v136) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v32_0)) (v1 : (c : Dev Cert.Kernel2Ideal.nD) → Buf (Elt Ideal) ((c.tc : Thread Cert.Kernel2Ideal.nD Cert.Kernel2Ideal.τ).loc Cert.Kernel2Ideal.main_v32_1)) (v2 : (c : Dev Cert.Kernel2Ideal.nD) → Buf (Elt Ideal) ((c.tc : Thread Cert.Kernel2Ideal.nD Cert.Kernel2Ideal.τ).loc Cert.Kernel2Ideal.main_v32_2)) (v3 : (c : Dev Cert.Kernel2Ideal.nD) → Buf (Elt Ideal) ((c.tc : Thread Cert.Kernel2Ideal.nD Cert.Kernel2Ideal.τ).loc Cert.Kernel2Ideal.main_v32_3)) (v4 : (c : Dev Cert.Kernel2Ideal.nD) → Buf (Elt Ideal) ((c.tc : Thread Cert.Kernel2Ideal.nD Cert.Kernel2Ideal.τ).loc Cert.Kernel2Ideal.main_v32_4)) (v5 : (c : Dev Cert.Kernel2Ideal.nD) → Buf (Elt Ideal) ((c.tc : Thread Cert.Kernel2Ideal.nD Cert.Kernel2Ideal.τ).loc Cert.Kernel2Ideal.main_v32_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v32_0) = v0 c
          ∧ r.2.mem ((c.tc : Thread Cert.Kernel2Ideal.nD Cert.Kernel2Ideal.τ).loc Cert.Kernel2Ideal.main_v32_1) = v1 c
          ∧ r.2.mem ((c.tc : Thread Cert.Kernel2Ideal.nD Cert.Kernel2Ideal.τ).loc Cert.Kernel2Ideal.main_v32_2) = v2 c
          ∧ r.2.mem ((c.tc : Thread Cert.Kernel2Ideal.nD Cert.Kernel2Ideal.τ).loc Cert.Kernel2Ideal.main_v32_3) = v3 c
          ∧ r.2.mem ((c.tc : Thread Cert.Kernel2Ideal.nD Cert.Kernel2Ideal.τ).loc Cert.Kernel2Ideal.main_v32_4) = v4 c
          ∧ r.2.mem ((c.tc : Thread Cert.Kernel2Ideal.nD Cert.Kernel2Ideal.τ).loc Cert.Kernel2Ideal.main_v32_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v47) = v0 c
          ∧ r.2.mem ((c.tc : Thread Cert.Reference2Ideal.nD Cert.Reference2Ideal.τ).loc Cert.Reference2Ideal.main_v48) = v1 c
          ∧ r.2.mem ((c.tc : Thread Cert.Reference2Ideal.nD Cert.Reference2Ideal.τ).loc Cert.Reference2Ideal.main_v41) = v2 c
          ∧ r.2.mem ((c.tc : Thread Cert.Reference2Ideal.nD Cert.Reference2Ideal.τ).loc Cert.Reference2Ideal.main_v45) = v3 c
          ∧ r.2.mem ((c.tc : Thread Cert.Reference2Ideal.nD Cert.Reference2Ideal.τ).loc Cert.Reference2Ideal.main_v52) = v4 c
          ∧ r.2.mem ((c.tc : Thread Cert.Reference2Ideal.nD Cert.Reference2Ideal.τ).loc Cert.Reference2Ideal.main_v56) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v45) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v34_0)) (v1 : (c : Dev Cert.Kernel5Ideal.nD) → Buf (Elt Ideal) ((c.tc : Thread Cert.Kernel5Ideal.nD Cert.Kernel5Ideal.τ).loc Cert.Kernel5Ideal.main_v34_1)) (v2 : (c : Dev Cert.Kernel5Ideal.nD) → Buf (Elt Ideal) ((c.tc : Thread Cert.Kernel5Ideal.nD Cert.Kernel5Ideal.τ).loc Cert.Kernel5Ideal.main_v34_2)) (v3 : (c : Dev Cert.Kernel5Ideal.nD) → Buf (Elt Ideal) ((c.tc : Thread Cert.Kernel5Ideal.nD Cert.Kernel5Ideal.τ).loc Cert.Kernel5Ideal.main_v34_3)) (v4 : (c : Dev Cert.Kernel5Ideal.nD) → Buf (Elt Ideal) ((c.tc : Thread Cert.Kernel5Ideal.nD Cert.Kernel5Ideal.τ).loc Cert.Kernel5Ideal.main_v34_4)) (v5 : (c : Dev Cert.Kernel5Ideal.nD) → Buf (Elt Ideal) ((c.tc : Thread Cert.Kernel5Ideal.nD Cert.Kernel5Ideal.τ).loc Cert.Kernel5Ideal.main_v34_5)) (v6 : (c : Dev Cert.Kernel5Ideal.nD) → Buf (Elt Ideal) ((c.tc : Thread Cert.Kernel5Ideal.nD Cert.Kernel5Ideal.τ).loc Cert.Kernel5Ideal.main_v34_6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v34_0) = v0 c
          ∧ r.2.mem ((c.tc : Thread Cert.Kernel5Ideal.nD Cert.Kernel5Ideal.τ).loc Cert.Kernel5Ideal.main_v34_1) = v1 c
          ∧ r.2.mem ((c.tc : Thread Cert.Kernel5Ideal.nD Cert.Kernel5Ideal.τ).loc Cert.Kernel5Ideal.main_v34_2) = v2 c
          ∧ r.2.mem ((c.tc : Thread Cert.Kernel5Ideal.nD Cert.Kernel5Ideal.τ).loc Cert.Kernel5Ideal.main_v34_3) = v3 c
          ∧ r.2.mem ((c.tc : Thread Cert.Kernel5Ideal.nD Cert.Kernel5Ideal.τ).loc Cert.Kernel5Ideal.main_v34_4) = v4 c
          ∧ r.2.mem ((c.tc : Thread Cert.Kernel5Ideal.nD Cert.Kernel5Ideal.τ).loc Cert.Kernel5Ideal.main_v34_5) = v5 c
          ∧ r.2.mem ((c.tc : Thread Cert.Kernel5Ideal.nD Cert.Kernel5Ideal.τ).loc Cert.Kernel5Ideal.main_v34_6) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v45) = v0 c
          ∧ r.2.mem ((c.tc : Thread Cert.Reference5Ideal.nD Cert.Reference5Ideal.τ).loc Cert.Reference5Ideal.main_v93) = v1 c
          ∧ r.2.mem ((c.tc : Thread Cert.Reference5Ideal.nD Cert.Reference5Ideal.τ).loc Cert.Reference5Ideal.main_v94) = v2 c
          ∧ r.2.mem ((c.tc : Thread Cert.Reference5Ideal.nD Cert.Reference5Ideal.τ).loc Cert.Reference5Ideal.main_v87) = v3 c
          ∧ r.2.mem ((c.tc : Thread Cert.Reference5Ideal.nD Cert.Reference5Ideal.τ).loc Cert.Reference5Ideal.main_v91) = v4 c
          ∧ r.2.mem ((c.tc : Thread Cert.Reference5Ideal.nD Cert.Reference5Ideal.τ).loc Cert.Reference5Ideal.main_v98) = v5 c
          ∧ r.2.mem ((c.tc : Thread Cert.Reference5Ideal.nD Cert.Reference5Ideal.τ).loc Cert.Reference5Ideal.main_v102) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S16x2304x1024 : Shape := ⟨3, ![16, 2304, 1024]⟩
abbrev S24x1x6144 : Shape := ⟨3, ![24, 1, 6144]⟩
abbrev S16x2304x512 : Shape := ⟨3, ![16, 2304, 512]⟩
abbrev S32x144x4096 : Shape := ⟨3, ![32, 144, 4096]⟩
abbrev S512 : Shape := ⟨1, ![512]⟩
abbrev S1024x7696 : Shape := ⟨2, ![1024, 7696]⟩
abbrev S4x512x1024 : Shape := ⟨3, ![4, 512, 1024]⟩
abbrev S512x1024 : Shape := ⟨2, ![512, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S32x1024 : Shape := ⟨2, ![32, 1024]⟩
abbrev S_ : Shape := ⟨0, ![]⟩
abbrev S32x1 : Shape := ⟨2, ![32, 1]⟩
abbrev S1024x4096 : Shape := ⟨2, ![1024, 4096]⟩
abbrev S1x512 : Shape := ⟨2, ![1, 512]⟩
abbrev S1x1024 : Shape := ⟨2, ![1, 1024]⟩
abbrev S256x256 : Shape := ⟨2, ![256, 256]⟩
abbrev S8x36864 : Shape := ⟨2, ![8, 36864]⟩
abbrev S32x128 : Shape := ⟨2, ![32, 128]⟩
abbrev S1x256x1024 : Shape := ⟨3, ![1, 256, 1024]⟩
abbrev S1x1x6144 : Shape := ⟨3, ![1, 1, 6144]⟩
abbrev S1x256x512 : Shape := ⟨3, ![1, 256, 512]⟩
abbrev S32x16x256 : Shape := ⟨3, ![32, 16, 256]⟩
abbrev S8x256 : Shape := ⟨2, ![8, 256]⟩
abbrev S256x512 : Shape := ⟨2, ![256, 512]⟩
abbrev S256x1024 : Shape := ⟨2, ![256, 1024]⟩
abbrev S32x256 : Shape := ⟨2, ![32, 256]⟩
abbrev S1x512x1024 : Shape := ⟨3, ![1, 512, 1024]⟩
abbrev S256 : Shape := ⟨1, ![256]⟩
abbrev S256x1 : Shape := ⟨2, ![256, 1]⟩
abbrev S1x1x1024 : Shape := ⟨3, ![1, 1, 1024]⟩
abbrev S8x1 : Shape := ⟨2, ![8, 1]⟩
abbrev S1x256 : Shape := ⟨2, ![1, 256]⟩
abbrev S1x16x16 : Shape := ⟨3, ![1, 16, 16]⟩
abbrev S16x16 : Shape := ⟨2, ![16, 16]⟩

abbrev nBuf : Space → Nat
  | .hbm => 76
  | .vmem => 44
  | .smem => 0
  | _ => 0

abbrev bufTy : (tb : Table) → Fin (tcTables nBuf tb) → BufTy
  | .hbm, ⟨0, _⟩ => ⟨S16x2304x1024, .f32⟩
  | .hbm, ⟨1, _⟩ => ⟨S24x1x6144, .f32⟩
  | .hbm, ⟨2, _⟩ => ⟨S16x2304x512, .bf16⟩
  | .hbm, ⟨3, _⟩ => ⟨S16x2304x512, .bf16⟩
  | .hbm, ⟨4, _⟩ => ⟨S16x2304x512, .bf16⟩
  | .hbm, ⟨5, _⟩ => ⟨S32x144x4096, .bf16⟩
  | .hbm, ⟨6, _⟩ => ⟨S16x2304x512, .f32⟩
  | .hbm, ⟨7, _⟩ => ⟨S512, .f32⟩
  | .hbm, ⟨8, _⟩ => ⟨S1024x7696, .f32⟩
  | .hbm, ⟨9, _⟩ => ⟨S4x512x1024, .f32⟩
  | .hbm, ⟨10, _⟩ => ⟨S512x1024, .f32⟩
  | .hbm, ⟨11, _⟩ => ⟨S1024x1024, .f32⟩
  | .hbm, ⟨12, _⟩ => ⟨S1024, .f32⟩
  | .hbm, ⟨13, _⟩ => ⟨S1024, .f32⟩
  | .hbm, ⟨14, _⟩ => ⟨S1024x32, .f32⟩
  | .hbm, ⟨15, _⟩ => ⟨S32, .f32⟩
  | .hbm, ⟨16, _⟩ => ⟨S32, .i32⟩
  | .hbm, ⟨17, _⟩ => ⟨S32, .i1⟩
  | .hbm, ⟨18, _⟩ => ⟨S32, .i1⟩
  | .hbm, ⟨19, _⟩ => ⟨S32x1024, .f32⟩
  | .hbm, ⟨20, _⟩ => ⟨S_, .i32⟩
  | .hbm, ⟨21, _⟩ => ⟨S32, .i32⟩
  | .hbm, ⟨22, _⟩ => ⟨S32, .i32⟩
  | .hbm, ⟨23, _⟩ => ⟨S32, .i32⟩
  | .hbm, ⟨24, _⟩ => ⟨S32x1, .i32⟩
  | .hbm, ⟨25, _⟩ => ⟨S32x1024, .f32⟩
  | .hbm, ⟨26, _⟩ => ⟨S32x1024, .bf16⟩
  | .hbm, ⟨27, _⟩ => ⟨S_, .i32⟩
  | .hbm, ⟨28, _⟩ => ⟨S32, .i32⟩
  | .hbm, ⟨29, _⟩ => ⟨S32, .i32⟩
  | .hbm, ⟨30, _⟩ => ⟨S32, .i32⟩
  | .hbm, ⟨31, _⟩ => ⟨S32x1, .i32⟩
  | .hbm, ⟨32, _⟩ => ⟨S32, .f32⟩
  | .hbm, ⟨33, _⟩ => ⟨S32x1, .f32⟩
  | .hbm, ⟨34, _⟩ => ⟨S1024x4096, .f32⟩
  | .hbm, ⟨35, _⟩ => ⟨S1024x4096, .bf16⟩
  | .hbm, ⟨36, _⟩ => ⟨S1x512, .f32⟩
  | .hbm, ⟨37, _⟩ => ⟨S4x512x1024, .bf16⟩
  | .hbm, ⟨38, _⟩ => ⟨S512x1024, .bf16⟩
  | .hbm, ⟨39, _⟩ => ⟨S1024x1024, .bf16⟩
  | .hbm, ⟨40, _⟩ => ⟨S1x1024, .f32⟩
  | .hbm, ⟨41, _⟩ => ⟨S1x1024, .f32⟩
  | .hbm, ⟨42, _⟩ => ⟨S256x256, .i32⟩
  | .hbm, ⟨43, _⟩ => ⟨S256x256, .i32⟩
  | .hbm, ⟨44, _⟩ => ⟨S256x256, .i1⟩
  | .hbm, ⟨45, _⟩ => ⟨S_, .f32⟩
  | .hbm, ⟨46, _⟩ => ⟨S_, .f32⟩
  | .hbm, ⟨47, _⟩ => ⟨S256x256, .f32⟩
  | .hbm, ⟨48, _⟩ => ⟨S256x256, .f32⟩
  | .hbm, ⟨49, _⟩ => ⟨S256x256, .f32⟩
  | .hbm, ⟨50, _⟩ => ⟨S256x256, .f32⟩
  | .hbm, ⟨51, _⟩ => ⟨S256x256, .bf16⟩
  | .hbm, ⟨52, _⟩ => ⟨S256x256, .i32⟩
  | .hbm, ⟨53, _⟩ => ⟨S256x256, .i32⟩
  | .hbm, ⟨54, _⟩ => ⟨S_, .i32⟩
  | .hbm, ⟨55, _⟩ => ⟨S256x256, .i32⟩
  | .hbm, ⟨56, _⟩ => ⟨S256x256, .i32⟩
  | .hbm, ⟨57, _⟩ => ⟨S_, .i32⟩
  | .hbm, ⟨58, _⟩ => ⟨S256x256, .i32⟩
  | .hbm, ⟨59, _⟩ => ⟨S256x256, .i32⟩
  | .hbm, ⟨60, _⟩ => ⟨S_, .i32⟩
  | .hbm, ⟨61, _⟩ => ⟨S256x256, .i32⟩
  | .hbm, ⟨62, _⟩ => ⟨S256x256, .i32⟩
  | .hbm, ⟨63, _⟩ => ⟨S256x256, .i32⟩
  | .hbm, ⟨64, _⟩ => ⟨S256x256, .i1⟩
  | .hbm, ⟨65, _⟩ => ⟨S_, .f32⟩
  | .hbm, ⟨66, _⟩ => ⟨S_, .f32⟩
  | .hbm, ⟨67, _⟩ => ⟨S256x256, .f32⟩
  | .hbm, ⟨68, _⟩ => ⟨S256x256, .f32⟩
  | .hbm, ⟨69, _⟩ => ⟨S256x256, .f32⟩
  | .hbm, ⟨70, _⟩ => ⟨S256x256, .f32⟩
  | .hbm, ⟨71, _⟩ => ⟨S256x256, .bf16⟩
  | .hbm, ⟨72, _⟩ => ⟨S16x2304x1024, .f32⟩
  | .hbm, ⟨73, _⟩ => ⟨S16x2304x1024, .bf16⟩
  | .hbm, ⟨74, _⟩ => ⟨S8x36864, .f32⟩
  | .hbm, ⟨75, _⟩ => ⟨S32x128, .f32⟩
  | .local _ .vmem, ⟨0, _⟩ => ⟨S1x256x1024, .f32⟩
  | .local _ .vmem, ⟨1, _⟩ => ⟨S1x256x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x256x1024, .f32⟩
  | .local _ .vmem, ⟨5, _⟩ => ⟨S1x256x1024, .f32⟩
  | .local _ .vmem, ⟨6, _⟩ => ⟨S1x1x6144, .f32⟩
  | .local _ .vmem, ⟨7, _⟩ => ⟨S1x1x6144, .f32⟩
  | .local _ .vmem, ⟨8, _⟩ => ⟨S1x1x6144, .f32⟩
  | .local _ .vmem, ⟨9, _⟩ => ⟨S1x1x6144, .f32⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S1x256x512, .bf16⟩
  | .local _ .vmem, ⟨15, _⟩ => ⟨S1x256x512, .bf16⟩
  | .local _ .vmem, ⟨16, _⟩ => ⟨S32x16x256, .bf16⟩
  | .local _ .vmem, ⟨17, _⟩ => ⟨S32x16x256, .bf16⟩
  | .local _ .vmem, ⟨18, _⟩ => ⟨S1x256x512, .f32⟩
  | .local _ .vmem, ⟨19, _⟩ => ⟨S1x256x512, .f32⟩
  | .local _ .vmem, ⟨20, _⟩ => ⟨S1x512, .f32⟩
  | .local _ .vmem, ⟨21, _⟩ => ⟨S1024x4096, .bf16⟩
  | .local _ .vmem, ⟨22, _⟩ => ⟨S4x512x1024, .bf16⟩
  | .local _ .vmem, ⟨23, _⟩ => ⟨S512x1024, .bf16⟩
  | .local _ .vmem, ⟨24, _⟩ => ⟨S1024x1024, .bf16⟩
  | .local _ .vmem, ⟨25, _⟩ => ⟨S1x1024, .f32⟩
  | .local _ .vmem, ⟨26, _⟩ => ⟨S1x1024, .f32⟩
  | .local _ .vmem, ⟨27, _⟩ => ⟨S32x1024, .bf16⟩
  | .local _ .vmem, ⟨28, _⟩ => ⟨S32x1, .f32⟩
  | .local _ .vmem, ⟨29, _⟩ => ⟨S256x256, .bf16⟩
  | .local _ .vmem, ⟨30, _⟩ => ⟨S256x256, .bf16⟩
  | .local _ .vmem, ⟨31, _⟩ => ⟨S1x256x1024, .f32⟩
  | .local _ .vmem, ⟨32, _⟩ => ⟨S1x256x1024, .f32⟩
  | .local _ .vmem, ⟨33, _⟩ => ⟨S1x256x1024, .bf16⟩
  | .local _ .vmem, ⟨34, _⟩ => ⟨S1x256x1024, .bf16⟩
  | .local _ .vmem, ⟨35, _⟩ => ⟨S8x256, .f32⟩
  | .local _ .vmem, ⟨36, _⟩ => ⟨S8x256, .f32⟩
  | .local _ .vmem, ⟨37, _⟩ => ⟨S32x128, .f32⟩
  | .local _ .vmem, ⟨38, _⟩ => ⟨S32x1, .f32⟩
  | .local _ .vmem, ⟨39, _⟩ => ⟨S256x512, .bf16⟩
  | .local _ .vmem, ⟨40, _⟩ => ⟨S256x512, .bf16⟩
  | .local _ .vmem, ⟨41, _⟩ => ⟨S256x1024, .bf16⟩
  | .local _ .vmem, ⟨42, _⟩ => ⟨S256x1024, .f32⟩
  | .local _ .vmem, ⟨43, _⟩ => ⟨S256x1024, .bf16⟩
  | _, _ => ⟨S16x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_c_0 : Ref sig .tc := ⟨.hbm, 17, rfl⟩
abbrev main_c_1 : Ref sig .tc := ⟨.hbm, 18, rfl⟩
abbrev main_v0 : Ref sig .tc := ⟨.hbm, 19, rfl⟩
abbrev main_c_2 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_c_3 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst : Ref sig .tc := ⟨.hbm, 45, rfl⟩
abbrev main_cst_4 : Ref sig .tc := ⟨.hbm, 46, rfl⟩
abbrev main_call0_v0 : Ref sig .tc := ⟨.hbm, 47, rfl⟩
abbrev main_call0_v1 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c_5 : Ref sig .tc := ⟨.hbm, 54, rfl⟩
abbrev main_v29 : Ref sig .tc := ⟨.hbm, 55, rfl⟩
abbrev main_v30 : Ref sig .tc := ⟨.hbm, 56, rfl⟩
abbrev main_c_6 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_8 : Ref sig .tc := ⟨.hbm, 65, rfl⟩
abbrev main_cst_9 : Ref sig .tc := ⟨.hbm, 66, rfl⟩
abbrev main_call1_v0 : Ref sig .tc := ⟨.hbm, 67, rfl⟩
abbrev main_call1_v1 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40_0 : Ref sig .tc := ⟨.hbm, 72, rfl⟩
abbrev main_v40_1 : Ref sig .tc := ⟨.hbm, 73, rfl⟩
abbrev main_v40_2 : Ref sig .tc := ⟨.hbm, 74, rfl⟩
abbrev main_v40_3 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg20_0 : Ref sig .tc := ⟨.vmem, 30, rfl⟩
abbrev cc0_stg21_0 : Ref sig .tc := ⟨.vmem, 31, rfl⟩
abbrev cc0_stg21_1 : Ref sig .tc := ⟨.vmem, 32, rfl⟩
abbrev cc0_stg22_0 : Ref sig .tc := ⟨.vmem, 33, rfl⟩
abbrev cc0_stg22_1 : Ref sig .tc := ⟨.vmem, 34, rfl⟩
abbrev cc0_stg23_0 : Ref sig .tc := ⟨.vmem, 35, rfl⟩
abbrev cc0_stg23_1 : Ref sig .tc := ⟨.vmem, 36, rfl⟩
abbrev cc0_stg24_0 : Ref sig .tc := ⟨.vmem, 37, rfl⟩
abbrev cc0_scratch0 : Ref sig .tc := ⟨.vmem, 38, rfl⟩
abbrev cc0_scratch1 : Ref sig .tc := ⟨.vmem, 39, rfl⟩
abbrev cc0_scratch2 : Ref sig .tc := ⟨.vmem, 40, rfl⟩
abbrev cc0_scratch3 : Ref sig .tc := ⟨.vmem, 41, rfl⟩
abbrev cc0_scratch4 : Ref sig .tc := ⟨.vmem, 42, rfl⟩
abbrev cc0_scratch5 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem19_0 : DmaSem sig := 29
abbrev cc0_sem20_0 : DmaSem sig := 30
abbrev cc0_sem21_0 : DmaSem sig := 31
abbrev cc0_sem21_1 : DmaSem sig := 32
abbrev cc0_sem22_0 : DmaSem sig := 33
abbrev cc0_sem22_1 : DmaSem sig := 34
abbrev cc0_sem23_0 : DmaSem sig := 35
abbrev cc0_sem23_1 : DmaSem sig := 36
abbrev cc0_sem24_0 : DmaSem sig := 37

abbrev nD : Nat := 1
abbrev τ : Topo := Topo.v7x

variable {F : FTy → Type} [FloatOps F]

abbrev grid0 : Pipeline.Grid := ⟨1, ![147], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c143_i32 : BitVec 32 := 143#32
  let v1 : BitVec 32 := Scalar.maxsi c0_i32_0 v0
  let v2 : BitVec 32 := Scalar.minsi c143_i32 v1
  let c9_i32 : BitVec 32 := 9#32
  let v3 : BitVec 32 := Scalar.divsi v2 c9_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c9_i32 c0_i32_3
  let v10 : BitVec 32 := Scalar.extui v9
  let c0_i32_4 : BitVec 32 := 0#32
  let v11 : BitVec 1 := Scalar.cmpi .slt c9_i32 c0_i32_4
  let v12 : BitVec 32 := Scalar.extui v11
  let v13 : BitVec 32 := Scalar.subi v10 v12
  let v14 : BitVec 1 := Scalar.cmpi .ne v8 v13
  let v15 : BitVec 32 := Scalar.remsi v2 c9_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c9_i32_6 : BitVec 32 := 9#32
  let c0_i32_7 : BitVec 32 := 0#32
  let v20 : BitVec 1 := Scalar.cmpi .eq c9_i32_6 c0_i32_7
  let c1_i32_8 : BitVec 32 := 1#32
  let v21 : BitVec 32 := Scalar.select v20 c1_i32_8 c9_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![v19.toNat, v29.toNat, c0_i32_12.toNat]

def cc0_transform_1 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c143_i32 : BitVec 32 := 143#32
  let v1 : BitVec 32 := Scalar.maxsi c0_i32_0 v0
  let v2 : BitVec 32 := Scalar.minsi c143_i32 v1
  let c9_i32 : BitVec 32 := 9#32
  let v3 : BitVec 32 := Scalar.divsi v2 c9_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c9_i32 c0_i32_3
  let v10 : BitVec 32 := Scalar.extui v9
  let c0_i32_4 : BitVec 32 := 0#32
  let v11 : BitVec 1 := Scalar.cmpi .slt c9_i32 c0_i32_4
  let v12 : BitVec 32 := Scalar.extui v11
  let v13 : BitVec 32 := Scalar.subi v10 v12
  let v14 : BitVec 1 := Scalar.cmpi .ne v8 v13
  let v15 : BitVec 32 := Scalar.remsi v2 c9_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c9_i32_6 : BitVec 32 := 9#32
  let c0_i32_7 : BitVec 32 := 0#32
  let v20 : BitVec 1 := Scalar.cmpi .eq c9_i32_6 c0_i32_7
  let c1_i32_8 : BitVec 32 := 1#32
  let v21 : BitVec 32 := Scalar.select v20 c1_i32_8 c9_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let v30 : BitVec 1 := Scalar.cmpi .eq v29 c0_i32_12
  let c16_i32 : BitVec 32 := 16#32
  let v31 : BitVec 32 := Scalar.select v30 c16_i32 v19
  let c0_i32_13 : BitVec 32 := 0#32
  let c0_i32_14 : BitVec 32 := 0#32
  let c0_i32_15 : BitVec 32 := 0#32
  ![v31.toNat, c0_i32_13.toNat, c0_i32_14.toNat]

def cc0_transform_2 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let c143_i32 : BitVec 32 := 143#32
  let v1 : BitVec 32 := Scalar.maxsi c0_i32 v0
  let v2 : BitVec 32 := Scalar.minsi c143_i32 v1
  let c9_i32 : BitVec 32 := 9#32
  let v3 : BitVec 32 := Scalar.divsi v2 c9_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c9_i32 c0_i32_2
  let v10 : BitVec 32 := Scalar.extui v9
  let c0_i32_3 : BitVec 32 := 0#32
  let v11 : BitVec 1 := Scalar.cmpi .slt c9_i32 c0_i32_3
  let v12 : BitVec 32 := Scalar.extui v11
  let v13 : BitVec 32 := Scalar.subi v10 v12
  let v14 : BitVec 1 := Scalar.cmpi .ne v8 v13
  let v15 : BitVec 32 := Scalar.remsi v2 c9_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c9_i32_6 : BitVec 32 := 9#32
  let c0_i32_7 : BitVec 32 := 0#32
  let v20 : BitVec 1 := Scalar.cmpi .eq c9_i32_6 c0_i32_7
  let c1_i32_8 : BitVec 32 := 1#32
  let v21 : BitVec 32 := Scalar.select v20 c1_i32_8 c9_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![v19.toNat, v29.toNat, c0_i32_12.toNat]

def cc0_transform_3 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let c143_i32 : BitVec 32 := 143#32
  let v1 : BitVec 32 := Scalar.maxsi c0_i32 v0
  let v2 : BitVec 32 := Scalar.minsi c143_i32 v1
  let c9_i32 : BitVec 32 := 9#32
  let v3 : BitVec 32 := Scalar.divsi v2 c9_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c9_i32 c0_i32_2
  let v10 : BitVec 32 := Scalar.extui v9
  let c0_i32_3 : BitVec 32 := 0#32
  let v11 : BitVec 1 := Scalar.cmpi .slt c9_i32 c0_i32_3
  let v12 : BitVec 32 := Scalar.extui v11
  let v13 : BitVec 32 := Scalar.subi v10 v12
  let v14 : BitVec 1 := Scalar.cmpi .ne v8 v13
  let v15 : BitVec 32 := Scalar.remsi v2 c9_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c9_i32_6 : BitVec 32 := 9#32
  let c0_i32_7 : BitVec 32 := 0#32
  let v20 : BitVec 1 := Scalar.cmpi .eq c9_i32_6 c0_i32_7
  let c1_i32_8 : BitVec 32 := 1#32
  let v21 : BitVec 32 := Scalar.select v20 c1_i32_8 c9_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let v30 : BitVec 1 := Scalar.cmpi .eq v29 c0_i32_12
  let c16_i32 : BitVec 32 := 16#32
  let v31 : BitVec 32 := Scalar.select v30 c16_i32 v19
  let c0_i32_13 : BitVec 32 := 0#32
  let c0_i32_14 : BitVec 32 := 0#32
  let c0_i32_15 : BitVec 32 := 0#32
  ![v31.toNat, c0_i32_13.toNat, c0_i32_14.toNat]

def cc0_transform_4 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c143_i32 : BitVec 32 := 143#32
  let v1 : BitVec 32 := Scalar.maxsi c0_i32 v0
  let v2 : BitVec 32 := Scalar.minsi c143_i32 v1
  let c9_i32 : BitVec 32 := 9#32
  let v3 : BitVec 32 := Scalar.divsi v2 c9_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c9_i32 c0_i32_2
  let v10 : BitVec 32 := Scalar.extui v9
  let c0_i32_3 : BitVec 32 := 0#32
  let v11 : BitVec 1 := Scalar.cmpi .slt c9_i32 c0_i32_3
  let v12 : BitVec 32 := Scalar.extui v11
  let v13 : BitVec 32 := Scalar.subi v10 v12
  let v14 : BitVec 1 := Scalar.cmpi .ne v8 v13
  let v15 : BitVec 32 := Scalar.remsi v2 c9_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c9_i32_5 : BitVec 32 := 9#32
  let c0_i32_6 : BitVec 32 := 0#32
  let v20 : BitVec 1 := Scalar.cmpi .eq c9_i32_5 c0_i32_6
  let c1_i32_7 : BitVec 32 := 1#32
  let v21 : BitVec 32 := Scalar.select v20 c1_i32_7 c9_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let v30 : BitVec 1 := Scalar.cmpi .eq v29 c0_i32_11
  let c16_i32 : BitVec 32 := 16#32
  let v31 : BitVec 32 := Scalar.select v30 c16_i32 v19
  let c0_i32_12 : BitVec 32 := 0#32
  let c0_i32_13 : BitVec 32 := 0#32
  let c0_i32_14 : BitVec 32 := 0#32
  ![v31.toNat, c0_i32_12.toNat, c0_i32_13.toNat]

def cc0_transform_5 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let c143_i32 : BitVec 32 := 143#32
  let v1 : BitVec 32 := Scalar.maxsi c0_i32 v0
  let v2 : BitVec 32 := Scalar.minsi c143_i32 v1
  let c9_i32 : BitVec 32 := 9#32
  let v3 : BitVec 32 := Scalar.divsi v2 c9_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c9_i32 c0_i32_2
  let v10 : BitVec 32 := Scalar.extui v9
  let c0_i32_3 : BitVec 32 := 0#32
  let v11 : BitVec 1 := Scalar.cmpi .slt c9_i32 c0_i32_3
  let v12 : BitVec 32 := Scalar.extui v11
  let v13 : BitVec 32 := Scalar.subi v10 v12
  let v14 : BitVec 1 := Scalar.cmpi .ne v8 v13
  let v15 : BitVec 32 := Scalar.remsi v2 c9_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c9_i32_6 : BitVec 32 := 9#32
  let c0_i32_7 : BitVec 32 := 0#32
  let v20 : BitVec 1 := Scalar.cmpi .eq c9_i32_6 c0_i32_7
  let c1_i32_8 : BitVec 32 := 1#32
  let v21 : BitVec 32 := Scalar.select v20 c1_i32_8 c9_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![v19.toNat, v29.toNat, c0_i32_12.toNat]

def cc0_transform_6 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let c143_i32 : BitVec 32 := 143#32
  let v1 : BitVec 32 := Scalar.maxsi c0_i32 v0
  let v2 : BitVec 32 := Scalar.minsi c143_i32 v1
  let c9_i32 : BitVec 32 := 9#32
  let v3 : BitVec 32 := Scalar.divsi v2 c9_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c9_i32 c0_i32_2
  let v10 : BitVec 32 := Scalar.extui v9
  let c0_i32_3 : BitVec 32 := 0#32
  let v11 : BitVec 1 := Scalar.cmpi .slt c9_i32 c0_i32_3
  let v12 : BitVec 32 := Scalar.extui v11
  let v13 : BitVec 32 := Scalar.subi v10 v12
  let v14 : BitVec 1 := Scalar.cmpi .ne v8 v13
  let v15 : BitVec 32 := Scalar.remsi v2 c9_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c9_i32_6 : BitVec 32 := 9#32
  let c0_i32_7 : BitVec 32 := 0#32
  let v20 : BitVec 1 := Scalar.cmpi .eq c9_i32_6 c0_i32_7
  let c1_i32_8 : BitVec 32 := 1#32
  let v21 : BitVec 32 := Scalar.select v20 c1_i32_8 c9_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![v19.toNat, v29.toNat, c0_i32_12.toNat]

def cc0_transform_7 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let c143_i32 : BitVec 32 := 143#32
  let v1 : BitVec 32 := Scalar.maxsi c0_i32 v0
  let v2 : BitVec 32 := Scalar.minsi c143_i32 v1
  let c9_i32 : BitVec 32 := 9#32
  let v3 : BitVec 32 := Scalar.divsi v2 c9_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c9_i32 c0_i32_2
  let v10 : BitVec 32 := Scalar.extui v9
  let c0_i32_3 : BitVec 32 := 0#32
  let v11 : BitVec 1 := Scalar.cmpi .slt c9_i32 c0_i32_3
  let v12 : BitVec 32 := Scalar.extui v11
  let v13 : BitVec 32 := Scalar.subi v10 v12
  let v14 : BitVec 1 := Scalar.cmpi .ne v8 v13
  let v15 : BitVec 32 := Scalar.remsi v2 c9_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c9_i32_6 : BitVec 32 := 9#32
  let c0_i32_7 : BitVec 32 := 0#32
  let v20 : BitVec 1 := Scalar.cmpi .eq c9_i32_6 c0_i32_7
  let c1_i32_8 : BitVec 32 := 1#32
  let v21 : BitVec 32 := Scalar.select v20 c1_i32_8 c9_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![v19.toNat, v29.toNat, c0_i32_12.toNat]

def cc0_transform_8 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c143_i32 : BitVec 32 := 143#32
  let v1 : BitVec 32 := Scalar.maxsi c0_i32_0 v0
  let v2 : BitVec 32 := Scalar.minsi c143_i32 v1
  let c9_i32 : BitVec 32 := 9#32
  let v3 : BitVec 32 := Scalar.divsi v2 c9_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c9_i32 c0_i32_3
  let v10 : BitVec 32 := Scalar.extui v9
  let c0_i32_4 : BitVec 32 := 0#32
  let v11 : BitVec 1 := Scalar.cmpi .slt c9_i32 c0_i32_4
  let v12 : BitVec 32 := Scalar.extui v11
  let v13 : BitVec 32 := Scalar.subi v10 v12
  let v14 : BitVec 1 := Scalar.cmpi .ne v8 v13
  let v15 : BitVec 32 := Scalar.remsi v2 c9_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c9_i32_6 : BitVec 32 := 9#32
  let c0_i32_7 : BitVec 32 := 0#32
  let v20 : BitVec 1 := Scalar.cmpi .eq c9_i32_6 c0_i32_7
  let c1_i32_8 : BitVec 32 := 1#32
  let v21 : BitVec 32 := Scalar.select v20 c1_i32_8 c9_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![c0_i32_12.toNat, v29.toNat, v19.toNat]

def cc0_transform_9 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c143_i32 : BitVec 32 := 143#32
  let v1 : BitVec 32 := Scalar.maxsi c0_i32_0 v0
  let v2 : BitVec 32 := Scalar.minsi c143_i32 v1
  let c9_i32 : BitVec 32 := 9#32
  let v3 : BitVec 32 := Scalar.divsi v2 c9_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c9_i32 c0_i32_3
  let v10 : BitVec 32 := Scalar.extui v9
  let c0_i32_4 : BitVec 32 := 0#32
  let v11 : BitVec 1 := Scalar.cmpi .slt c9_i32 c0_i32_4
  let v12 : BitVec 32 := Scalar.extui v11
  let v13 : BitVec 32 := Scalar.subi v10 v12
  let v14 : BitVec 1 := Scalar.cmpi .ne v8 v13
  let v15 : BitVec 32 := Scalar.remsi v2 c9_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c9_i32_6 : BitVec 32 := 9#32
  let c0_i32_7 : BitVec 32 := 0#32
  let v20 : BitVec 1 := Scalar.cmpi .eq c9_i32_6 c0_i32_7
  let c1_i32_8 : BitVec 32 := 1#32
  let v21 : BitVec 32 := Scalar.select v20 c1_i32_8 c9_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![v19.toNat, v29.toNat, c0_i32_12.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c143_i32 : BitVec 32 := 143#32
  let v1 : BitVec 32 := Scalar.maxsi c0_i32 v0
  let v2 : BitVec 32 := Scalar.minsi c143_i32 v1
  let c9_i32 : BitVec 32 := 9#32
  let v3 : BitVec 32 := Scalar.divsi v2 c9_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c9_i32 c0_i32_2
  let v10 : BitVec 32 := Scalar.extui v9
  let c0_i32_3 : BitVec 32 := 0#32
  let v11 : BitVec 1 := Scalar.cmpi .slt c9_i32 c0_i32_3
  let v12 : BitVec 32 := Scalar.extui v11
  let v13 : BitVec 32 := Scalar.subi v10 v12
  let v14 : BitVec 1 := Scalar.cmpi .ne v8 v13
  let v15 : BitVec 32 := Scalar.remsi v2 c9_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c9_i32_5 : BitVec 32 := 9#32
  let c0_i32_6 : BitVec 32 := 0#32
  let v20 : BitVec 1 := Scalar.cmpi .eq c9_i32_5 c0_i32_6
  let c1_i32_7 : BitVec 32 := 1#32
  let v21 : BitVec 32 := Scalar.select v20 c1_i32_7 c9_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let c0_i32_12 : BitVec 32 := 0#32
  ![v19.toNat, v29.toNat, c0_i32_11.toNat]

def cc0_transform_22 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c143_i32 : BitVec 32 := 143#32
  let v1 : BitVec 32 := Scalar.maxsi c0_i32 v0
  let v2 : BitVec 32 := Scalar.minsi c143_i32 v1
  let c9_i32 : BitVec 32 := 9#32
  let v3 : BitVec 32 := Scalar.divsi v2 c9_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c9_i32 c0_i32_2
  let v10 : BitVec 32 := Scalar.extui v9
  let c0_i32_3 : BitVec 32 := 0#32
  let v11 : BitVec 1 := Scalar.cmpi .slt c9_i32 c0_i32_3
  let v12 : BitVec 32 := Scalar.extui v11
  let v13 : BitVec 32 := Scalar.subi v10 v12
  let v14 : BitVec 1 := Scalar.cmpi .ne v8 v13
  let v15 : BitVec 32 := Scalar.remsi v2 c9_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c9_i32_5 : BitVec 32 := 9#32
  let c0_i32_6 : BitVec 32 := 0#32
  let v20 : BitVec 1 := Scalar.cmpi .eq c9_i32_5 c0_i32_6
  let c1_i32_7 : BitVec 32 := 1#32
  let v21 : BitVec 32 := Scalar.select v20 c1_i32_7 c9_i32_5
  let v22 : BitVec 32 := Scalar.remsi v2 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c0_i32_11 : BitVec 32 := 0#32
  let c0_i32_12 : BitVec 32 := 0#32
  ![v19.toNat, v29.toNat, c0_i32_11.toNat]

def cc0_transform_23 (i : grid0.Coords) : Fin 2 → Nat :=
  let arg0 : BitVec 32 := BitVec.ofNat 32 (i 0).val
  let c3_i32 : BitVec 32 := 3#32
  let v0 : BitVec 32 := Scalar.subi arg0 c3_i32
  let c0_i32 : BitVec 32 := 0#32
  let c143_i32 : BitVec 32 := 143#32
  let v1 : BitVec 32 := Scalar.maxsi c0_i32 v0
  let v2 : BitVec 32 := Scalar.minsi c143_i32 v1
  let c0_i32_0 : BitVec 32 := 0#32
  let c0_i32_1 : BitVec 32 := 0#32
  ![c0_i32_0.toNat, v2.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x6144 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x6144 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x16x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S32x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S32x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x256 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256x256 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S1x256x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x256x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S8x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 1 → Memref sig .tc .vmem S32x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]
-- ==== ReferenceIdeal.lean ====
abbrev S16x2304x1024 : Shape := ⟨3, ![16, 2304, 1024]⟩
abbrev S24x1x6144 : Shape := ⟨3, ![24, 1, 6144]⟩
abbrev S16x2304x512 : Shape := ⟨3, ![16, 2304, 512]⟩
abbrev S32x144x4096 : Shape := ⟨3, ![32, 144, 4096]⟩
abbrev S512 : Shape := ⟨1, ![512]⟩
abbrev S1024x7696 : Shape := ⟨2, ![1024, 7696]⟩
abbrev S4x512x1024 : Shape := ⟨3, ![4, 512, 1024]⟩
abbrev S512x1024 : Shape := ⟨2, ![512, 1024]⟩
abbrev S1024x1024 : Shape := ⟨2, ![1024, 1024]⟩
abbrev S1024 : Shape := ⟨1, ![1024]⟩
abbrev S1024x32 : Shape := ⟨2, ![1024, 32]⟩
abbrev S32 : Shape := ⟨1, ![32]⟩
abbrev S1x1x6144 : Shape := ⟨3, ![1, 1, 6144]⟩
abbrev S16x256x6144 : Shape := ⟨3, ![16, 256, 6144]⟩
abbrev S16x1x6144 : Shape := ⟨3, ![16, 1, 6144]⟩
abbrev S16x2048x6144 : Shape := ⟨3, ![16, 2048, 6144]⟩
abbrev S16x2304x6144 : Shape := ⟨3, ![16, 2304, 6144]⟩
abbrev S_ : Shape := ⟨0, ![]⟩
abbrev S16x2304 : Shape := ⟨2, ![16, 2304]⟩
abbrev S16x2304x1 : Shape := ⟨3, ![16, 2304, 1]⟩
abbrev S32x144x16x16x16 : Shape := ⟨5, ![32, 144, 16, 16, 16]⟩
abbrev S16x144x16x32x16 : Shape := ⟨5, ![16, 144, 16, 32, 16]⟩
abbrev S1x1x512 : Shape := ⟨3, ![1, 1, 512]⟩
abbrev S1024x4096 : Shape := ⟨2, ![1024, 4096]⟩
abbrev S16x2304x4096 : Shape := ⟨3, ![16, 2304, 4096]⟩
abbrev S16x2304x1x512 : Shape := ⟨4, ![16, 2304, 1, 512]⟩
abbrev S16x2304x4x512 : Shape := ⟨4, ![16, 2304, 4, 512]⟩
abbrev S16x2304x4x1024 : Shape := ⟨4, ![16, 2304, 4, 1024]⟩
abbrev S4x1024x16x2304 : Shape := ⟨4, ![4, 1024, 16, 2304]⟩
abbrev S1x1x1024 : Shape := ⟨3, ![1, 1, 1024]⟩

abbrev nBuf : Space → Nat
  | .hbm => 180
  | .vmem => 0
  | .smem => 0
  | _ => 0

abbrev hbmTy0_0 (i : Nat) : BufTy := match i % 128 with
  | 0 => ⟨S16x2304x1024, .f32⟩
  | 1 => ⟨S24x1x6144, .f32⟩
  | 2 => ⟨S16x2304x512, .bf16⟩
  | 3 => ⟨S16x2304x512, .bf16⟩
  | 4 => ⟨S16x2304x512, .bf16⟩
  | 5 => ⟨S32x144x4096, .bf16⟩
  | 6 => ⟨S16x2304x512, .f32⟩
  | 7 => ⟨S512, .f32⟩
  | 8 => ⟨S1024x7696, .f32⟩
  | 9 => ⟨S4x512x1024, .f32⟩
  | 10 => ⟨S512x1024, .f32⟩
  | 11 => ⟨S1024x1024, .f32⟩
  | 12 => ⟨S1024, .f32⟩
  | 13 => ⟨S1024, .f32⟩
  | 14 => ⟨S1024x32, .f32⟩
  | 15 => ⟨S32, .f32⟩
  | 16 => ⟨S1x1x6144, .f32⟩
  | 17 => ⟨S16x256x6144, .f32⟩
  | 18 => ⟨S16x1x6144, .f32⟩
  | 19 => ⟨S16x2048x6144, .f32⟩
  | 20 => ⟨S16x2304x6144, .f32⟩
  | 21 => ⟨S16x2304x1024, .f32⟩
  | 22 => ⟨S16x2304x1024, .f32⟩
  | 23 => ⟨S16x2304x1024, .f32⟩
  | 24 => ⟨S16x2304x1024, .f32⟩
  | 25 => ⟨S16x2304x1024, .f32⟩
  | 26 => ⟨S16x2304x1024, .f32⟩
  | 27 => ⟨S_, .f32⟩
  | 28 => ⟨S16x2304, .f32⟩
  | 29 => ⟨S16x2304x1, .f32⟩
  | 30 => ⟨S_, .f32⟩
  | 31 => ⟨S16x2304x1, .f32⟩
  | 32 => ⟨S16x2304x1, .f32⟩
  | 33 => ⟨S16x2304x1024, .f32⟩
  | 34 => ⟨S16x2304x1024, .f32⟩
  | 35 => ⟨S16x2304x1024, .f32⟩
  | 36 => ⟨S_, .f32⟩
  | 37 => ⟨S16x2304, .f32⟩
  | 38 => ⟨S16x2304x1, .f32⟩
  | 39 => ⟨S_, .f32⟩
  | 40 => ⟨S16x2304x1, .f32⟩
  | 41 => ⟨S16x2304x1, .f32⟩
  | 42 => ⟨S16x2304x1024, .f32⟩
  | 43 => ⟨S16x2304x1024, .f32⟩
  | 44 => ⟨S_, .f32⟩
  | 45 => ⟨S16x2304x1, .f32⟩
  | 46 => ⟨S16x2304x1, .f32⟩
  | 47 => ⟨S16x2304x1, .f32⟩
  | 48 => ⟨S16x2304x1024, .f32⟩
  | 49 => ⟨S16x2304x1024, .f32⟩
  | 50 => ⟨S_, .f32⟩
  | 51 => ⟨S16x2304x1024, .f32⟩
  | 52 => ⟨S16x2304x1024, .f32⟩
  | 53 => ⟨S16x2304x1024, .f32⟩
  | 54 => ⟨S16x2304x1024, .f32⟩
  | 55 => ⟨S32x144x4096, .f32⟩
  | 56 => ⟨S32x144x16x16x16, .f32⟩
  | 57 => ⟨S16x144x16x32x16, .f32⟩
  | 58 => ⟨S16x2304x512, .f32⟩
  | 59 => ⟨S1x1x512, .f32⟩
  | 60 => ⟨S16x2304x512, .f32⟩
  | 61 => ⟨S16x2304x512, .f32⟩
  | 62 => ⟨S16x2304x512, .f32⟩
  | 63 => ⟨S16x2304x512, .f32⟩
  | 64 => ⟨S16x2304x512, .f32⟩
  | 65 => ⟨S_, .f32⟩
  | 66 => ⟨S16x2304x512, .f32⟩
  | 67 => ⟨S16x2304x512, .f32⟩
  | 68 => ⟨S16x2304x512, .f32⟩
  | 69 => ⟨S_, .f32⟩
  | 70 => ⟨S16x2304x512, .f32⟩
  | 71 => ⟨S16x2304x512, .f32⟩
  | 72 => ⟨S16x2304x512, .f32⟩
  | 73 => ⟨S_, .f32⟩
  | 74 => ⟨S16x2304x512, .f32⟩
  | 75 => ⟨S16x2304x512, .f32⟩
  | 76 => ⟨S_, .f32⟩
  | 77 => ⟨S16x2304x512, .f32⟩
  | 78 => ⟨S16x2304x512, .f32⟩
  | 79 => ⟨S16x2304x512, .f32⟩
  | 80 => ⟨S16x2304x1024, .f32⟩
  | 81 => ⟨S16x2304x512, .f32⟩
  | 82 => ⟨S16x2304x512, .f32⟩
  | 83 => ⟨S16x2304x512, .f32⟩
  | 84 => ⟨S16x2304x512, .f32⟩
  | 85 => ⟨S_, .f32⟩
  | 86 => ⟨S16x2304x512, .f32⟩
  | 87 => ⟨S16x2304x512, .f32⟩
  | 88 => ⟨S_, .f32⟩
  | 89 => ⟨S16x2304x512, .f32⟩
  | 90 => ⟨S16x2304x512, .f32⟩
  | 91 => ⟨S16x2304x512, .f32⟩
  | 92 => ⟨S1024x4096, .f32⟩
  | 93 => ⟨S16x2304x4096, .f32⟩
  | 94 => ⟨S16x2304x512, .f32⟩
  | 95 => ⟨S16x2304x512, .f32⟩
  | 96 => ⟨S16x2304x512, .f32⟩
  | 97 => ⟨S16x2304x1x512, .f32⟩
  | 98 => ⟨S16x2304x1x512, .f32⟩
  | 99 => ⟨S16x2304x1x512, .f32⟩
  | 100 => ⟨S16x2304x1x512, .f32⟩
  | 101 => ⟨S16x2304x4x512, .f32⟩
  | 102 => ⟨S16x2304x4x1024, .f32⟩
  | 103 => ⟨S16x2304x4x1024, .f32⟩
  | 104 => ⟨S16x2304x4x1024, .f32⟩
  | 105 => ⟨S_, .f32⟩
  | 106 => ⟨S16x2304x4x1024, .f32⟩
  | 107 => ⟨S16x2304x4x1024, .f32⟩
  | 108 => ⟨S_, .f32⟩
  | 109 => ⟨S16x2304x4x1024, .f32⟩
  | 110 => ⟨S16x2304x4x1024, .f32⟩
  | 111 => ⟨S4x1024x16x2304, .f32⟩
  | 112 => ⟨S16x2304x4x1024, .f32⟩
  | 113 => ⟨S16x2304x4x1024, .f32⟩
  | 114 => ⟨S_, .f32⟩
  | 115 => ⟨S16x2304x1024, .f32⟩
  | 116 => ⟨S16x2304x1024, .f32⟩
  | 117 => ⟨S_, .f32⟩
  | 118 => ⟨S16x2304x1024, .f32⟩
  | 119 => ⟨S16x2304x1024, .f32⟩
  | 120 => ⟨S16x2304x1024, .f32⟩
  | 121 => ⟨S16x2304x1024, .f32⟩
  | 122 => ⟨S_, .f32⟩
  | 123 => ⟨S16x2304, .f32⟩
  | 124 => ⟨S16x2304x1, .f32⟩
  | 125 => ⟨S_, .f32⟩
  | 126 => ⟨S16x2304x1, .f32⟩
  | 127 => ⟨S16x2304x1, .f32⟩
  | _ => ⟨S16x2304x1024, .f32⟩

abbrev hbmTy0_1 (i : Nat) : BufTy := match i % 128 with
  | 0 => ⟨S16x2304x1024, .f32⟩
  | 1 => ⟨S16x2304x1024, .f32⟩
  | 2 => ⟨S16x2304x1024, .f32⟩
  | 3 => ⟨S_, .f32⟩
  | 4 => ⟨S16x2304, .f32⟩
  | 5 => ⟨S16x2304x1, .f32⟩
  | 6 => ⟨S_, .f32⟩
  | 7 => ⟨S16x2304x1, .f32⟩
  | 8 => ⟨S16x2304x1, .f32⟩
  | 9 => ⟨S16x2304x1024, .f32⟩
  | 10 => ⟨S16x2304x1024, .f32⟩
  | 11 => ⟨S_, .f32⟩
  | 12 => ⟨S16x2304x1, .f32⟩
  | 13 => ⟨S16x2304x1, .f32⟩
  | 14 => ⟨S16x2304x1, .f32⟩
  | 15 => ⟨S16x2304x1024, .f32⟩
  | 16 => ⟨S16x2304x1024, .f32⟩
  | 17 => ⟨S1x1x1024, .f32⟩
  | 18 => ⟨S16x2304x1024, .f32⟩
  | 19 => ⟨S16x2304x1024, .f32⟩
  | 20 => ⟨S1x1x1024, .f32⟩
  | 21 => ⟨S16x2304x1024, .f32⟩
  | 22 => ⟨S16x2304x1024, .f32⟩
  | 23 => ⟨S_, .f32⟩
  | 24 => ⟨S16x2304, .f32⟩
  | 25 => ⟨S16x2304x1, .f32⟩
  | 26 => ⟨S_, .f32⟩
  | 27 => ⟨S16x2304x1, .f32⟩
  | 28 => ⟨S16x2304x1, .f32⟩
  | 29 => ⟨S16x2304x1024, .f32⟩
  | 30 => ⟨S16x2304x1024, .f32⟩
  | 31 => ⟨S16x2304x1024, .f32⟩
  | 32 => ⟨S_, .f32⟩
  | 33 => ⟨S16x2304, .f32⟩
  | 34 => ⟨S16x2304x1, .f32⟩
  | 35 => ⟨S_, .f32⟩
  | 36 => ⟨S16x2304x1, .f32⟩
  | 37 => ⟨S16x2304x1, .f32⟩
  | 38 => ⟨S16x2304x1024, .f32⟩
  | 39 => ⟨S16x2304x1024, .f32⟩
  | 40 => ⟨S_, .f32⟩
  | 41 => ⟨S16x2304x1, .f32⟩
  | 42 => ⟨S16x2304x1, .f32⟩
  | 43 => ⟨S16x2304x1, .f32⟩
  | 44 => ⟨S16x2304x1024, .f32⟩
  | 45 => ⟨S16x2304x1024, .f32⟩
  | 46 => ⟨S_, .f32⟩
  | 47 => ⟨S16x2304x1024, .f32⟩
  | 48 => ⟨S16x2304x1024, .f32⟩
  | 49 => ⟨S16x2304x1024, .f32⟩
  | 50 => ⟨S16x2304x1024, .f32⟩
  | 51 => ⟨S16x2304x1024, .bf16⟩
  | _ => ⟨S16x2304x1024, .f32⟩

abbrev hbmTy (i : Nat) : BufTy := match i / 128 with
  | 0 => hbmTy0_0 i
  | 1 => hbmTy0_1 i
  | _ => ⟨S16x2304x1024, .f32⟩

abbrev bufTy : (tb : Table) → Fin (tcTables nBuf tb) → BufTy
  | .hbm, ⟨i, _⟩ => hbmTy i
  | _, _ => ⟨S16x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_cst_0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_1 : Ref sig .tc := ⟨.hbm, 36, rfl⟩
abbrev main_v18 : Ref sig .tc := ⟨.hbm, 37, rfl⟩
abbrev main_v19 : Ref sig .tc := ⟨.hbm, 38, rfl⟩
abbrev main_cst_2 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_4 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_5 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_6 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_7 : Ref sig .tc := ⟨.hbm, 73, rfl⟩
abbrev main_v49 : Ref sig .tc := ⟨.hbm, 74, rfl⟩
abbrev main_v50 : Ref sig .tc := ⟨.hbm, 75, rfl⟩
abbrev main_cst_8 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_9 : Ref sig .tc := ⟨.hbm, 85, rfl⟩
abbrev main_v59 : Ref sig .tc := ⟨.hbm, 86, rfl⟩
abbrev main_v60 : Ref sig .tc := ⟨.hbm, 87, rfl⟩
abbrev main_cst_10 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_cst_11 : Ref sig .tc := ⟨.hbm, 105, rfl⟩
abbrev main_v77 : Ref sig .tc := ⟨.hbm, 106, rfl⟩
abbrev main_v78 : Ref sig .tc := ⟨.hbm, 107, rfl⟩
abbrev main_cst_12 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_13 : Ref sig .tc := ⟨.hbm, 114, rfl⟩
abbrev main_v84 : Ref sig .tc := ⟨.hbm, 115, rfl⟩
abbrev main_v85 : Ref sig .tc := ⟨.hbm, 116, rfl⟩
abbrev main_cst_14 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_15 : Ref sig .tc := ⟨.hbm, 122, rfl⟩
abbrev main_v90 : Ref sig .tc := ⟨.hbm, 123, rfl⟩
abbrev main_v91 : Ref sig .tc := ⟨.hbm, 124, rfl⟩
abbrev main_cst_16 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_17 : Ref sig .tc := ⟨.hbm, 131, rfl⟩
abbrev main_v97 : Ref sig .tc := ⟨.hbm, 132, rfl⟩
abbrev main_v98 : Ref sig .tc := ⟨.hbm, 133, rfl⟩
abbrev main_cst_18 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_19 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_cst_20 : Ref sig .tc := ⟨.hbm, 151, rfl⟩
abbrev main_v114 : Ref sig .tc := ⟨.hbm, 152, rfl⟩
abbrev main_v115 : Ref sig .tc := ⟨.hbm, 153, rfl⟩
abbrev main_cst_21 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_cst_22 : Ref sig .tc := ⟨.hbm, 160, rfl⟩
abbrev main_v121 : Ref sig .tc := ⟨.hbm, 161, rfl⟩
abbrev main_v122 : Ref sig .tc := ⟨.hbm, 162, rfl⟩
abbrev main_cst_23 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_cst_24 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_cst_25 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩

abbrev nD : Nat := 1
abbrev τ : Topo := Topo.v7x

variable {F : FTy → Type} [FloatOps F]
-- ==== Kernel2.lean ====
abbrev S16x2304x1024 : Shape := ⟨3, ![16, 2304, 1024]⟩
abbrev S24x1x6144 : Shape := ⟨3, ![24, 1, 6144]⟩
abbrev S1024x7696 : Shape := ⟨2, ![1024, 7696]⟩
abbrev S_ : Shape := ⟨0, ![]⟩
abbrev S1024x120 : Shape := ⟨2, ![1024, 120]⟩
abbrev S1024x16 : Shape := ⟨2, ![1024, 16]⟩
abbrev S1024x512 : Shape := ⟨2, ![1024, 512]⟩
abbrev S1024x128 : Shape := ⟨2, ![1024, 128]⟩
abbrev S1024x256 : Shape := ⟨2, ![1024, 256]⟩
abbrev S1024x8 : Shape := ⟨2, ![1024, 8]⟩
abbrev S1024x3840 : Shape := ⟨2, ![1024, 3840]⟩
abbrev S1024x4096 : Shape := ⟨2, ![1024, 4096]⟩
abbrev S256x256 : Shape := ⟨2, ![256, 256]⟩
abbrev S16x2304x1536 : Shape := ⟨3, ![16, 2304, 1536]⟩
abbrev S16x2304x512 : Shape := ⟨3, ![16, 2304, 512]⟩
abbrev S16x2304x256 : Shape := ⟨3, ![16, 2304, 256]⟩
abbrev S32x144x4096 : Shape := ⟨3, ![32, 144, 4096]⟩
abbrev S1x256x1024 : Shape := ⟨3, ![1, 256, 1024]⟩
abbrev S1x1x6144 : Shape := ⟨3, ![1, 1, 6144]⟩
abbrev S1x256x1536 : Shape := ⟨3, ![1, 256, 1536]⟩
abbrev S1x256x512 : Shape := ⟨3, ![1, 256, 512]⟩
abbrev S1x256x256 : Shape := ⟨3, ![1, 256, 256]⟩
abbrev S32x16x256 : Shape := ⟨3, ![32, 16, 256]⟩
abbrev S256x512 : Shape := ⟨2, ![256, 512]⟩
abbrev S16x512 : Shape := ⟨2, ![16, 512]⟩
abbrev S16x16 : Shape := ⟨2, ![16, 16]⟩
abbrev S1x16x16 : Shape := ⟨3, ![1, 16, 16]⟩
abbrev S256x1024 : Shape := ⟨2, ![256, 1024]⟩
abbrev S256 : Shape := ⟨1, ![256]⟩
abbrev S256x1 : Shape := ⟨2, ![256, 1]⟩
abbrev S1x1x1024 : Shape := ⟨3, ![1, 1, 1024]⟩
abbrev S1x1024 : Shape := ⟨2, ![1, 1024]⟩
abbrev S1024x1536 : Shape := ⟨2, ![1024, 1536]⟩
abbrev S256x1536 : Shape := ⟨2, ![256, 1536]⟩
abbrev S1024x1024 : Shape := ⟨2, ![1024, 1024]⟩

abbrev nBuf : Space → Nat
  | .hbm => 49
  | .vmem => 19
  | .smem => 0
  | _ => 0

abbrev bufTy : (tb : Table) → Fin (tcTables nBuf tb) → BufTy
  | .hbm, ⟨0, _⟩ => ⟨S16x2304x1024, .f32⟩
  | .hbm, ⟨1, _⟩ => ⟨S24x1x6144, .f32⟩
  | .hbm, ⟨2, _⟩ => ⟨S1024x7696, .f32⟩
  | .hbm, ⟨3, _⟩ => ⟨S_, .f32⟩
  | .hbm, ⟨4, _⟩ => ⟨S1024x120, .f32⟩
  | .hbm, ⟨5, _⟩ => ⟨S1024x16, .f32⟩
  | .hbm, ⟨6, _⟩ => ⟨S1024x512, .f32⟩
  | .hbm, ⟨7, _⟩ => ⟨S1024x512, .f32⟩
  | .hbm, ⟨8, _⟩ => ⟨S1024x128, .f32⟩
  | .hbm, ⟨9, _⟩ => ⟨S1024x128, .f32⟩
  | .hbm, ⟨10, _⟩ => ⟨S1024x128, .f32⟩
  | .hbm, ⟨11, _⟩ => ⟨S1024x128, .f32⟩
  | .hbm, ⟨12, _⟩ => ⟨S1024x512, .f32⟩
  | .hbm, ⟨13, _⟩ => ⟨S1024x256, .f32⟩
  | .hbm, ⟨14, _⟩ => ⟨S1024x256, .f32⟩
  | .hbm, ⟨15, _⟩ => ⟨S1024x512, .f32⟩
  | .hbm, ⟨16, _⟩ => ⟨S1024x512, .f32⟩
  | .hbm, ⟨17, _⟩ => ⟨S1024x8, .f32⟩
  | .hbm, ⟨18, _⟩ => ⟨S1024x8, .f32⟩
  | .hbm, ⟨19, _⟩ => ⟨S1024x3840, .f32⟩
  | .hbm, ⟨20, _⟩ => ⟨S1024x3840, .bf16⟩
  | .hbm, ⟨21, _⟩ => ⟨S1024x4096, .f32⟩
  | .hbm, ⟨22, _⟩ => ⟨S1024x4096, .bf16⟩
  | .hbm, ⟨23, _⟩ => ⟨S256x256, .i32⟩
  | .hbm, ⟨24, _⟩ => ⟨S256x256, .i32⟩
  | .hbm, ⟨25, _⟩ => ⟨S_, .i32⟩
  | .hbm, ⟨26, _⟩ => ⟨S256x256, .i32⟩
  | .hbm, ⟨27, _⟩ => ⟨S256x256, .i32⟩
  | .hbm, ⟨28, _⟩ => ⟨S_, .i32⟩
  | .hbm, ⟨29, _⟩ => ⟨S256x256, .i32⟩
  | .hbm, ⟨30, _⟩ => ⟨S256x256, .i32⟩
  | .hbm, ⟨31, _⟩ => ⟨S_, .i32⟩
  | .hbm, ⟨32, _⟩ => ⟨S256x256, .i32⟩
  | .hbm, ⟨33, _⟩ => ⟨S256x256, .i32⟩
  | .hbm, ⟨34, _⟩ => ⟨S256x256, .i32⟩
  | .hbm, ⟨35, _⟩ => ⟨S256x256, .i1⟩
  | .hbm, ⟨36, _⟩ => ⟨S_, .f32⟩
  | .hbm, ⟨37, _⟩ => ⟨S_, .f32⟩
  | .hbm, ⟨38, _⟩ => ⟨S256x256, .f32⟩
  | .hbm, ⟨39, _⟩ => ⟨S256x256, .f32⟩
  | .hbm, ⟨40, _⟩ => ⟨S256x256, .f32⟩
  | .hbm, ⟨41, _⟩ => ⟨S256x256, .f32⟩
  | .hbm, ⟨42, _⟩ => ⟨S256x256, .bf16⟩
  | .hbm, ⟨43, _⟩ => ⟨S16x2304x1536, .f32⟩
  | .hbm, ⟨44, _⟩ => ⟨S16x2304x1024, .f32⟩
  | .hbm, ⟨45, _⟩ => ⟨S16x2304x512, .f32⟩
  | .hbm, ⟨46, _⟩ => ⟨S16x2304x512, .f32⟩
  | .hbm, ⟨47, _⟩ => ⟨S16x2304x256, .f32⟩
  | .hbm, ⟨48, _⟩ => ⟨S32x144x4096, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x6144, .f32⟩
  | .local _ .vmem, ⟨3, _⟩ => ⟨S1x1x6144, .f32⟩
  | .local _ .vmem, ⟨4, _⟩ => ⟨S1024x3840, .bf16⟩
  | .local _ .vmem, ⟨5, _⟩ => ⟨S256x256, .bf16⟩
  | .local _ .vmem, ⟨6, _⟩ => ⟨S1x256x1536, .f32⟩
  | .local _ .vmem, ⟨7, _⟩ => ⟨S1x256x1536, .f32⟩
  | .local _ .vmem, ⟨8, _⟩ => ⟨S1x256x1024, .f32⟩
  | .local _ .vmem, ⟨9, _⟩ => ⟨S1x256x1024, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x256, .f32⟩
  | .local _ .vmem, ⟨15, _⟩ => ⟨S1x256x256, .f32⟩
  | .local _ .vmem, ⟨16, _⟩ => ⟨S32x16x256, .bf16⟩
  | .local _ .vmem, ⟨17, _⟩ => ⟨S32x16x256, .bf16⟩
  | .local _ .vmem, ⟨18, _⟩ => ⟨S256x512, .bf16⟩
  | _, _ => ⟨S16x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_c : Ref sig .tc := ⟨.hbm, 25, rfl⟩
abbrev main_v21 : Ref sig .tc := ⟨.hbm, 26, rfl⟩
abbrev main_v22 : Ref sig .tc := ⟨.hbm, 27, rfl⟩
abbrev main_c_0 : Ref sig .tc := ⟨.hbm, 28, rfl⟩
abbrev main_v23 : Ref sig .tc := ⟨.hbm, 29, rfl⟩
abbrev main_v24 : Ref sig .tc := ⟨.hbm, 30, rfl⟩
abbrev main_c_1 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32_0 : Ref sig .tc := ⟨.hbm, 43, rfl⟩
abbrev main_v32_1 : Ref sig .tc := ⟨.hbm, 44, rfl⟩
abbrev main_v32_2 : Ref sig .tc := ⟨.hbm, 45, rfl⟩
abbrev main_v32_3 : Ref sig .tc := ⟨.hbm, 46, rfl⟩
abbrev main_v32_4 : Ref sig .tc := ⟨.hbm, 47, rfl⟩
abbrev main_v32_5 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![145], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c143_i32 : BitVec 32 := 143#32
  let v1 : BitVec 32 := Scalar.maxsi c0_i32_0 v0
  let v2 : BitVec 32 := Scalar.minsi c143_i32 v1
  let c9_i32 : BitVec 32 := 9#32
  let v3 : BitVec 32 := Scalar.divsi v2 c9_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c9_i32 c0_i32_3
  let v10 : BitVec 32 := Scalar.extui v9
  let c0_i32_4 : BitVec 32 := 0#32
  let v11 : BitVec 1 := Scalar.cmpi .slt c9_i32 c0_i32_4
  let v12 : BitVec 32 := Scalar.extui v11
  let v13 : BitVec 32 := Scalar.subi v10 v12
  let v14 : BitVec 1 := Scalar.cmpi .ne v8 v13
  let v15 : BitVec 32 := Scalar.remsi v2 c9_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c9_i32_6 : BitVec 32 := 9#32
  let c0_i32_7 : BitVec 32 := 0#32
  let v20 : BitVec 1 := Scalar.cmpi .eq c9_i32_6 c0_i32_7
  let c1_i32_8 : BitVec 32 := 1#32
  let v21 : BitVec 32 := Scalar.select v20 c1_i32_8 c9_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![v19.toNat, v29.toNat, c0_i32_12.toNat]

def cc0_transform_1 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c143_i32 : BitVec 32 := 143#32
  let v1 : BitVec 32 := Scalar.maxsi c0_i32_0 v0
  let v2 : BitVec 32 := Scalar.minsi c143_i32 v1
  let c9_i32 : BitVec 32 := 9#32
  let v3 : BitVec 32 := Scalar.divsi v2 c9_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c9_i32 c0_i32_3
  let v10 : BitVec 32 := Scalar.extui v9
  let c0_i32_4 : BitVec 32 := 0#32
  let v11 : BitVec 1 := Scalar.cmpi .slt c9_i32 c0_i32_4
  let v12 : BitVec 32 := Scalar.extui v11
  let v13 : BitVec 32 := Scalar.subi v10 v12
  let v14 : BitVec 1 := Scalar.cmpi .ne v8 v13
  let v15 : BitVec 32 := Scalar.remsi v2 c9_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c9_i32_6 : BitVec 32 := 9#32
  let c0_i32_7 : BitVec 32 := 0#32
  let v20 : BitVec 1 := Scalar.cmpi .eq c9_i32_6 c0_i32_7
  let c1_i32_8 : BitVec 32 := 1#32
  let v21 : BitVec 32 := Scalar.select v20 c1_i32_8 c9_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let v30 : BitVec 1 := Scalar.cmpi .eq v29 c0_i32_12
  let c16_i32 : BitVec 32 := 16#32
  let v31 : BitVec 32 := Scalar.select v30 c16_i32 v19
  let c0_i32_13 : BitVec 32 := 0#32
  let c0_i32_14 : BitVec 32 := 0#32
  let c0_i32_15 : BitVec 32 := 0#32
  ![v31.toNat, c0_i32_13.toNat, c0_i32_14.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c143_i32 : BitVec 32 := 143#32
  let v1 : BitVec 32 := Scalar.maxsi c0_i32_0 v0
  let v2 : BitVec 32 := Scalar.minsi c143_i32 v1
  let c9_i32 : BitVec 32 := 9#32
  let v3 : BitVec 32 := Scalar.divsi v2 c9_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c9_i32 c0_i32_3
  let v10 : BitVec 32 := Scalar.extui v9
  let c0_i32_4 : BitVec 32 := 0#32
  let v11 : BitVec 1 := Scalar.cmpi .slt c9_i32 c0_i32_4
  let v12 : BitVec 32 := Scalar.extui v11
  let v13 : BitVec 32 := Scalar.subi v10 v12
  let v14 : BitVec 1 := Scalar.cmpi .ne v8 v13
  let v15 : BitVec 32 := Scalar.remsi v2 c9_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c9_i32_6 : BitVec 32 := 9#32
  let c0_i32_7 : BitVec 32 := 0#32
  let v20 : BitVec 1 := Scalar.cmpi .eq c9_i32_6 c0_i32_7
  let c1_i32_8 : BitVec 32 := 1#32
  let v21 : BitVec 32 := Scalar.select v20 c1_i32_8 c9_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![v19.toNat, v29.toNat, c0_i32_12.toNat]

def cc0_transform_5 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c143_i32 : BitVec 32 := 143#32
  let v1 : BitVec 32 := Scalar.maxsi c0_i32_0 v0
  let v2 : BitVec 32 := Scalar.minsi c143_i32 v1
  let c9_i32 : BitVec 32 := 9#32
  let v3 : BitVec 32 := Scalar.divsi v2 c9_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c9_i32 c0_i32_3
  let v10 : BitVec 32 := Scalar.extui v9
  let c0_i32_4 : BitVec 32 := 0#32
  let v11 : BitVec 1 := Scalar.cmpi .slt c9_i32 c0_i32_4
  let v12 : BitVec 32 := Scalar.extui v11
  let v13 : BitVec 32 := Scalar.subi v10 v12
  let v14 : BitVec 1 := Scalar.cmpi .ne v8 v13
  let v15 : BitVec 32 := Scalar.remsi v2 c9_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c9_i32_6 : BitVec 32 := 9#32
  let c0_i32_7 : BitVec 32 := 0#32
  let v20 : BitVec 1 := Scalar.cmpi .eq c9_i32_6 c0_i32_7
  let c1_i32_8 : BitVec 32 := 1#32
  let v21 : BitVec 32 := Scalar.select v20 c1_i32_8 c9_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![v19.toNat, v29.toNat, c0_i32_12.toNat]

def cc0_transform_6 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c143_i32 : BitVec 32 := 143#32
  let v1 : BitVec 32 := Scalar.maxsi c0_i32_0 v0
  let v2 : BitVec 32 := Scalar.minsi c143_i32 v1
  let c9_i32 : BitVec 32 := 9#32
  let v3 : BitVec 32 := Scalar.divsi v2 c9_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c9_i32 c0_i32_3
  let v10 : BitVec 32 := Scalar.extui v9
  let c0_i32_4 : BitVec 32 := 0#32
  let v11 : BitVec 1 := Scalar.cmpi .slt c9_i32 c0_i32_4
  let v12 : BitVec 32 := Scalar.extui v11
  let v13 : BitVec 32 := Scalar.subi v10 v12
  let v14 : BitVec 1 := Scalar.cmpi .ne v8 v13
  let v15 : BitVec 32 := Scalar.remsi v2 c9_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c9_i32_6 : BitVec 32 := 9#32
  let c0_i32_7 : BitVec 32 := 0#32
  let v20 : BitVec 1 := Scalar.cmpi .eq c9_i32_6 c0_i32_7
  let c1_i32_8 : BitVec 32 := 1#32
  let v21 : BitVec 32 := Scalar.select v20 c1_i32_8 c9_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![v19.toNat, v29.toNat, c0_i32_12.toNat]

def cc0_transform_7 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c143_i32 : BitVec 32 := 143#32
  let v1 : BitVec 32 := Scalar.maxsi c0_i32_0 v0
  let v2 : BitVec 32 := Scalar.minsi c143_i32 v1
  let c9_i32 : BitVec 32 := 9#32
  let v3 : BitVec 32 := Scalar.divsi v2 c9_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c9_i32 c0_i32_3
  let v10 : BitVec 32 := Scalar.extui v9
  let c0_i32_4 : BitVec 32 := 0#32
  let v11 : BitVec 1 := Scalar.cmpi .slt c9_i32 c0_i32_4
  let v12 : BitVec 32 := Scalar.extui v11
  let v13 : BitVec 32 := Scalar.subi v10 v12
  let v14 : BitVec 1 := Scalar.cmpi .ne v8 v13
  let v15 : BitVec 32 := Scalar.remsi v2 c9_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c9_i32_6 : BitVec 32 := 9#32
  let c0_i32_7 : BitVec 32 := 0#32
  let v20 : BitVec 1 := Scalar.cmpi .eq c9_i32_6 c0_i32_7
  let c1_i32_8 : BitVec 32 := 1#32
  let v21 : BitVec 32 := Scalar.select v20 c1_i32_8 c9_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![v19.toNat, v29.toNat, c0_i32_12.toNat]

def cc0_transform_8 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c143_i32 : BitVec 32 := 143#32
  let v1 : BitVec 32 := Scalar.maxsi c0_i32_0 v0
  let v2 : BitVec 32 := Scalar.minsi c143_i32 v1
  let c9_i32 : BitVec 32 := 9#32
  let v3 : BitVec 32 := Scalar.divsi v2 c9_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c9_i32 c0_i32_3
  let v10 : BitVec 32 := Scalar.extui v9
  let c0_i32_4 : BitVec 32 := 0#32
  let v11 : BitVec 1 := Scalar.cmpi .slt c9_i32 c0_i32_4
  let v12 : BitVec 32 := Scalar.extui v11
  let v13 : BitVec 32 := Scalar.subi v10 v12
  let v14 : BitVec 1 := Scalar.cmpi .ne v8 v13
  let v15 : BitVec 32 := Scalar.remsi v2 c9_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c9_i32_6 : BitVec 32 := 9#32
  let c0_i32_7 : BitVec 32 := 0#32
  let v20 : BitVec 1 := Scalar.cmpi .eq c9_i32_6 c0_i32_7
  let c1_i32_8 : BitVec 32 := 1#32
  let v21 : BitVec 32 := Scalar.select v20 c1_i32_8 c9_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![v19.toNat, v29.toNat, c0_i32_12.toNat]

def cc0_transform_9 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let c143_i32 : BitVec 32 := 143#32
  let v1 : BitVec 32 := Scalar.maxsi c0_i32 v0
  let v2 : BitVec 32 := Scalar.minsi c143_i32 v1
  let c9_i32 : BitVec 32 := 9#32
  let v3 : BitVec 32 := Scalar.divsi v2 c9_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c9_i32 c0_i32_2
  let v10 : BitVec 32 := Scalar.extui v9
  let c0_i32_3 : BitVec 32 := 0#32
  let v11 : BitVec 1 := Scalar.cmpi .slt c9_i32 c0_i32_3
  let v12 : BitVec 32 := Scalar.extui v11
  let v13 : BitVec 32 := Scalar.subi v10 v12
  let v14 : BitVec 1 := Scalar.cmpi .ne v8 v13
  let v15 : BitVec 32 := Scalar.remsi v2 c9_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c9_i32_6 : BitVec 32 := 9#32
  let c0_i32_7 : BitVec 32 := 0#32
  let v20 : BitVec 1 := Scalar.cmpi .eq c9_i32_6 c0_i32_7
  let c1_i32_8 : BitVec 32 := 1#32
  let v21 : BitVec 32 := Scalar.select v20 c1_i32_8 c9_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![c0_i32_12.toNat, v29.toNat, v19.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3840 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x16x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S16x2304x1024 : Shape := ⟨3, ![16, 2304, 1024]⟩
abbrev S24x1x6144 : Shape := ⟨3, ![24, 1, 6144]⟩
abbrev S1024x7696 : Shape := ⟨2, ![1024, 7696]⟩
abbrev S1x1x6144 : Shape := ⟨3, ![1, 1, 6144]⟩
abbrev S16x256x6144 : Shape := ⟨3, ![16, 256, 6144]⟩
abbrev S16x1x6144 : Shape := ⟨3, ![16, 1, 6144]⟩
abbrev S16x2048x6144 : Shape := ⟨3, ![16, 2048, 6144]⟩
abbrev S16x2304x6144 : Shape := ⟨3, ![16, 2304, 6144]⟩
abbrev S_ : Shape := ⟨0, ![]⟩
abbrev S16x2304 : Shape := ⟨2, ![16, 2304]⟩
abbrev S16x2304x1 : Shape := ⟨3, ![16, 2304, 1]⟩
abbrev S16x2304x7696 : Shape := ⟨3, ![16, 2304, 7696]⟩
abbrev S16x2304x512 : Shape := ⟨3, ![16, 2304, 512]⟩
abbrev S16x2304x128 : Shape := ⟨3, ![16, 2304, 128]⟩
abbrev S16x2304x256 : Shape := ⟨3, ![16, 2304, 256]⟩
abbrev S16x2304x16 : Shape := ⟨3, ![16, 2304, 16]⟩
abbrev S16x2304x4096 : Shape := ⟨3, ![16, 2304, 4096]⟩
abbrev S16x2304x1536 : Shape := ⟨3, ![16, 2304, 1536]⟩
abbrev S16x2304x120 : Shape := ⟨3, ![16, 2304, 120]⟩
abbrev S16x2304x8 : Shape := ⟨3, ![16, 2304, 8]⟩
abbrev S16x144x16x32x16 : Shape := ⟨5, ![16, 144, 16, 32, 16]⟩
abbrev S32x144x16x16x16 : Shape := ⟨5, ![32, 144, 16, 16, 16]⟩
abbrev S32x144x4096 : Shape := ⟨3, ![32, 144, 4096]⟩

abbrev nBuf : Space → Nat
  | .hbm => 67
  | .vmem => 0
  | .smem => 0
  | _ => 0

abbrev bufTy : (tb : Table) → Fin (tcTables nBuf tb) → BufTy
  | .hbm, ⟨0, _⟩ => ⟨S16x2304x1024, .f32⟩
  | .hbm, ⟨1, _⟩ => ⟨S24x1x6144, .f32⟩
  | .hbm, ⟨2, _⟩ => ⟨S1024x7696, .f32⟩
  | .hbm, ⟨3, _⟩ => ⟨S1x1x6144, .f32⟩
  | .hbm, ⟨4, _⟩ => ⟨S16x256x6144, .f32⟩
  | .hbm, ⟨5, _⟩ => ⟨S16x1x6144, .f32⟩
  | .hbm, ⟨6, _⟩ => ⟨S16x2048x6144, .f32⟩
  | .hbm, ⟨7, _⟩ => ⟨S16x2304x6144, .f32⟩
  | .hbm, ⟨8, _⟩ => ⟨S16x2304x1024, .f32⟩
  | .hbm, ⟨9, _⟩ => ⟨S16x2304x1024, .f32⟩
  | .hbm, ⟨10, _⟩ => ⟨S16x2304x1024, .f32⟩
  | .hbm, ⟨11, _⟩ => ⟨S16x2304x1024, .f32⟩
  | .hbm, ⟨12, _⟩ => ⟨S16x2304x1024, .f32⟩
  | .hbm, ⟨13, _⟩ => ⟨S16x2304x1024, .f32⟩
  | .hbm, ⟨14, _⟩ => ⟨S_, .f32⟩
  | .hbm, ⟨15, _⟩ => ⟨S16x2304, .f32⟩
  | .hbm, ⟨16, _⟩ => ⟨S16x2304x1, .f32⟩
  | .hbm, ⟨17, _⟩ => ⟨S_, .f32⟩
  | .hbm, ⟨18, _⟩ => ⟨S16x2304x1, .f32⟩
  | .hbm, ⟨19, _⟩ => ⟨S16x2304x1, .f32⟩
  | .hbm, ⟨20, _⟩ => ⟨S16x2304x1024, .f32⟩
  | .hbm, ⟨21, _⟩ => ⟨S16x2304x1024, .f32⟩
  | .hbm, ⟨22, _⟩ => ⟨S16x2304x1024, .f32⟩
  | .hbm, ⟨23, _⟩ => ⟨S_, .f32⟩
  | .hbm, ⟨24, _⟩ => ⟨S16x2304, .f32⟩
  | .hbm, ⟨25, _⟩ => ⟨S16x2304x1, .f32⟩
  | .hbm, ⟨26, _⟩ => ⟨S_, .f32⟩
  | .hbm, ⟨27, _⟩ => ⟨S16x2304x1, .f32⟩
  | .hbm, ⟨28, _⟩ => ⟨S16x2304x1, .f32⟩
  | .hbm, ⟨29, _⟩ => ⟨S16x2304x1024, .f32⟩
  | .hbm, ⟨30, _⟩ => ⟨S16x2304x1024, .f32⟩
  | .hbm, ⟨31, _⟩ => ⟨S_, .f32⟩
  | .hbm, ⟨32, _⟩ => ⟨S16x2304x1, .f32⟩
  | .hbm, ⟨33, _⟩ => ⟨S16x2304x1, .f32⟩
  | .hbm, ⟨34, _⟩ => ⟨S16x2304x1, .f32⟩
  | .hbm, ⟨35, _⟩ => ⟨S16x2304x1024, .f32⟩
  | .hbm, ⟨36, _⟩ => ⟨S16x2304x1024, .f32⟩
  | .hbm, ⟨37, _⟩ => ⟨S_, .f32⟩
  | .hbm, ⟨38, _⟩ => ⟨S16x2304x1024, .f32⟩
  | .hbm, ⟨39, _⟩ => ⟨S16x2304x1024, .f32⟩
  | .hbm, ⟨40, _⟩ => ⟨S16x2304x1024, .f32⟩
  | .hbm, ⟨41, _⟩ => ⟨S16x2304x1024, .f32⟩
  | .hbm, ⟨42, _⟩ => ⟨S16x2304x7696, .f32⟩
  | .hbm, ⟨43, _⟩ => ⟨S16x2304x512, .f32⟩
  | .hbm, ⟨44, _⟩ => ⟨S16x2304x128, .f32⟩
  | .hbm, ⟨45, _⟩ => ⟨S16x2304x128, .f32⟩
  | .hbm, ⟨46, _⟩ => ⟨S16x2304x512, .f32⟩
  | .hbm, ⟨47, _⟩ => ⟨S16x2304x128, .f32⟩
  | .hbm, ⟨48, _⟩ => ⟨S16x2304x128, .f32⟩
  | .hbm, ⟨49, _⟩ => ⟨S16x2304x512, .f32⟩
  | .hbm, ⟨50, _⟩ => ⟨S16x2304x512, .f32⟩
  | .hbm, ⟨51, _⟩ => ⟨S16x2304x256, .f32⟩
  | .hbm, ⟨52, _⟩ => ⟨S16x2304x256, .f32⟩
  | .hbm, ⟨53, _⟩ => ⟨S16x2304x16, .f32⟩
  | .hbm, ⟨54, _⟩ => ⟨S16x2304x512, .f32⟩
  | .hbm, ⟨55, _⟩ => ⟨S16x2304x4096, .f32⟩
  | .hbm, ⟨56, _⟩ => ⟨S16x2304x1536, .f32⟩
  | .hbm, ⟨57, _⟩ => ⟨S16x2304x1024, .f32⟩
  | .hbm, ⟨58, _⟩ => ⟨S_, .f32⟩
  | .hbm, ⟨59, _⟩ => ⟨S16x2304x120, .f32⟩
  | .hbm, ⟨60, _⟩ => ⟨S16x2304x8, .f32⟩
  | .hbm, ⟨61, _⟩ => ⟨S16x2304x8, .f32⟩
  | .hbm, ⟨62, _⟩ => ⟨S16x2304x256, .f32⟩
  | .hbm, ⟨63, _⟩ => ⟨S16x144x16x32x16, .f32⟩
  | .hbm, ⟨64, _⟩ => ⟨S32x144x16x16x16, .f32⟩
  | .hbm, ⟨65, _⟩ => ⟨S32x144x4096, .f32⟩
  | .hbm, ⟨66, _⟩ => ⟨S32x144x4096, .bf16⟩
  | _, _ => ⟨S16x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_cst_5 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩

abbrev nD : Nat := 1
abbrev τ : Topo := Topo.v7x

variable {F : FTy → Type} [FloatOps F]
-- ==== Kernel3.lean ====
abbrev S16x2304x1024 : Shape := ⟨3, ![16, 2304, 1024]⟩
abbrev S24x1x6144 : Shape := ⟨3, ![24, 1, 6144]⟩
abbrev S2x16x2304x1024 : Shape := ⟨4, ![2, 16, 2304, 1024]⟩
abbrev S8x36864 : Shape := ⟨2, ![8, 36864]⟩
abbrev S1024 : Shape := ⟨1, ![1024]⟩
abbrev S1x1024 : Shape := ⟨2, ![1, 1024]⟩
abbrev S16x2048x1024 : Shape := ⟨3, ![16, 2048, 1024]⟩
abbrev S1x256x1024 : Shape := ⟨3, ![1, 256, 1024]⟩
abbrev S1x1x6144 : Shape := ⟨3, ![1, 1, 6144]⟩
abbrev S1x1x256x1024 : Shape := ⟨4, ![1, 1, 256, 1024]⟩
abbrev S8x256 : Shape := ⟨2, ![8, 256]⟩
abbrev S256x1024 : Shape := ⟨2, ![256, 1024]⟩
abbrev S256x256 : Shape := ⟨2, ![256, 256]⟩
abbrev S1x256 : Shape := ⟨2, ![1, 256]⟩
abbrev S256 : Shape := ⟨1, ![256]⟩
abbrev S256x1 : Shape := ⟨2, ![256, 1]⟩
abbrev S1x1x1024 : Shape := ⟨3, ![1, 1, 1024]⟩

abbrev nBuf : Space → Nat
  | .hbm => 9
  | .vmem => 14
  | .smem => 0
  | _ => 0

abbrev bufTy : (tb : Table) → Fin (tcTables nBuf tb) → BufTy
  | .hbm, ⟨0, _⟩ => ⟨S16x2304x1024, .f32⟩
  | .hbm, ⟨1, _⟩ => ⟨S24x1x6144, .f32⟩
  | .hbm, ⟨2, _⟩ => ⟨S2x16x2304x1024, .bf16⟩
  | .hbm, ⟨3, _⟩ => ⟨S8x36864, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S16x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1x256x1024, .bf16⟩
  | .local _ .vmem, ⟨5, _⟩ => ⟨S1x1x256x1024, .bf16⟩
  | .local _ .vmem, ⟨6, _⟩ => ⟨S1x1x256x1024, .bf16⟩
  | .local _ .vmem, ⟨7, _⟩ => ⟨S1x1x256x1024, .bf16⟩
  | .local _ .vmem, ⟨8, _⟩ => ⟨S8x256, .f32⟩
  | .local _ .vmem, ⟨9, _⟩ => ⟨S8x256, .f32⟩
  | .local _ .vmem, ⟨10, _⟩ => ⟨S1x1024, .f32⟩
  | .local _ .vmem, ⟨11, _⟩ => ⟨S1x1024, .f32⟩
  | .local _ .vmem, ⟨12, _⟩ => ⟨S1x256x1024, .f32⟩
  | .local _ .vmem, ⟨13, _⟩ => ⟨S1x256x1024, .f32⟩
  | _, _ => ⟨S16x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![c0_i32.toNat, arg0.toNat, v0.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c1_i32_0 : BitVec 32 := 1#32
  let c0_i32 : BitVec 32 := 0#32
  let c0_i32_1 : BitVec 32 := 0#32
  ![c1_i32_0.toNat, arg0.toNat, v0.toNat, c0_i32.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let v1 : BitVec 32 := Scalar.addi v0 arg1
  let c1_i32 : BitVec 32 := 1#32
  let v2 : BitVec 32 := Scalar.addi v1 c1_i32
  let c0_i32 : BitVec 32 := 0#32
  let c0_i32_0 : BitVec 32 := 0#32
  ![c0_i32.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S16x2304x1024 : Shape := ⟨3, ![16, 2304, 1024]⟩
abbrev S24x1x6144 : Shape := ⟨3, ![24, 1, 6144]⟩
abbrev S2x16x2304x1024 : Shape := ⟨4, ![2, 16, 2304, 1024]⟩
abbrev S8x36864 : Shape := ⟨2, ![8, 36864]⟩
abbrev S1024 : Shape := ⟨1, ![1024]⟩
abbrev S16x2048x1024 : Shape := ⟨3, ![16, 2048, 1024]⟩
abbrev S16x1x6144 : Shape := ⟨3, ![16, 1, 6144]⟩
abbrev S16x1x1024 : Shape := ⟨3, ![16, 1, 1024]⟩
abbrev S2x36864 : Shape := ⟨2, ![2, 36864]⟩
abbrev S2x16x2304 : Shape := ⟨3, ![2, 16, 2304]⟩
abbrev S2x16x2048 : Shape := ⟨3, ![2, 16, 2048]⟩
abbrev S2x16x2048x1 : Shape := ⟨4, ![2, 16, 2048, 1]⟩
abbrev S2x16x2048x1024 : Shape := ⟨4, ![2, 16, 2048, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S16x2304x1024, .f32⟩
  | .hbm, ⟨1, _⟩ => ⟨S24x1x6144, .f32⟩
  | .hbm, ⟨2, _⟩ => ⟨S2x16x2304x1024, .bf16⟩
  | .hbm, ⟨3, _⟩ => ⟨S8x36864, .f32⟩
  | .hbm, ⟨4, _⟩ => ⟨S1024, .f32⟩
  | .hbm, ⟨5, _⟩ => ⟨S1024, .f32⟩
  | .hbm, ⟨6, _⟩ => ⟨S16x2048x1024, .f32⟩
  | .hbm, ⟨7, _⟩ => ⟨S16x1x6144, .f32⟩
  | .hbm, ⟨8, _⟩ => ⟨S16x1x1024, .f32⟩
  | .hbm, ⟨9, _⟩ => ⟨S16x1x1024, .f32⟩
  | .hbm, ⟨10, _⟩ => ⟨S16x1x1024, .f32⟩
  | .hbm, ⟨11, _⟩ => ⟨S16x1x1024, .f32⟩
  | .hbm, ⟨12, _⟩ => ⟨S16x1x1024, .f32⟩
  | .hbm, ⟨13, _⟩ => ⟨S16x1x1024, .f32⟩
  | .hbm, ⟨14, _⟩ => ⟨S2x36864, .f32⟩
  | .hbm, ⟨15, _⟩ => ⟨S2x16x2304, .f32⟩
  | .hbm, ⟨16, _⟩ => ⟨S2x16x2048, .f32⟩
  | .hbm, ⟨17, _⟩ => ⟨S2x16x2048x1, .f32⟩
  | .hbm, ⟨18, _⟩ => ⟨S2x16x2048x1024, .bf16⟩
  | .hbm, ⟨19, _⟩ => ⟨S2x16x2048x1024, .f32⟩
  | .hbm, ⟨20, _⟩ => ⟨S2x16x2048x1024, .f32⟩
  | .hbm, ⟨21, _⟩ => ⟨S2x16x2048x1024, .f32⟩
  | .hbm, ⟨22, _⟩ => ⟨S_, .f32⟩
  | .hbm, ⟨23, _⟩ => ⟨S16x2048x1024, .f32⟩
  | .hbm, ⟨24, _⟩ => ⟨S_, .f32⟩
  | .hbm, ⟨25, _⟩ => ⟨S16x2048x1024, .f32⟩
  | .hbm, ⟨26, _⟩ => ⟨S16x2048x1024, .f32⟩
  | .hbm, ⟨27, _⟩ => ⟨S16x2048x1024, .f32⟩
  | .hbm, ⟨28, _⟩ => ⟨S16x2048x1024, .f32⟩
  | .hbm, ⟨29, _⟩ => ⟨S16x2048x1024, .f32⟩
  | .hbm, ⟨30, _⟩ => ⟨S_, .f32⟩
  | .hbm, ⟨31, _⟩ => ⟨S16x2048, .f32⟩
  | .hbm, ⟨32, _⟩ => ⟨S16x2048x1, .f32⟩
  | .hbm, ⟨33, _⟩ => ⟨S_, .f32⟩
  | .hbm, ⟨34, _⟩ => ⟨S16x2048x1, .f32⟩
  | .hbm, ⟨35, _⟩ => ⟨S16x2048x1, .f32⟩
  | .hbm, ⟨36, _⟩ => ⟨S16x2048x1024, .f32⟩
  | .hbm, ⟨37, _⟩ => ⟨S16x2048x1024, .f32⟩
  | .hbm, ⟨38, _⟩ => ⟨S16x2048x1024, .f32⟩
  | .hbm, ⟨39, _⟩ => ⟨S_, .f32⟩
  | .hbm, ⟨40, _⟩ => ⟨S16x2048, .f32⟩
  | .hbm, ⟨41, _⟩ => ⟨S16x2048x1, .f32⟩
  | .hbm, ⟨42, _⟩ => ⟨S_, .f32⟩
  | .hbm, ⟨43, _⟩ => ⟨S16x2048x1, .f32⟩
  | .hbm, ⟨44, _⟩ => ⟨S16x2048x1, .f32⟩
  | .hbm, ⟨45, _⟩ => ⟨S16x2048x1024, .f32⟩
  | .hbm, ⟨46, _⟩ => ⟨S16x2048x1024, .f32⟩
  | .hbm, ⟨47, _⟩ => ⟨S_, .f32⟩
  | .hbm, ⟨48, _⟩ => ⟨S16x2048x1, .f32⟩
  | .hbm, ⟨49, _⟩ => ⟨S16x2048x1, .f32⟩
  | .hbm, ⟨50, _⟩ => ⟨S16x2048x1, .f32⟩
  | .hbm, ⟨51, _⟩ => ⟨S16x2048x1024, .f32⟩
  | .hbm, ⟨52, _⟩ => ⟨S16x2048x1024, .f32⟩
  | .hbm, ⟨53, _⟩ => ⟨S1x1x1024, .f32⟩
  | .hbm, ⟨54, _⟩ => ⟨S16x2048x1024, .f32⟩
  | .hbm, ⟨55, _⟩ => ⟨S16x2048x1024, .f32⟩
  | .hbm, ⟨56, _⟩ => ⟨S1x1x1024, .f32⟩
  | .hbm, ⟨57, _⟩ => ⟨S16x2048x1024, .f32⟩
  | .hbm, ⟨58, _⟩ => ⟨S16x2048x1024, .f32⟩
  | _, _ => ⟨S16x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩

abbrev nD : Nat := 1
abbrev τ : Topo := Topo.v7x

variable {F : FTy → Type} [FloatOps F]
-- ==== Kernel4.lean ====
abbrev S16x1024 : Shape := ⟨2, ![16, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩
abbrev S24x1024 : Shape := ⟨2, ![24, 1024]⟩
abbrev S1 : Shape := ⟨1, ![1]⟩
abbrev S4x1x6144 : Shape := ⟨3, ![4, 1, 6144]⟩
abbrev S4x24x6144 : Shape := ⟨3, ![4, 24, 6144]⟩
abbrev S1x1024x1024 : Shape := ⟨3, ![1, 1024, 1024]⟩
abbrev S1x1x1024 : Shape := ⟨3, ![1, 1, 1024]⟩
abbrev S1x24x1024 : Shape := ⟨3, ![1, 24, 1024]⟩
abbrev S1024x1024 : Shape := ⟨2, ![1024, 1024]⟩
abbrev S1x1024 : Shape := ⟨2, ![1, 1024]⟩

abbrev nBuf : Space → Nat
  | .hbm => 14
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S_, .f32⟩
  | .hbm, ⟨5, _⟩ => ⟨S24x1024, .f32⟩
  | .hbm, ⟨6, _⟩ => ⟨S_, .i32⟩
  | .hbm, ⟨7, _⟩ => ⟨S1, .i32⟩
  | .hbm, ⟨8, _⟩ => ⟨S24x1024, .f32⟩
  | .hbm, ⟨9, _⟩ => ⟨S_, .i32⟩
  | .hbm, ⟨10, _⟩ => ⟨S1, .i32⟩
  | .hbm, ⟨11, _⟩ => ⟨S24x1024, .f32⟩
  | .hbm, ⟨12, _⟩ => ⟨S4x1x6144, .f32⟩
  | .hbm, ⟨13, _⟩ => ⟨S4x24x6144, .f32⟩
  | .local _ .vmem, ⟨0, _⟩ => ⟨S24x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x24x1024, .f32⟩
  | .local _ .vmem, ⟨6, _⟩ => ⟨S1x24x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x24x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S16x1024 : Shape := ⟨2, ![16, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩
abbrev S1x1024 : Shape := ⟨2, ![1, 1024]⟩
abbrev S7x1024 : Shape := ⟨2, ![7, 1024]⟩
abbrev S24x1024 : Shape := ⟨2, ![24, 1024]⟩
abbrev S4x6144x24 : Shape := ⟨3, ![4, 6144, 24]⟩
abbrev S4x24x6144 : Shape := ⟨3, ![4, 24, 6144]⟩
abbrev S4x1x6144 : Shape := ⟨3, ![4, 1, 6144]⟩

abbrev nBuf : Space → Nat
  | .hbm => 31
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S16x1024, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1x1024, .f32⟩
  | .hbm, ⟨23, _⟩ => ⟨S_, .f32⟩
  | .hbm, ⟨24, _⟩ => ⟨S7x1024, .f32⟩
  | .hbm, ⟨25, _⟩ => ⟨S24x1024, .f32⟩
  | .hbm, ⟨26, _⟩ => ⟨S4x6144x24, .f32⟩
  | .hbm, ⟨27, _⟩ => ⟨S4x24x6144, .f32⟩
  | .hbm, ⟨28, _⟩ => ⟨S4x1x6144, .f32⟩
  | .hbm, ⟨29, _⟩ => ⟨S4x24x6144, .f32⟩
  | .hbm, ⟨30, _⟩ => ⟨S4x24x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_call1_v0 : Ref sig .tc := ⟨.hbm, 13, rfl⟩
abbrev main_call1_v1 : Ref sig .tc := ⟨.hbm, 14, rfl⟩
abbrev main_call1_cst : Ref sig .tc := ⟨.hbm, 15, rfl⟩
abbrev main_call1_v2 : Ref sig .tc := ⟨.hbm, 16, rfl⟩
abbrev main_call1_v3 : Ref sig .tc := ⟨.hbm, 17, rfl⟩
abbrev main_call1_cst_0 : Ref sig .tc := ⟨.hbm, 18, rfl⟩
abbrev main_call1_v4 : Ref sig .tc := ⟨.hbm, 19, rfl⟩
abbrev main_call1_v5 : Ref sig .tc := ⟨.hbm, 20, rfl⟩
abbrev main_v1 : Ref sig .tc := ⟨.hbm, 21, rfl⟩
abbrev main_v2 : Ref sig .tc := ⟨.hbm, 22, rfl⟩
abbrev main_cst : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩

abbrev nD : Nat := 1
abbrev τ : Topo := Topo.v7x

variable {F : FTy → Type} [FloatOps F]
-- ==== Kernel5.lean ====
abbrev S16x2304x1024 : Shape := ⟨3, ![16, 2304, 1024]⟩
abbrev S24x1x6144 : Shape := ⟨3, ![24, 1, 6144]⟩
abbrev S2x16x2304x1024 : Shape := ⟨4, ![2, 16, 2304, 1024]⟩
abbrev S8x36864 : Shape := ⟨2, ![8, 36864]⟩
abbrev S1024 : Shape := ⟨1, ![1024]⟩
abbrev S1024x7696 : Shape := ⟨2, ![1024, 7696]⟩
abbrev S_ : Shape := ⟨0, ![]⟩
abbrev S1024x120 : Shape := ⟨2, ![1024, 120]⟩
abbrev S1024x16 : Shape := ⟨2, ![1024, 16]⟩
abbrev S1024x512 : Shape := ⟨2, ![1024, 512]⟩
abbrev S1024x128 : Shape := ⟨2, ![1024, 128]⟩
abbrev S1024x256 : Shape := ⟨2, ![1024, 256]⟩
abbrev S1024x8 : Shape := ⟨2, ![1024, 8]⟩
abbrev S1024x3840 : Shape := ⟨2, ![1024, 3840]⟩
abbrev S1024x4096 : Shape := ⟨2, ![1024, 4096]⟩
abbrev S1x1024 : Shape := ⟨2, ![1, 1024]⟩
abbrev S256x256 : Shape := ⟨2, ![256, 256]⟩
abbrev S16x2304x1536 : Shape := ⟨3, ![16, 2304, 1536]⟩
abbrev S16x2304x512 : Shape := ⟨3, ![16, 2304, 512]⟩
abbrev S16x2304x256 : Shape := ⟨3, ![16, 2304, 256]⟩
abbrev S32x144x4096 : Shape := ⟨3, ![32, 144, 4096]⟩
abbrev S1x256x1024 : Shape := ⟨3, ![1, 256, 1024]⟩
abbrev S1x1x6144 : Shape := ⟨3, ![1, 1, 6144]⟩
abbrev S1x1x256x1024 : Shape := ⟨4, ![1, 1, 256, 1024]⟩
abbrev S8x256 : Shape := ⟨2, ![8, 256]⟩
abbrev S1x256x1536 : Shape := ⟨3, ![1, 256, 1536]⟩
abbrev S1x256x512 : Shape := ⟨3, ![1, 256, 512]⟩
abbrev S1x256x256 : Shape := ⟨3, ![1, 256, 256]⟩
abbrev S32x16x256 : Shape := ⟨3, ![32, 16, 256]⟩
abbrev S256x512 : Shape := ⟨2, ![256, 512]⟩
abbrev S16x512 : Shape := ⟨2, ![16, 512]⟩
abbrev S16x16 : Shape := ⟨2, ![16, 16]⟩
abbrev S1x16x16 : Shape := ⟨3, ![1, 16, 16]⟩
abbrev S256x1024 : Shape := ⟨2, ![256, 1024]⟩
abbrev S1x256 : Shape := ⟨2, ![1, 256]⟩
abbrev S256 : Shape := ⟨1, ![256]⟩
abbrev S256x1 : Shape := ⟨2, ![256, 1]⟩
abbrev S1x1x1024 : Shape := ⟨3, ![1, 1, 1024]⟩
abbrev S1024x1536 : Shape := ⟨2, ![1024, 1536]⟩
abbrev S256x1536 : Shape := ⟨2, ![256, 1536]⟩
abbrev S1024x1024 : Shape := ⟨2, ![1024, 1024]⟩

abbrev nBuf : Space → Nat
  | .hbm => 57
  | .vmem => 31
  | .smem => 0
  | _ => 0

abbrev bufTy : (tb : Table) → Fin (tcTables nBuf tb) → BufTy
  | .hbm, ⟨0, _⟩ => ⟨S16x2304x1024, .f32⟩
  | .hbm, ⟨1, _⟩ => ⟨S24x1x6144, .f32⟩
  | .hbm, ⟨2, _⟩ => ⟨S2x16x2304x1024, .bf16⟩
  | .hbm, ⟨3, _⟩ => ⟨S8x36864, .f32⟩
  | .hbm, ⟨4, _⟩ => ⟨S1024, .f32⟩
  | .hbm, ⟨5, _⟩ => ⟨S1024, .f32⟩
  | .hbm, ⟨6, _⟩ => ⟨S24x1x6144, .f32⟩
  | .hbm, ⟨7, _⟩ => ⟨S1024x7696, .f32⟩
  | .hbm, ⟨8, _⟩ => ⟨S_, .f32⟩
  | .hbm, ⟨9, _⟩ => ⟨S1024x120, .f32⟩
  | .hbm, ⟨10, _⟩ => ⟨S1024x16, .f32⟩
  | .hbm, ⟨11, _⟩ => ⟨S1024x512, .f32⟩
  | .hbm, ⟨12, _⟩ => ⟨S1024x512, .f32⟩
  | .hbm, ⟨13, _⟩ => ⟨S1024x128, .f32⟩
  | .hbm, ⟨14, _⟩ => ⟨S1024x128, .f32⟩
  | .hbm, ⟨15, _⟩ => ⟨S1024x128, .f32⟩
  | .hbm, ⟨16, _⟩ => ⟨S1024x128, .f32⟩
  | .hbm, ⟨17, _⟩ => ⟨S1024x512, .f32⟩
  | .hbm, ⟨18, _⟩ => ⟨S1024x256, .f32⟩
  | .hbm, ⟨19, _⟩ => ⟨S1024x256, .f32⟩
  | .hbm, ⟨20, _⟩ => ⟨S1024x512, .f32⟩
  | .hbm, ⟨21, _⟩ => ⟨S1024x512, .f32⟩
  | .hbm, ⟨22, _⟩ => ⟨S1024x8, .f32⟩
  | .hbm, ⟨23, _⟩ => ⟨S1024x8, .f32⟩
  | .hbm, ⟨24, _⟩ => ⟨S1024x3840, .f32⟩
  | .hbm, ⟨25, _⟩ => ⟨S1024x3840, .bf16⟩
  | .hbm, ⟨26, _⟩ => ⟨S1024x4096, .f32⟩
  | .hbm, ⟨27, _⟩ => ⟨S1024x4096, .bf16⟩
  | .hbm, ⟨28, _⟩ => ⟨S1x1024, .f32⟩
  | .hbm, ⟨29, _⟩ => ⟨S1x1024, .f32⟩
  | .hbm, ⟨30, _⟩ => ⟨S256x256, .i32⟩
  | .hbm, ⟨31, _⟩ => ⟨S256x256, .i32⟩
  | .hbm, ⟨32, _⟩ => ⟨S_, .i32⟩
  | .hbm, ⟨33, _⟩ => ⟨S256x256, .i32⟩
  | .hbm, ⟨34, _⟩ => ⟨S256x256, .i32⟩
  | .hbm, ⟨35, _⟩ => ⟨S_, .i32⟩
  | .hbm, ⟨36, _⟩ => ⟨S256x256, .i32⟩
  | .hbm, ⟨37, _⟩ => ⟨S256x256, .i32⟩
  | .hbm, ⟨38, _⟩ => ⟨S_, .i32⟩
  | .hbm, ⟨39, _⟩ => ⟨S256x256, .i32⟩
  | .hbm, ⟨40, _⟩ => ⟨S256x256, .i32⟩
  | .hbm, ⟨41, _⟩ => ⟨S256x256, .i32⟩
  | .hbm, ⟨42, _⟩ => ⟨S256x256, .i1⟩
  | .hbm, ⟨43, _⟩ => ⟨S_, .f32⟩
  | .hbm, ⟨44, _⟩ => ⟨S_, .f32⟩
  | .hbm, ⟨45, _⟩ => ⟨S256x256, .f32⟩
  | .hbm, ⟨46, _⟩ => ⟨S256x256, .f32⟩
  | .hbm, ⟨47, _⟩ => ⟨S256x256, .f32⟩
  | .hbm, ⟨48, _⟩ => ⟨S256x256, .f32⟩
  | .hbm, ⟨49, _⟩ => ⟨S256x256, .bf16⟩
  | .hbm, ⟨50, _⟩ => ⟨S16x2304x1024, .f32⟩
  | .hbm, ⟨51, _⟩ => ⟨S16x2304x1536, .f32⟩
  | .hbm, ⟨52, _⟩ => ⟨S16x2304x1024, .f32⟩
  | .hbm, ⟨53, _⟩ => ⟨S16x2304x512, .f32⟩
  | .hbm, ⟨54, _⟩ => ⟨S16x2304x512, .f32⟩
  | .hbm, ⟨55, _⟩ => ⟨S16x2304x256, .f32⟩
  | .hbm, ⟨56, _⟩ => ⟨S32x144x4096, .bf16⟩
  | .local _ .vmem, ⟨0, _⟩ => ⟨S1x256x1024, .f32⟩
  | .local _ .vmem, ⟨1, _⟩ => ⟨S1x256x1024, .f32⟩
  | .local _ .vmem, ⟨2, _⟩ => ⟨S1x1x6144, .f32⟩
  | .local _ .vmem, ⟨3, _⟩ => ⟨S1x1x6144, .f32⟩
  | .local _ .vmem, ⟨4, _⟩ => ⟨S1x1x256x1024, .bf16⟩
  | .local _ .vmem, ⟨5, _⟩ => ⟨S1x1x256x1024, .bf16⟩
  | .local _ .vmem, ⟨6, _⟩ => ⟨S1x1x256x1024, .bf16⟩
  | .local _ .vmem, ⟨7, _⟩ => ⟨S1x1x256x1024, .bf16⟩
  | .local _ .vmem, ⟨8, _⟩ => ⟨S8x256, .f32⟩
  | .local _ .vmem, ⟨9, _⟩ => ⟨S8x256, .f32⟩
  | .local _ .vmem, ⟨10, _⟩ => ⟨S1x1024, .f32⟩
  | .local _ .vmem, ⟨11, _⟩ => ⟨S1x1024, .f32⟩
  | .local _ .vmem, ⟨12, _⟩ => ⟨S1x1x6144, .f32⟩
  | .local _ .vmem, ⟨13, _⟩ => ⟨S1x1x6144, .f32⟩
  | .local _ .vmem, ⟨14, _⟩ => ⟨S1024x3840, .bf16⟩
  | .local _ .vmem, ⟨15, _⟩ => ⟨S256x256, .bf16⟩
  | .local _ .vmem, ⟨16, _⟩ => ⟨S1x256x1024, .f32⟩
  | .local _ .vmem, ⟨17, _⟩ => ⟨S1x256x1024, .f32⟩
  | .local _ .vmem, ⟨18, _⟩ => ⟨S1x256x1536, .f32⟩
  | .local _ .vmem, ⟨19, _⟩ => ⟨S1x256x1536, .f32⟩
  | .local _ .vmem, ⟨20, _⟩ => ⟨S1x256x1024, .f32⟩
  | .local _ .vmem, ⟨21, _⟩ => ⟨S1x256x1024, .f32⟩
  | .local _ .vmem, ⟨22, _⟩ => ⟨S1x256x512, .f32⟩
  | .local _ .vmem, ⟨23, _⟩ => ⟨S1x256x512, .f32⟩
  | .local _ .vmem, ⟨24, _⟩ => ⟨S1x256x512, .f32⟩
  | .local _ .vmem, ⟨25, _⟩ => ⟨S1x256x512, .f32⟩
  | .local _ .vmem, ⟨26, _⟩ => ⟨S1x256x256, .f32⟩
  | .local _ .vmem, ⟨27, _⟩ => ⟨S1x256x256, .f32⟩
  | .local _ .vmem, ⟨28, _⟩ => ⟨S32x16x256, .bf16⟩
  | .local _ .vmem, ⟨29, _⟩ => ⟨S32x16x256, .bf16⟩
  | .local _ .vmem, ⟨30, _⟩ => ⟨S256x512, .bf16⟩
  | _, _ => ⟨S16x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c : Ref sig .tc := ⟨.hbm, 32, rfl⟩
abbrev main_v23 : Ref sig .tc := ⟨.hbm, 33, rfl⟩
abbrev main_v24 : Ref sig .tc := ⟨.hbm, 34, rfl⟩
abbrev main_c_0 : Ref sig .tc := ⟨.hbm, 35, rfl⟩
abbrev main_v25 : Ref sig .tc := ⟨.hbm, 36, rfl⟩
abbrev main_v26 : Ref sig .tc := ⟨.hbm, 37, rfl⟩
abbrev main_c_1 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_2 : Ref sig .tc := ⟨.hbm, 43, rfl⟩
abbrev main_cst_3 : Ref sig .tc := ⟨.hbm, 44, rfl⟩
abbrev main_call0_v0 : Ref sig .tc := ⟨.hbm, 45, rfl⟩
abbrev main_call0_v1 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34_0 : Ref sig .tc := ⟨.hbm, 50, rfl⟩
abbrev main_v34_1 : Ref sig .tc := ⟨.hbm, 51, rfl⟩
abbrev main_v34_2 : Ref sig .tc := ⟨.hbm, 52, rfl⟩
abbrev main_v34_3 : Ref sig .tc := ⟨.hbm, 53, rfl⟩
abbrev main_v34_4 : Ref sig .tc := ⟨.hbm, 54, rfl⟩
abbrev main_v34_5 : Ref sig .tc := ⟨.hbm, 55, rfl⟩
abbrev main_v34_6 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨1, ![145], ![false]⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c143_i32 : BitVec 32 := 143#32
  let v1 : BitVec 32 := Scalar.maxsi c0_i32_0 v0
  let v2 : BitVec 32 := Scalar.minsi c143_i32 v1
  let c9_i32 : BitVec 32 := 9#32
  let v3 : BitVec 32 := Scalar.divsi v2 c9_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c9_i32 c0_i32_3
  let v10 : BitVec 32 := Scalar.extui v9
  let c0_i32_4 : BitVec 32 := 0#32
  let v11 : BitVec 1 := Scalar.cmpi .slt c9_i32 c0_i32_4
  let v12 : BitVec 32 := Scalar.extui v11
  let v13 : BitVec 32 := Scalar.subi v10 v12
  let v14 : BitVec 1 := Scalar.cmpi .ne v8 v13
  let v15 : BitVec 32 := Scalar.remsi v2 c9_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c9_i32_6 : BitVec 32 := 9#32
  let c0_i32_7 : BitVec 32 := 0#32
  let v20 : BitVec 1 := Scalar.cmpi .eq c9_i32_6 c0_i32_7
  let c1_i32_8 : BitVec 32 := 1#32
  let v21 : BitVec 32 := Scalar.select v20 c1_i32_8 c9_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![v19.toNat, v29.toNat, c0_i32_12.toNat]

def cc0_transform_1 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c143_i32 : BitVec 32 := 143#32
  let v1 : BitVec 32 := Scalar.maxsi c0_i32_0 v0
  let v2 : BitVec 32 := Scalar.minsi c143_i32 v1
  let c9_i32 : BitVec 32 := 9#32
  let v3 : BitVec 32 := Scalar.divsi v2 c9_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c9_i32 c0_i32_3
  let v10 : BitVec 32 := Scalar.extui v9
  let c0_i32_4 : BitVec 32 := 0#32
  let v11 : BitVec 1 := Scalar.cmpi .slt c9_i32 c0_i32_4
  let v12 : BitVec 32 := Scalar.extui v11
  let v13 : BitVec 32 := Scalar.subi v10 v12
  let v14 : BitVec 1 := Scalar.cmpi .ne v8 v13
  let v15 : BitVec 32 := Scalar.remsi v2 c9_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c9_i32_6 : BitVec 32 := 9#32
  let c0_i32_7 : BitVec 32 := 0#32
  let v20 : BitVec 1 := Scalar.cmpi .eq c9_i32_6 c0_i32_7
  let c1_i32_8 : BitVec 32 := 1#32
  let v21 : BitVec 32 := Scalar.select v20 c1_i32_8 c9_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let v30 : BitVec 1 := Scalar.cmpi .eq v29 c0_i32_12
  let c16_i32 : BitVec 32 := 16#32
  let v31 : BitVec 32 := Scalar.select v30 c16_i32 v19
  let c0_i32_13 : BitVec 32 := 0#32
  let c0_i32_14 : BitVec 32 := 0#32
  let c0_i32_15 : BitVec 32 := 0#32
  ![v31.toNat, c0_i32_13.toNat, c0_i32_14.toNat]

def cc0_transform_2 (i : grid0.Coords) : Fin 4 → Nat :=
  let arg0 : BitVec 32 := BitVec.ofNat 32 (i 0).val
  let c0_i32 : BitVec 32 := 0#32
  let v0 : BitVec 32 := Scalar.subi arg0 c0_i32
  let c0_i32_0 : BitVec 32 := 0#32
  let c143_i32 : BitVec 32 := 143#32
  let v1 : BitVec 32 := Scalar.maxsi c0_i32_0 v0
  let v2 : BitVec 32 := Scalar.minsi c143_i32 v1
  let c9_i32 : BitVec 32 := 9#32
  let v3 : BitVec 32 := Scalar.divsi v2 c9_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c9_i32 c0_i32_3
  let v10 : BitVec 32 := Scalar.extui v9
  let c0_i32_4 : BitVec 32 := 0#32
  let v11 : BitVec 1 := Scalar.cmpi .slt c9_i32 c0_i32_4
  let v12 : BitVec 32 := Scalar.extui v11
  let v13 : BitVec 32 := Scalar.subi v10 v12
  let v14 : BitVec 1 := Scalar.cmpi .ne v8 v13
  let v15 : BitVec 32 := Scalar.remsi v2 c9_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c9_i32_6 : BitVec 32 := 9#32
  let c0_i32_7 : BitVec 32 := 0#32
  let v20 : BitVec 1 := Scalar.cmpi .eq c9_i32_6 c0_i32_7
  let c1_i32_8 : BitVec 32 := 1#32
  let v21 : BitVec 32 := Scalar.select v20 c1_i32_8 c9_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  let c0_i32_14 : BitVec 32 := 0#32
  ![c0_i32_12.toNat, v19.toNat, v29.toNat, c0_i32_13.toNat]

def cc0_transform_3 (i : grid0.Coords) : Fin 4 → Nat :=
  let arg0 : BitVec 32 := BitVec.ofNat 32 (i 0).val
  let c0_i32 : BitVec 32 := 0#32
  let v0 : BitVec 32 := Scalar.subi arg0 c0_i32
  let c0_i32_0 : BitVec 32 := 0#32
  let c143_i32 : BitVec 32 := 143#32
  let v1 : BitVec 32 := Scalar.maxsi c0_i32_0 v0
  let v2 : BitVec 32 := Scalar.minsi c143_i32 v1
  let c9_i32 : BitVec 32 := 9#32
  let v3 : BitVec 32 := Scalar.divsi v2 c9_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c9_i32 c0_i32_3
  let v10 : BitVec 32 := Scalar.extui v9
  let c0_i32_4 : BitVec 32 := 0#32
  let v11 : BitVec 1 := Scalar.cmpi .slt c9_i32 c0_i32_4
  let v12 : BitVec 32 := Scalar.extui v11
  let v13 : BitVec 32 := Scalar.subi v10 v12
  let v14 : BitVec 1 := Scalar.cmpi .ne v8 v13
  let v15 : BitVec 32 := Scalar.remsi v2 c9_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c9_i32_6 : BitVec 32 := 9#32
  let c0_i32_7 : BitVec 32 := 0#32
  let v20 : BitVec 1 := Scalar.cmpi .eq c9_i32_6 c0_i32_7
  let c1_i32_8 : BitVec 32 := 1#32
  let v21 : BitVec 32 := Scalar.select v20 c1_i32_8 c9_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c1_i32_12 : BitVec 32 := 1#32
  let c0_i32_13 : BitVec 32 := 0#32
  let c0_i32_14 : BitVec 32 := 0#32
  ![c1_i32_12.toNat, v19.toNat, v29.toNat, c0_i32_13.toNat]

def cc0_transform_4 (i : grid0.Coords) : Fin 2 → Nat :=
  let arg0 : BitVec 32 := BitVec.ofNat 32 (i 0).val
  let c0_i32 : BitVec 32 := 0#32
  let c143_i32 : BitVec 32 := 143#32
  let v0 : BitVec 32 := Scalar.maxsi c0_i32 arg0
  let v1 : BitVec 32 := Scalar.minsi c143_i32 v0
  let c0_i32_0 : BitVec 32 := 0#32
  let c0_i32_1 : BitVec 32 := 0#32
  ![c0_i32_0.toNat, v1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c143_i32 : BitVec 32 := 143#32
  let v1 : BitVec 32 := Scalar.maxsi c0_i32_0 v0
  let v2 : BitVec 32 := Scalar.minsi c143_i32 v1
  let c9_i32 : BitVec 32 := 9#32
  let v3 : BitVec 32 := Scalar.divsi v2 c9_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c9_i32 c0_i32_3
  let v10 : BitVec 32 := Scalar.extui v9
  let c0_i32_4 : BitVec 32 := 0#32
  let v11 : BitVec 1 := Scalar.cmpi .slt c9_i32 c0_i32_4
  let v12 : BitVec 32 := Scalar.extui v11
  let v13 : BitVec 32 := Scalar.subi v10 v12
  let v14 : BitVec 1 := Scalar.cmpi .ne v8 v13
  let v15 : BitVec 32 := Scalar.remsi v2 c9_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c9_i32_6 : BitVec 32 := 9#32
  let c0_i32_7 : BitVec 32 := 0#32
  let v20 : BitVec 1 := Scalar.cmpi .eq c9_i32_6 c0_i32_7
  let c1_i32_8 : BitVec 32 := 1#32
  let v21 : BitVec 32 := Scalar.select v20 c1_i32_8 c9_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let v30 : BitVec 1 := Scalar.cmpi .eq v29 c0_i32_12
  let c16_i32 : BitVec 32 := 16#32
  let v31 : BitVec 32 := Scalar.select v30 c16_i32 v19
  let c0_i32_13 : BitVec 32 := 0#32
  let c0_i32_14 : BitVec 32 := 0#32
  let c0_i32_15 : BitVec 32 := 0#32
  ![v31.toNat, c0_i32_13.toNat, c0_i32_14.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c143_i32 : BitVec 32 := 143#32
  let v1 : BitVec 32 := Scalar.maxsi c0_i32_0 v0
  let v2 : BitVec 32 := Scalar.minsi c143_i32 v1
  let c9_i32 : BitVec 32 := 9#32
  let v3 : BitVec 32 := Scalar.divsi v2 c9_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c9_i32 c0_i32_3
  let v10 : BitVec 32 := Scalar.extui v9
  let c0_i32_4 : BitVec 32 := 0#32
  let v11 : BitVec 1 := Scalar.cmpi .slt c9_i32 c0_i32_4
  let v12 : BitVec 32 := Scalar.extui v11
  let v13 : BitVec 32 := Scalar.subi v10 v12
  let v14 : BitVec 1 := Scalar.cmpi .ne v8 v13
  let v15 : BitVec 32 := Scalar.remsi v2 c9_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c9_i32_6 : BitVec 32 := 9#32
  let c0_i32_7 : BitVec 32 := 0#32
  let v20 : BitVec 1 := Scalar.cmpi .eq c9_i32_6 c0_i32_7
  let c1_i32_8 : BitVec 32 := 1#32
  let v21 : BitVec 32 := Scalar.select v20 c1_i32_8 c9_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![v19.toNat, v29.toNat, c0_i32_12.toNat]

def cc0_transform_11 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c143_i32 : BitVec 32 := 143#32
  let v1 : BitVec 32 := Scalar.maxsi c0_i32_0 v0
  let v2 : BitVec 32 := Scalar.minsi c143_i32 v1
  let c9_i32 : BitVec 32 := 9#32
  let v3 : BitVec 32 := Scalar.divsi v2 c9_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c9_i32 c0_i32_3
  let v10 : BitVec 32 := Scalar.extui v9
  let c0_i32_4 : BitVec 32 := 0#32
  let v11 : BitVec 1 := Scalar.cmpi .slt c9_i32 c0_i32_4
  let v12 : BitVec 32 := Scalar.extui v11
  let v13 : BitVec 32 := Scalar.subi v10 v12
  let v14 : BitVec 1 := Scalar.cmpi .ne v8 v13
  let v15 : BitVec 32 := Scalar.remsi v2 c9_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c9_i32_6 : BitVec 32 := 9#32
  let c0_i32_7 : BitVec 32 := 0#32
  let v20 : BitVec 1 := Scalar.cmpi .eq c9_i32_6 c0_i32_7
  let c1_i32_8 : BitVec 32 := 1#32
  let v21 : BitVec 32 := Scalar.select v20 c1_i32_8 c9_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![v19.toNat, v29.toNat, c0_i32_12.toNat]

def cc0_transform_12 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c143_i32 : BitVec 32 := 143#32
  let v1 : BitVec 32 := Scalar.maxsi c0_i32_0 v0
  let v2 : BitVec 32 := Scalar.minsi c143_i32 v1
  let c9_i32 : BitVec 32 := 9#32
  let v3 : BitVec 32 := Scalar.divsi v2 c9_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c9_i32 c0_i32_3
  let v10 : BitVec 32 := Scalar.extui v9
  let c0_i32_4 : BitVec 32 := 0#32
  let v11 : BitVec 1 := Scalar.cmpi .slt c9_i32 c0_i32_4
  let v12 : BitVec 32 := Scalar.extui v11
  let v13 : BitVec 32 := Scalar.subi v10 v12
  let v14 : BitVec 1 := Scalar.cmpi .ne v8 v13
  let v15 : BitVec 32 := Scalar.remsi v2 c9_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c9_i32_6 : BitVec 32 := 9#32
  let c0_i32_7 : BitVec 32 := 0#32
  let v20 : BitVec 1 := Scalar.cmpi .eq c9_i32_6 c0_i32_7
  let c1_i32_8 : BitVec 32 := 1#32
  let v21 : BitVec 32 := Scalar.select v20 c1_i32_8 c9_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![v19.toNat, v29.toNat, c0_i32_12.toNat]

def cc0_transform_13 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c143_i32 : BitVec 32 := 143#32
  let v1 : BitVec 32 := Scalar.maxsi c0_i32_0 v0
  let v2 : BitVec 32 := Scalar.minsi c143_i32 v1
  let c9_i32 : BitVec 32 := 9#32
  let v3 : BitVec 32 := Scalar.divsi v2 c9_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c9_i32 c0_i32_3
  let v10 : BitVec 32 := Scalar.extui v9
  let c0_i32_4 : BitVec 32 := 0#32
  let v11 : BitVec 1 := Scalar.cmpi .slt c9_i32 c0_i32_4
  let v12 : BitVec 32 := Scalar.extui v11
  let v13 : BitVec 32 := Scalar.subi v10 v12
  let v14 : BitVec 1 := Scalar.cmpi .ne v8 v13
  let v15 : BitVec 32 := Scalar.remsi v2 c9_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c9_i32_6 : BitVec 32 := 9#32
  let c0_i32_7 : BitVec 32 := 0#32
  let v20 : BitVec 1 := Scalar.cmpi .eq c9_i32_6 c0_i32_7
  let c1_i32_8 : BitVec 32 := 1#32
  let v21 : BitVec 32 := Scalar.select v20 c1_i32_8 c9_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![v19.toNat, v29.toNat, c0_i32_12.toNat]

def cc0_transform_14 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c143_i32 : BitVec 32 := 143#32
  let v1 : BitVec 32 := Scalar.maxsi c0_i32_0 v0
  let v2 : BitVec 32 := Scalar.minsi c143_i32 v1
  let c9_i32 : BitVec 32 := 9#32
  let v3 : BitVec 32 := Scalar.divsi v2 c9_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c9_i32 c0_i32_3
  let v10 : BitVec 32 := Scalar.extui v9
  let c0_i32_4 : BitVec 32 := 0#32
  let v11 : BitVec 1 := Scalar.cmpi .slt c9_i32 c0_i32_4
  let v12 : BitVec 32 := Scalar.extui v11
  let v13 : BitVec 32 := Scalar.subi v10 v12
  let v14 : BitVec 1 := Scalar.cmpi .ne v8 v13
  let v15 : BitVec 32 := Scalar.remsi v2 c9_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c9_i32_6 : BitVec 32 := 9#32
  let c0_i32_7 : BitVec 32 := 0#32
  let v20 : BitVec 1 := Scalar.cmpi .eq c9_i32_6 c0_i32_7
  let c1_i32_8 : BitVec 32 := 1#32
  let v21 : BitVec 32 := Scalar.select v20 c1_i32_8 c9_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![v19.toNat, v29.toNat, c0_i32_12.toNat]

def cc0_transform_15 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c143_i32 : BitVec 32 := 143#32
  let v1 : BitVec 32 := Scalar.maxsi c0_i32_0 v0
  let v2 : BitVec 32 := Scalar.minsi c143_i32 v1
  let c9_i32 : BitVec 32 := 9#32
  let v3 : BitVec 32 := Scalar.divsi v2 c9_i32
  let c0_i32_1 : BitVec 32 := 0#32
  let v4 : BitVec 1 := Scalar.cmpi .sgt v2 c0_i32_1
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c9_i32 c0_i32_3
  let v10 : BitVec 32 := Scalar.extui v9
  let c0_i32_4 : BitVec 32 := 0#32
  let v11 : BitVec 1 := Scalar.cmpi .slt c9_i32 c0_i32_4
  let v12 : BitVec 32 := Scalar.extui v11
  let v13 : BitVec 32 := Scalar.subi v10 v12
  let v14 : BitVec 1 := Scalar.cmpi .ne v8 v13
  let v15 : BitVec 32 := Scalar.remsi v2 c9_i32
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c9_i32_6 : BitVec 32 := 9#32
  let c0_i32_7 : BitVec 32 := 0#32
  let v20 : BitVec 1 := Scalar.cmpi .eq c9_i32_6 c0_i32_7
  let c1_i32_8 : BitVec 32 := 1#32
  let v21 : BitVec 32 := Scalar.select v20 c1_i32_8 c9_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![v19.toNat, v29.toNat, c0_i32_12.toNat]

def cc0_transform_16 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let c143_i32 : BitVec 32 := 143#32
  let v1 : BitVec 32 := Scalar.maxsi c0_i32 v0
  let v2 : BitVec 32 := Scalar.minsi c143_i32 v1
  let c9_i32 : BitVec 32 := 9#32
  let v3 : BitVec 32 := Scalar.divsi v2 c9_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c9_i32 c0_i32_2
  let v10 : BitVec 32 := Scalar.extui v9
  let c0_i32_3 : BitVec 32 := 0#32
  let v11 : BitVec 1 := Scalar.cmpi .slt c9_i32 c0_i32_3
  let v12 : BitVec 32 := Scalar.extui v11
  let v13 : BitVec 32 := Scalar.subi v10 v12
  let v14 : BitVec 1 := Scalar.cmpi .ne v8 v13
  let v15 : BitVec 32 := Scalar.remsi v2 c9_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c9_i32_6 : BitVec 32 := 9#32
  let c0_i32_7 : BitVec 32 := 0#32
  let v20 : BitVec 1 := Scalar.cmpi .eq c9_i32_6 c0_i32_7
  let c1_i32_8 : BitVec 32 := 1#32
  let v21 : BitVec 32 := Scalar.select v20 c1_i32_8 c9_i32_6
  let v22 : BitVec 32 := Scalar.remsi v2 v21
  let c0_i32_9 : BitVec 32 := 0#32
  let v23 : BitVec 1 := Scalar.cmpi .ne v22 c0_i32_9
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let v27 : BitVec 1 := Scalar.andi v26 v23
  let v28 : BitVec 32 := Scalar.addi v22 v21
  let v29 : BitVec 32 := Scalar.select v27 v28 v22
  let c0_i32_12 : BitVec 32 := 0#32
  let c0_i32_13 : BitVec 32 := 0#32
  ![c0_i32_12.toNat, v29.toNat, v19.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x6144 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x3840 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x256x1536 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S32x16x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference5Ideal.lean ====
abbrev S16x2304x1024 : Shape := ⟨3, ![16, 2304, 1024]⟩
abbrev S24x1x6144 : Shape := ⟨3, ![24, 1, 6144]⟩
abbrev S2x16x2304x1024 : Shape := ⟨4, ![2, 16, 2304, 1024]⟩
abbrev S8x36864 : Shape := ⟨2, ![8, 36864]⟩
abbrev S1024 : Shape := ⟨1, ![1024]⟩
abbrev S1024x7696 : Shape := ⟨2, ![1024, 7696]⟩
abbrev S1x1x6144 : Shape := ⟨3, ![1, 1, 6144]⟩
abbrev S16x256x6144 : Shape := ⟨3, ![16, 256, 6144]⟩
abbrev S16x1x6144 : Shape := ⟨3, ![16, 1, 6144]⟩
abbrev S16x2048x6144 : Shape := ⟨3, ![16, 2048, 6144]⟩
abbrev S16x2304x6144 : Shape := ⟨3, ![16, 2304, 6144]⟩
abbrev S2x36864 : Shape := ⟨2, ![2, 36864]⟩
abbrev S2x16x2304 : Shape := ⟨3, ![2, 16, 2304]⟩
abbrev S2x16x2304x1 : Shape := ⟨4, ![2, 16, 2304, 1]⟩
abbrev S_ : Shape := ⟨0, ![]⟩
abbrev S16x2304 : Shape := ⟨2, ![16, 2304]⟩
abbrev S16x2304x1 : Shape := ⟨3, ![16, 2304, 1]⟩
abbrev S1x1x1024 : Shape := ⟨3, ![1, 1, 1024]⟩
abbrev S16x2304x7696 : Shape := ⟨3, ![16, 2304, 7696]⟩
abbrev S16x2304x512 : Shape := ⟨3, ![16, 2304, 512]⟩
abbrev S16x2304x128 : Shape := ⟨3, ![16, 2304, 128]⟩
abbrev S16x2304x256 : Shape := ⟨3, ![16, 2304, 256]⟩
abbrev S16x2304x16 : Shape := ⟨3, ![16, 2304, 16]⟩
abbrev S16x2304x4096 : Shape := ⟨3, ![16, 2304, 4096]⟩
abbrev S16x2304x1536 : Shape := ⟨3, ![16, 2304, 1536]⟩
abbrev S16x2304x120 : Shape := ⟨3, ![16, 2304, 120]⟩
abbrev S16x2304x8 : Shape := ⟨3, ![16, 2304, 8]⟩
abbrev S16x144x16x32x16 : Shape := ⟨5, ![16, 144, 16, 32, 16]⟩
abbrev S32x144x16x16x16 : Shape := ⟨5, ![32, 144, 16, 16, 16]⟩
abbrev S32x144x4096 : Shape := ⟨3, ![32, 144, 4096]⟩

abbrev nBuf : Space → Nat
  | .hbm => 125
  | .vmem => 0
  | .smem => 0
  | _ => 0

abbrev bufTy : (tb : Table) → Fin (tcTables nBuf tb) → BufTy
  | .hbm, ⟨0, _⟩ => ⟨S16x2304x1024, .f32⟩
  | .hbm, ⟨1, _⟩ => ⟨S24x1x6144, .f32⟩
  | .hbm, ⟨2, _⟩ => ⟨S2x16x2304x1024, .bf16⟩
  | .hbm, ⟨3, _⟩ => ⟨S8x36864, .f32⟩
  | .hbm, ⟨4, _⟩ => ⟨S1024, .f32⟩
  | .hbm, ⟨5, _⟩ => ⟨S1024, .f32⟩
  | .hbm, ⟨6, _⟩ => ⟨S24x1x6144, .f32⟩
  | .hbm, ⟨7, _⟩ => ⟨S1024x7696, .f32⟩
  | .hbm, ⟨8, _⟩ => ⟨S1x1x6144, .f32⟩
  | .hbm, ⟨9, _⟩ => ⟨S16x256x6144, .f32⟩
  | .hbm, ⟨10, _⟩ => ⟨S16x1x6144, .f32⟩
  | .hbm, ⟨11, _⟩ => ⟨S16x2048x6144, .f32⟩
  | .hbm, ⟨12, _⟩ => ⟨S16x2304x6144, .f32⟩
  | .hbm, ⟨13, _⟩ => ⟨S16x2304x1024, .f32⟩
  | .hbm, ⟨14, _⟩ => ⟨S16x2304x1024, .f32⟩
  | .hbm, ⟨15, _⟩ => ⟨S16x2304x1024, .f32⟩
  | .hbm, ⟨16, _⟩ => ⟨S16x2304x1024, .f32⟩
  | .hbm, ⟨17, _⟩ => ⟨S16x2304x1024, .f32⟩
  | .hbm, ⟨18, _⟩ => ⟨S16x2304x1024, .f32⟩
  | .hbm, ⟨19, _⟩ => ⟨S2x36864, .f32⟩
  | .hbm, ⟨20, _⟩ => ⟨S2x16x2304, .f32⟩
  | .hbm, ⟨21, _⟩ => ⟨S2x16x2304x1, .f32⟩
  | .hbm, ⟨22, _⟩ => ⟨S2x16x2304x1024, .f32⟩
  | .hbm, ⟨23, _⟩ => ⟨S2x16x2304x1024, .f32⟩
  | .hbm, ⟨24, _⟩ => ⟨S2x16x2304x1024, .f32⟩
  | .hbm, ⟨25, _⟩ => ⟨S_, .f32⟩
  | .hbm, ⟨26, _⟩ => ⟨S16x2304x1024, .f32⟩
  | .hbm, ⟨27, _⟩ => ⟨S_, .f32⟩
  | .hbm, ⟨28, _⟩ => ⟨S16x2304x1024, .f32⟩
  | .hbm, ⟨29, _⟩ => ⟨S16x2304x1024, .f32⟩
  | .hbm, ⟨30, _⟩ => ⟨S16x2304x1024, .f32⟩
  | .hbm, ⟨31, _⟩ => ⟨S16x2304x1024, .f32⟩
  | .hbm, ⟨32, _⟩ => ⟨S_, .f32⟩
  | .hbm, ⟨33, _⟩ => ⟨S16x2304, .f32⟩
  | .hbm, ⟨34, _⟩ => ⟨S16x2304x1, .f32⟩
  | .hbm, ⟨35, _⟩ => ⟨S_, .f32⟩
  | .hbm, ⟨36, _⟩ => ⟨S16x2304x1, .f32⟩
  | .hbm, ⟨37, _⟩ => ⟨S16x2304x1, .f32⟩
  | .hbm, ⟨38, _⟩ => ⟨S16x2304x1024, .f32⟩
  | .hbm, ⟨39, _⟩ => ⟨S16x2304x1024, .f32⟩
  | .hbm, ⟨40, _⟩ => ⟨S16x2304x1024, .f32⟩
  | .hbm, ⟨41, _⟩ => ⟨S_, .f32⟩
  | .hbm, ⟨42, _⟩ => ⟨S16x2304, .f32⟩
  | .hbm, ⟨43, _⟩ => ⟨S16x2304x1, .f32⟩
  | .hbm, ⟨44, _⟩ => ⟨S_, .f32⟩
  | .hbm, ⟨45, _⟩ => ⟨S16x2304x1, .f32⟩
  | .hbm, ⟨46, _⟩ => ⟨S16x2304x1, .f32⟩
  | .hbm, ⟨47, _⟩ => ⟨S16x2304x1024, .f32⟩
  | .hbm, ⟨48, _⟩ => ⟨S16x2304x1024, .f32⟩
  | .hbm, ⟨49, _⟩ => ⟨S_, .f32⟩
  | .hbm, ⟨50, _⟩ => ⟨S16x2304x1, .f32⟩
  | .hbm, ⟨51, _⟩ => ⟨S16x2304x1, .f32⟩
  | .hbm, ⟨52, _⟩ => ⟨S16x2304x1, .f32⟩
  | .hbm, ⟨53, _⟩ => ⟨S16x2304x1024, .f32⟩
  | .hbm, ⟨54, _⟩ => ⟨S16x2304x1024, .f32⟩
  | .hbm, ⟨55, _⟩ => ⟨S1x1x1024, .f32⟩
  | .hbm, ⟨56, _⟩ => ⟨S16x2304x1024, .f32⟩
  | .hbm, ⟨57, _⟩ => ⟨S16x2304x1024, .f32⟩
  | .hbm, ⟨58, _⟩ => ⟨S1x1x1024, .f32⟩
  | .hbm, ⟨59, _⟩ => ⟨S16x2304x1024, .f32⟩
  | .hbm, ⟨60, _⟩ => ⟨S16x2304x1024, .f32⟩
  | .hbm, ⟨61, _⟩ => ⟨S1x1x6144, .f32⟩
  | .hbm, ⟨62, _⟩ => ⟨S16x256x6144, .f32⟩
  | .hbm, ⟨63, _⟩ => ⟨S16x1x6144, .f32⟩
  | .hbm, ⟨64, _⟩ => ⟨S16x2048x6144, .f32⟩
  | .hbm, ⟨65, _⟩ => ⟨S16x2304x6144, .f32⟩
  | .hbm, ⟨66, _⟩ => ⟨S16x2304x1024, .f32⟩
  | .hbm, ⟨67, _⟩ => ⟨S16x2304x1024, .f32⟩
  | .hbm, ⟨68, _⟩ => ⟨S16x2304x1024, .f32⟩
  | .hbm, ⟨69, _⟩ => ⟨S16x2304x1024, .f32⟩
  | .hbm, ⟨70, _⟩ => ⟨S16x2304x1024, .f32⟩
  | .hbm, ⟨71, _⟩ => ⟨S16x2304x1024, .f32⟩
  | .hbm, ⟨72, _⟩ => ⟨S_, .f32⟩
  | .hbm, ⟨73, _⟩ => ⟨S16x2304, .f32⟩
  | .hbm, ⟨74, _⟩ => ⟨S16x2304x1, .f32⟩
  | .hbm, ⟨75, _⟩ => ⟨S_, .f32⟩
  | .hbm, ⟨76, _⟩ => ⟨S16x2304x1, .f32⟩
  | .hbm, ⟨77, _⟩ => ⟨S16x2304x1, .f32⟩
  | .hbm, ⟨78, _⟩ => ⟨S16x2304x1024, .f32⟩
  | .hbm, ⟨79, _⟩ => ⟨S16x2304x1024, .f32⟩
  | .hbm, ⟨80, _⟩ => ⟨S16x2304x1024, .f32⟩
  | .hbm, ⟨81, _⟩ => ⟨S_, .f32⟩
  | .hbm, ⟨82, _⟩ => ⟨S16x2304, .f32⟩
  | .hbm, ⟨83, _⟩ => ⟨S16x2304x1, .f32⟩
  | .hbm, ⟨84, _⟩ => ⟨S_, .f32⟩
  | .hbm, ⟨85, _⟩ => ⟨S16x2304x1, .f32⟩
  | .hbm, ⟨86, _⟩ => ⟨S16x2304x1, .f32⟩
  | .hbm, ⟨87, _⟩ => ⟨S16x2304x1024, .f32⟩
  | .hbm, ⟨88, _⟩ => ⟨S16x2304x1024, .f32⟩
  | .hbm, ⟨89, _⟩ => ⟨S_, .f32⟩
  | .hbm, ⟨90, _⟩ => ⟨S16x2304x1, .f32⟩
  | .hbm, ⟨91, _⟩ => ⟨S16x2304x1, .f32⟩
  | .hbm, ⟨92, _⟩ => ⟨S16x2304x1, .f32⟩
  | .hbm, ⟨93, _⟩ => ⟨S16x2304x1024, .f32⟩
  | .hbm, ⟨94, _⟩ => ⟨S16x2304x1024, .f32⟩
  | .hbm, ⟨95, _⟩ => ⟨S_, .f32⟩
  | .hbm, ⟨96, _⟩ => ⟨S16x2304x1024, .f32⟩
  | .hbm, ⟨97, _⟩ => ⟨S16x2304x1024, .f32⟩
  | .hbm, ⟨98, _⟩ => ⟨S16x2304x1024, .f32⟩
  | .hbm, ⟨99, _⟩ => ⟨S16x2304x1024, .f32⟩
  | .hbm, ⟨100, _⟩ => ⟨S16x2304x7696, .f32⟩
  | .hbm, ⟨101, _⟩ => ⟨S16x2304x512, .f32⟩
  | .hbm, ⟨102, _⟩ => ⟨S16x2304x128, .f32⟩
  | .hbm, ⟨103, _⟩ => ⟨S16x2304x128, .f32⟩
  | .hbm, ⟨104, _⟩ => ⟨S16x2304x512, .f32⟩
  | .hbm, ⟨105, _⟩ => ⟨S16x2304x128, .f32⟩
  | .hbm, ⟨106, _⟩ => ⟨S16x2304x128, .f32⟩
  | .hbm, ⟨107, _⟩ => ⟨S16x2304x512, .f32⟩
  | .hbm, ⟨108, _⟩ => ⟨S16x2304x512, .f32⟩
  | .hbm, ⟨109, _⟩ => ⟨S16x2304x256, .f32⟩
  | .hbm, ⟨110, _⟩ => ⟨S16x2304x256, .f32⟩
  | .hbm, ⟨111, _⟩ => ⟨S16x2304x16, .f32⟩
  | .hbm, ⟨112, _⟩ => ⟨S16x2304x512, .f32⟩
  | .hbm, ⟨113, _⟩ => ⟨S16x2304x4096, .f32⟩
  | .hbm, ⟨114, _⟩ => ⟨S16x2304x1536, .f32⟩
  | .hbm, ⟨115, _⟩ => ⟨S16x2304x1024, .f32⟩
  | .hbm, ⟨116, _⟩ => ⟨S_, .f32⟩
  | .hbm, ⟨117, _⟩ => ⟨S16x2304x120, .f32⟩
  | .hbm, ⟨118, _⟩ => ⟨S16x2304x8, .f32⟩
  | .hbm, ⟨119, _⟩ => ⟨S16x2304x8, .f32⟩
  | .hbm, ⟨120, _⟩ => ⟨S16x2304x256, .f32⟩
  | .hbm, ⟨121, _⟩ => ⟨S16x144x16x32x16, .f32⟩
  | .hbm, ⟨122, _⟩ => ⟨S32x144x16x16x16, .f32⟩
  | .hbm, ⟨123, _⟩ => ⟨S32x144x4096, .f32⟩
  | .hbm, ⟨124, _⟩ => ⟨S32x144x4096, .bf16⟩
  | _, _ => ⟨S16x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_6 : Ref sig .tc := ⟨.hbm, 72, rfl⟩
abbrev main_v57 : Ref sig .tc := ⟨.hbm, 73, rfl⟩
abbrev main_v58 : Ref sig .tc := ⟨.hbm, 74, rfl⟩
abbrev main_cst_7 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_8 : Ref sig .tc := ⟨.hbm, 81, rfl⟩
abbrev main_v64 : Ref sig .tc := ⟨.hbm, 82, rfl⟩
abbrev main_v65 : Ref sig .tc := ⟨.hbm, 83, rfl⟩
abbrev main_cst_9 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_10 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_11 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_cst_12 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩

abbrev nD : Nat := 1
abbrev τ : Topo := Topo.v7x

variable {F : FTy → Type} [FloatOps F]
-- ==== Proof.Gate.lean ====
module

public import Idealize.ShloMosaic.Lib.Pointwise

@[expose] public section
noncomputable section
open Idealize.ShloMosaic

/-!
  The scalar facts over the extended reals that the merge rests on: the sigmoid written through a hyperbolic tangent
  is the sigmoid written through an exponential, and the two spellings of the GELU agree. No finiteness is assumed.
-/

namespace Merge

/-- The printed constant one half. -/
def half : EReal := Ideal.ofBits .f32 1056964608#32
/-- It denotes the real number one half. -/
theorem half_eq : half = ((1 / 2 : ℝ) : EReal) := by
  unfold half
  simp [Ideal.ofBits, Ideal.ieee, -EReal.coe_mul]
  norm_num

/-- The kernel's gate: the logistic function through a hyperbolic tangent at half the argument. -/
def gate (z : EReal) : EReal := half * Ideal.tanh (half * z) + half

/-- It is the logistic function, at every extended real: both go to 0 at minus infinity and to 1 at plus infinity. -/
theorem gate_eq (z : EReal) : gate z = Ideal.div 1 (1 + Ideal.exp (-z)) := by
  unfold gate
  rw [half_eq]
  induction z with
  | bot =>
    rw [EReal.coe_mul_bot_of_pos (by norm_num)]
    rw [Ideal.tanh_bot, EReal.neg_bot]
    show _ = Ideal.div 1 (1 + ⊤)
    rw [show (1 : EReal) + ⊤ = ⊤ from rfl, show (-1 : EReal) = ((-1 : ℝ) : EReal) from rfl, ← EReal.coe_mul, ← EReal.coe_add]
    unfold Ideal.div
    rw [if_neg (by simp), EReal.inv_top, mul_zero]
    norm_num
  | top =>
    rw [EReal.coe_mul_top_of_pos (by norm_num)]
    rw [Ideal.tanh_top, EReal.neg_top]
    show _ = Ideal.div 1 (1 + 0)
    rw [show (1 : EReal) = ((1 : ℝ) : EReal) from rfl, ← EReal.coe_mul, ← EReal.coe_add, add_zero]
    unfold Ideal.div
    rw [if_neg (by simp), ← EReal.coe_inv, ← EReal.coe_mul]
    norm_num
  | coe r =>
    have hp : (0 : ℝ) < 1 + Real.exp (-r) := by positivity
    rw [← EReal.coe_mul, Ideal.tanh_coe, ← EReal.coe_mul, ← EReal.coe_add, ← EReal.coe_neg]
    show _ = Ideal.div 1 (1 + ((Real.exp (-r) : ℝ) : EReal))
    rw [show (1 : EReal) = ((1 : ℝ) : EReal) from rfl, ← EReal.coe_add]
    unfold Ideal.div
    rw [if_neg (by exact_mod_cast hp.ne'), ← EReal.coe_inv, ← EReal.coe_mul]
    congr 1
    have h2 : Real.exp (-r) = Real.exp (-(1/2*r)) * Real.exp (-(1/2*r)) := by
      rw [← Real.exp_add]; congr 1; ring
    rw [Real.tanh_eq_sinh_div_cosh, Real.sinh_eq, Real.cosh_eq, h2]
    have h3 : Real.exp (1/2*r) * Real.exp (-(1/2*r)) = 1 := by rw [← Real.exp_add]; simp
    have hx : 0 < Real.exp (1/2*r) := Real.exp_pos _
    have hy : 0 < Real.exp (-(1/2*r)) := Real.exp_pos _
    generalize Real.exp (1/2*r) = a at *
    generalize Real.exp (-(1/2*r)) = b at *
    field_simp
    nlinarith [h3]

end Merge
-- ==== Proof.Rows.lean ====
module

public import proofs.«01_k».proof.Proof.Gate

@[expose] public section
noncomputable section
open Idealize.ShloMosaic

/-!
  The merge and the two norms around it on ONE token, over the extended reals: what a row of the kernel's tile and a
  row of the reference's batch both compute, as functions of the token's own rows and of the weights.
-/

namespace Merge

/-- The printed constant 1024, the width of a row. -/
def width : EReal := Ideal.ofBits .f32 1149239296#32
/-- The printed constant the variance is kept away from zero by. -/
def eps : EReal := Ideal.ofBits .f32 897988541#32
/-- The printed constant the residual stream is scaled by. -/
def alpha : EReal := Ideal.ofBits .f32 1071072509#32

/-- The mean of a row of 1024 elements. -/
def mean (x : Fin 1024 → EReal) : EReal := Ideal.div (∑ i, x i) width

/-- The layer norm of a row, without scale or shift. -/
def norm (x : Fin 1024 → EReal) (d : Fin 1024) : EReal :=
  (x d - mean x) * Ideal.rsqrt (Ideal.div (∑ i, (x i - mean x) * (x i - mean x)) width + eps)

/-- The layer norm of a row modulated by a scale around one and a shift. -/
def modulated (x scale shift : Fin 1024 → EReal) (d : Fin 1024) : EReal := norm x d * (1 + scale d) + shift d

/-- The GELU in its hyperbolic tangent form. -/
def gelu (y : EReal) : EReal :=
  half * y * (1 + Ideal.tanh (Ideal.ofBits .f32 1061962282#32 * (y + Ideal.ofBits .f32 1027024659#32 * (y * y * y))))

/-- The S5 branch before its gated unit: the GELU of the scan's row plus the skip of its input. -/
def posted (y d u : Fin 512 → EReal) (k : Fin 512) : EReal := gelu (y k + d k * u k)

/-- The gated linear unit: one half of the product times the logistic function of the other. -/
def glu (p : Fin 512 → EReal) (wa wb : Fin 512 → Fin 512 → EReal) (k : Fin 512) : EReal :=
  (∑ j, p j * wa j k) * gate (∑ j, p j * wb j k)

/-- One branch of the merge: the sigmoid gate its columns of the input projection give, times the branch projected. -/
def branch (h : Fin 1024 → EReal) (wg : Fin 1024 → Fin 1024 → EReal) (b : Fin 512 → EReal)
    (wb : Fin 512 → Fin 1024 → EReal) (d : Fin 1024) : EReal :=
  gate (∑ e, h e * wg e d) * ∑ k, b k * wb k d

/-- The residual stream after the mixer: the scaled input plus the gated output projection of the merged branches. -/
def residual (x g : Fin 1024 → EReal) (s : Fin 1024 → EReal) (wo : Fin 1024 → Fin 1024 → EReal) (d : Fin 1024) : EReal :=
  alpha * x d + g d * ∑ e, s e * wo e d

/-- A layer norm with a learned scale and shift. -/
def postNorm (v g b : Fin 1024 → EReal) (d : Fin 1024) : EReal := norm v d * g d + b d

end Merge
-- ==== Proof.Token.lean ====
module

public import proofs.«01_k».proof.Proof.Rows

@[expose] public section
noncomputable section
open Idealize.ShloMosaic

/-!
  The two results at one token of one sequence, as functions of the argument arrays read at plain coordinates. Both
  programs are proved to compute these.
-/

namespace Merge

/-- The argument arrays the merge reads, at their coordinates. -/
structure Args where
  /-- the residual stream: context tokens, then latents -/
  x : Fin 16 → Fin 2304 → Fin 1024 → EReal
  /-- the six modulation rows of each sequence, end to end; row 16 is the context's -/
  md : Fin 24 → Fin 6144 → EReal
  /-- the window attention's branch -/
  ya : Fin 16 → Fin 2304 → Fin 512 → EReal
  /-- the state space branch -/
  ys : Fin 16 → Fin 2304 → Fin 512 → EReal
  /-- the dense attention's branch -/
  yg : Fin 16 → Fin 2304 → Fin 512 → EReal
  /-- the S5 scan's result in the scan's own layout: channel group, chunk, then sequence, token in the chunk, channel -/
  y5 : Fin 32 → Fin 144 → Fin 4096 → EReal
  /-- the S5 scan's input -/
  su : Fin 16 → Fin 2304 → Fin 512 → EReal
  /-- the S5 skip weights -/
  sd : Fin 512 → EReal
  /-- the input projection, whose last 4096 columns are the gates' -/
  win : Fin 1024 → Fin 7696 → EReal
  /-- the four branch projections -/
  wb : Fin 4 → Fin 512 → Fin 1024 → EReal
  /-- the gated unit's weights -/
  wglu : Fin 512 → Fin 1024 → EReal
  /-- the output projection -/
  wo : Fin 1024 → Fin 1024 → EReal
  /-- the post norm's scale -/
  g : Fin 1024 → EReal
  /-- the post norm's shift -/
  b : Fin 1024 → EReal

namespace Args
variable (a : Args)

/-- The modulation row a token reads: row 16 for the 256 context tokens, its own sequence's for a latent. -/
def modRow (s : Fin 16) (n : Fin 2304) : Fin 24 := if n.val < 256 then ⟨16, by omega⟩ else ⟨s.val, by omega⟩

/-- Part `i` of six of a token's modulation. -/
def modAt (s : Fin 16) (n : Fin 2304) (i : Fin 6) (e : Fin 1024) : EReal := a.md (modRow s n) ⟨1024 * i.val + e.val, by omega⟩

/-- The modulated norm of a token. -/
def hidden (s : Fin 16) (n : Fin 2304) : Fin 1024 → EReal := modulated (a.x s n) (a.modAt s n 1) (a.modAt s n 0)

/-- A token's row of the S5 scan, brought out of the scan's layout. -/
def scanned (s : Fin 16) (n : Fin 2304) (k : Fin 512) : EReal :=
  a.y5 ⟨k.val / 16, by omega⟩ ⟨n.val / 16, by omega⟩ ⟨s.val * 256 + (n.val % 16) * 16 + k.val % 16, by omega⟩

/-- The S5 branch of a token before its gated unit. -/
def s5pre (s : Fin 16) (n : Fin 2304) : Fin 512 → EReal := posted (a.scanned s n) a.sd (a.su s n)

/-- The S5 branch of a token. -/
def s5 (s : Fin 16) (n : Fin 2304) : Fin 512 → EReal :=
  glu (a.s5pre s n) (fun j k => a.wglu j ⟨k.val, by omega⟩) (fun j k => a.wglu j ⟨512 + k.val, by omega⟩)

/-- Branch `i` of a token, gated and projected. -/
def gated (s : Fin 16) (n : Fin 2304) (i : Fin 4) (y : Fin 512 → EReal) : Fin 1024 → EReal :=
  branch (a.hidden s n) (fun e d => a.win e ⟨3600 + (1024 * i.val + d.val), by omega⟩) y (a.wb i)

/-- The four branches of a token, merged. -/
def merged (s : Fin 16) (n : Fin 2304) (d : Fin 1024) : EReal :=
  a.gated s n 0 (a.ya s n) d + a.gated s n 1 (a.ys s n) d + a.gated s n 2 (a.yg s n) d + a.gated s n 3 (a.s5 s n) d

/-- The residual stream of a token after the mixer. -/
def resid (s : Fin 16) (n : Fin 2304) : Fin 1024 → EReal := residual (a.x s n) (a.modAt s n 2) (a.merged s n) a.wo

/-- The first result: the post norm of the residual stream. -/
def x1 (s : Fin 16) (n : Fin 2304) : Fin 1024 → EReal := postNorm (a.resid s n) a.g a.b

/-- The second result: the modulated norm the experts and the router read. -/
def h2 (s : Fin 16) (n : Fin 2304) : Fin 1024 → EReal := modulated (a.x1 s n) (a.modAt s n 4) (a.modAt s n 3)

end Args
end Merge
-- ==== Proof.ProjToken.lean ====
module

public import proofs.«01_k».proof.Proof.Token

@[expose] public section
noncomputable section
open Idealize.ShloMosaic

/-!
  The input projection at one token of one sequence, as a function of the argument arrays read at plain coordinates.
  Both programs are proved to compute it.
-/

namespace Project

/-- The argument arrays the input projection reads, at their coordinates. -/
structure Args where
  /-- the residual stream: context tokens, then latents -/
  x : Fin 16 → Fin 2304 → Fin 1024 → EReal
  /-- the six modulation rows of each sequence, end to end; row 16 is the context's -/
  md : Fin 24 → Fin 6144 → EReal
  /-- the input projection -/
  win : Fin 1024 → Fin 7696 → EReal

namespace Args
variable (a : Args)

/-- The modulated norm of a token. -/
def hidden (s : Fin 16) (n : Fin 2304) : Fin 1024 → EReal :=
  Merge.modulated (a.x s n) (fun e => a.md (Merge.Args.modRow s n) ⟨1024 + e.val, by omega⟩) (fun e => a.md (Merge.Args.modRow s n) ⟨0 + e.val, by omega⟩)

/-- The columns of the projection in the order the results hold them: both attentions' queries, keys and values; the
    convolution's input and its two parameters; the state space gate; the S5 input; and the two directions' step
    widths, each of 8 columns followed by 120 of zeros. -/
def col (e : Fin 1024) (d : Fin 3840) : EReal :=
  if d.val < 512 then a.win e ⟨d.val, by omega⟩
  else if d.val < 1024 then a.win e ⟨d.val + 256, by omega⟩
  else if d.val < 1280 then a.win e ⟨d.val - 512, by omega⟩
  else if d.val < 2048 then a.win e ⟨d.val, by omega⟩
  else if d.val < 2560 then a.win e ⟨d.val + 512, by omega⟩
  else if d.val < 3072 then a.win e ⟨d.val - 512, by omega⟩
  else if d.val < 3584 then a.win e ⟨d.val + 16, by omega⟩
  else if d.val < 3592 then a.win e ⟨d.val - 512, by omega⟩
  else if d.val < 3712 then 0
  else if d.val < 3720 then a.win e ⟨d.val - 632, by omega⟩
  else 0

/-- Column `d` of a token's projection. -/
def proj (s : Fin 16) (n : Fin 2304) (d : Fin 3840) : EReal := ∑ e, a.hidden s n e * a.col e d

/-- The attentions' rows of a token. -/
def attn (s : Fin 16) (n : Fin 2304) (d : Fin 1536) : EReal := a.proj s n ⟨0 + d.val, by omega⟩
/-- The convolution's row of a token. -/
def conv (s : Fin 16) (n : Fin 2304) (d : Fin 1024) : EReal := a.proj s n ⟨1536 + d.val, by omega⟩
/-- The state space gate's row of a token. -/
def sz (s : Fin 16) (n : Fin 2304) (d : Fin 512) : EReal := a.proj s n ⟨2560 + d.val, by omega⟩
/-- The S5 input's row of a token. -/
def su (s : Fin 16) (n : Fin 2304) (d : Fin 512) : EReal := a.proj s n ⟨3072 + d.val, by omega⟩
/-- The step widths' row of a token. -/
def dt (s : Fin 16) (n : Fin 2304) (d : Fin 256) : EReal := a.proj s n ⟨3584 + d.val, by omega⟩
/-- The S5 input in the scan's own layout: channel group, chunk, then sequence, token in the chunk, channel. -/
def u (g : Fin 32) (h : Fin 144) (l : Fin 4096) : EReal :=
  a.su ⟨l.val / 256, by omega⟩ ⟨h.val * 16 + l.val / 16 % 16, by omega⟩ ⟨g.val * 16 + l.val % 16, by omega⟩

end Args
end Project
-- ==== Proof.ProjHost.lean ====
module

public import proofs.«01_k».proof.Proof.Gen.Kernel2Ideal.Frame.Runs
public import Idealize.ShloMosaic.Lib.StableHlo.ReadAt
public import Idealize.ShloMosaic.Lib.Pipeline.Value
public import proofs.«01_k».proof.Proof.ProjToken

@[expose] public section
noncomputable section
open Idealize.ShloMosaic Idealize.ShloMosaic.TcCoe Idealize.ShloMosaic.StableHlo
namespace Cert.Kernel2Ideal.Project
open Cert.Kernel2Ideal Cert.Kernel2Ideal.Gen _root_.Project
set_option maxRecDepth 16384

variable (m : (ℓ : Loc nD τ sig) → Buf (Elt Ideal) ℓ) (c : Dev nD)

/-- The kernel's arguments at their coordinates. -/
def args : Args where
  x s n e := m ((c : Thread nD τ).loc main_arg0) (ix3 s n e)
  md s e := m ((c : Thread nD τ).loc main_arg1) (ix3 s 0 e)
  win e d := m ((c : Thread nD τ).loc main_arg2) (ix2 e d)

/-- The projection's columns cut and joined in the results' order. -/
def joined (w : Vec Ideal S1024x7696 .f32) : Vec Ideal S1024x3840 .f32 :=
  concatenate S1024x3840 1 [⟨S1024x512, extractStridedSlice S1024x512 ![0, 0] w slices_S1024x7696_S1024x512_0_0⟩,
      ⟨S1024x512, extractStridedSlice S1024x512 ![0, 768] w slices_S1024x7696_S1024x512_0_768⟩,
      ⟨S1024x128, extractStridedSlice S1024x128 ![0, 512] w slices_S1024x7696_S1024x128_0_512⟩,
      ⟨S1024x128, extractStridedSlice S1024x128 ![0, 640] w slices_S1024x7696_S1024x128_0_640⟩,
      ⟨S1024x128, extractStridedSlice S1024x128 ![0, 1280] w slices_S1024x7696_S1024x128_0_1280⟩,
      ⟨S1024x128, extractStridedSlice S1024x128 ![0, 1408] w slices_S1024x7696_S1024x128_0_1408⟩,
      ⟨S1024x512, extractStridedSlice S1024x512 ![0, 1536] w slices_S1024x7696_S1024x512_0_1536⟩,
      ⟨S1024x256, extractStridedSlice S1024x256 ![0, 2560] w slices_S1024x7696_S1024x256_0_2560⟩,
      ⟨S1024x256, extractStridedSlice S1024x256 ![0, 2816] w slices_S1024x7696_S1024x256_0_2816⟩,
      ⟨S1024x512, extractStridedSlice S1024x512 ![0, 2048] w slices_S1024x7696_S1024x512_0_2048⟩,
      ⟨S1024x512, extractStridedSlice S1024x512 ![0, 3088] w slices_S1024x7696_S1024x512_0_3088⟩,
      ⟨S1024x8, extractStridedSlice S1024x8 ![0, 0] (extractStridedSlice S1024x16 ![0, 3072] w slices_S1024x7696_S1024x16_0_3072) slices_S1024x16_S1024x8_0_0⟩,
      ⟨S1024x120, broadcastInDim S1024x120 ![] bcast_S_S1024x120 (constant (F := Ideal) S_ .f32 0x00000000#32)⟩,
      ⟨S1024x8, extractStridedSlice S1024x8 ![0, 8] (extractStridedSlice S1024x16 ![0, 3072] w slices_S1024x7696_S1024x16_0_3072) slices_S1024x16_S1024x8_0_8⟩,
      ⟨S1024x120, broadcastInDim S1024x120 ![] bcast_S_S1024x120 (constant (F := Ideal) S_ .f32 0x00000000#32)⟩] concatenates_S1024x512_S1024x512_S1024x128_S1024x128_S1024x128_S1024x128_S1024x512_S1024x256_S1024x256_S1024x512_S1024x512_S1024x8_S1024x120_S1024x8_S1024x120_S1024x3840_d1

/-- The region finds the joined columns. -/
theorem joined_eq : V m c main_v16 = (truncf (F := Ideal) .bf16 (joined (m ((c : Thread nD τ).loc main_arg2))) bitsLt_bf16_f32 : Vec Ideal S1024x3840 .bf16) := by
  rfl

set_option maxHeartbeats 4000000 in
/-- A joined column, at its index. -/
theorem joined_apply (w : Vec Ideal S1024x7696 .f32) (e : Fin 1024) (d : Fin 3840) : joined w (ix2 e d) = Args.col ⟨fun _ _ _ => 0, fun _ _ => 0, fun e d => w (ix2 e d)⟩ e d := by
  have hd := d.isLt
  unfold joined
  by_cases h0 : d.val < 512
  · refine (concatenate_apply_piece 1 _ _ (ix2 e d) 0 (by show 0 < 15; decide) S1024x512 _ rfl rfl 0 rfl (ix2 e ⟨d.val - 0, by omega⟩)
      (fun b hb => by
        match b with
        | ⟨0, _⟩ => rfl
        | ⟨1, _⟩ => exact absurd rfl hb) (by show 0 + (d.val - 0) = d.val; omega)).trans ?_
    pointwise
    unfold Args.col
    dsimp only
    rw [if_pos (by omega)]
    try exact congrArg w (congrArg (ix2 e) (Fin.ext (by dsimp only; omega)))
  by_cases h1 : d.val < 1024
  · refine (concatenate_apply_piece 1 _ _ (ix2 e d) 1 (by show 1 < 15; decide) S1024x512 _ rfl rfl 512 rfl (ix2 e ⟨d.val - 512, by omega⟩)
      (fun b hb => by
        match b with
        | ⟨0, _⟩ => rfl
        | ⟨1, _⟩ => exact absurd rfl hb) (by show 512 + (d.val - 512) = d.val; omega)).trans ?_
    pointwise
    unfold Args.col
    dsimp only
    rw [if_neg (by omega), if_pos (by omega)]
    exact congrArg w (congrArg (ix2 e) (Fin.ext (by dsimp only; omega)))
  by_cases h2 : d.val < 1152
  · refine (concatenate_apply_piece 1 _ _ (ix2 e d) 2 (by show 2 < 15; decide) S1024x128 _ rfl rfl 1024 rfl (ix2 e ⟨d.val - 1024, by omega⟩)
      (fun b hb => by
        match b with
        | ⟨0, _⟩ => rfl
        | ⟨1, _⟩ => exact absurd rfl hb) (by show 1024 + (d.val - 1024) = d.val; omega)).trans ?_
    pointwise
    unfold Args.col
    dsimp only
    rw [if_neg (by omega), if_neg (by omega), if_pos (by omega)]
    exact congrArg w (congrArg (ix2 e) (Fin.ext (by dsimp only; omega)))
  by_cases h3 : d.val < 1280
  · refine (concatenate_apply_piece 1 _ _ (ix2 e d) 3 (by show 3 < 15; decide) S1024x128 _ rfl rfl 1152 rfl (ix2 e ⟨d.val - 1152, by omega⟩)
      (fun b hb => by
        match b with
        | ⟨0, _⟩ => rfl
        | ⟨1, _⟩ => exact absurd rfl hb) (by show 1152 + (d.val - 1152) = d.val; omega)).trans ?_
    pointwise
    unfold Args.col
    dsimp only
    rw [if_neg (by omega), if_neg (by omega), if_pos (by omega)]
    exact congrArg w (congrArg (ix2 e) (Fin.ext (by dsimp only; omega)))
  by_cases h4 : d.val < 1408
  · refine (concatenate_apply_piece 1 _ _ (ix2 e d) 4 (by show 4 < 15; decide) S1024x128 _ rfl rfl 1280 rfl (ix2 e ⟨d.val - 1280, by omega⟩)
      (fun b hb => by
        match b with
        | ⟨0, _⟩ => rfl
        | ⟨1, _⟩ => exact absurd rfl hb) (by show 1280 + (d.val - 1280) = d.val; omega)).trans ?_
    pointwise
    unfold Args.col
    dsimp only
    rw [if_neg (by omega), if_neg (by omega), if_neg (by omega), if_pos (by omega)]
    exact congrArg w (congrArg (ix2 e) (Fin.ext (by dsimp only; omega)))
  by_cases h5 : d.val < 1536
  · refine (concatenate_apply_piece 1 _ _ (ix2 e d) 5 (by show 5 < 15; decide) S1024x128 _ rfl rfl 1408 rfl (ix2 e ⟨d.val - 1408, by omega⟩)
      (fun b hb => by
        match b with
        | ⟨0, _⟩ => rfl
        | ⟨1, _⟩ => exact absurd rfl hb) (by show 1408 + (d.val - 1408) = d.val; omega)).trans ?_
    pointwise
    unfold Args.col
    dsimp only
    rw [if_neg (by omega), if_neg (by omega), if_neg (by omega), if_pos (by omega)]
    exact congrArg w (congrArg (ix2 e) (Fin.ext (by dsimp only; omega)))
  by_cases h6 : d.val < 2048
  · refine (concatenate_apply_piece 1 _ _ (ix2 e d) 6 (by show 6 < 15; decide) S1024x512 _ rfl rfl 1536 rfl (ix2 e ⟨d.val - 1536, by omega⟩)
      (fun b hb => by
        match b with
        | ⟨0, _⟩ => rfl
        | ⟨1, _⟩ => exact absurd rfl hb) (by show 1536 + (d.val - 1536) = d.val; omega)).trans ?_
    pointwise
    unfold Args.col
    dsimp only
    rw [if_neg (by omega), if_neg (by omega), if_neg (by omega), if_pos (by omega)]
    exact congrArg w (congrArg (ix2 e) (Fin.ext (by dsimp only; omega)))
  by_cases h7 : d.val < 2304
  · refine (concatenate_apply_piece 1 _ _ (ix2 e d) 7 (by show 7 < 15; decide) S1024x256 _ rfl rfl 2048 rfl (ix2 e ⟨d.val - 2048, by omega⟩)
      (fun b hb => by
        match b with
        | ⟨0, _⟩ => rfl
        | ⟨1, _⟩ => exact absurd rfl hb) (by show 2048 + (d.val - 2048) = d.val; omega)).trans ?_
    pointwise
    unfold Args.col
    dsimp only
    rw [if_neg (by omega), if_neg (by omega), if_neg (by omega), if_neg (by omega), if_pos (by omega)]
    exact congrArg w (congrArg (ix2 e) (Fin.ext (by dsimp only; omega)))
  by_cases h8 : d.val < 2560
  · refine (concatenate_apply_piece 1 _ _ (ix2 e d) 8 (by show 8 < 15; decide) S1024x256 _ rfl rfl 2304 rfl (ix2 e ⟨d.val - 2304, by omega⟩)
      (fun b hb => by
        match b with
        | ⟨0, _⟩ => rfl
        | ⟨1, _⟩ => exact absurd rfl hb) (by show 2304 + (d.val - 2304) = d.val; omega)).trans ?_
    pointwise
    unfold Args.col
    dsimp only
    rw [if_neg (by omega), if_neg (by omega), if_neg (by omega), if_neg (by omega), if_pos (by omega)]
    exact congrArg w (congrArg (ix2 e) (Fin.ext (by dsimp only; omega)))
  by_cases h9 : d.val < 3072
  · refine (concatenate_apply_piece 1 _ _ (ix2 e d) 9 (by show 9 < 15; decide) S1024x512 _ rfl rfl 2560 rfl (ix2 e ⟨d.val - 2560, by omega⟩)
      (fun b hb => by
        match b with
        | ⟨0, _⟩ => rfl
        | ⟨1, _⟩ => exact absurd rfl hb) (by show 2560 + (d.val - 2560) = d.val; omega)).trans ?_
    pointwise
    unfold Args.col
    dsimp only
    rw [if_neg (by omega), if_neg (by omega), if_neg (by omega), if_neg (by omega), if_neg (by omega), if_pos (by omega)]
    exact congrArg w (congrArg (ix2 e) (Fin.ext (by dsimp only; omega)))
  by_cases h10 : d.val < 3584
  · refine (concatenate_apply_piece 1 _ _ (ix2 e d) 10 (by show 10 < 15; decide) S1024x512 _ rfl rfl 3072 rfl (ix2 e ⟨d.val - 3072, by omega⟩)
      (fun b hb => by
        match b with
        | ⟨0, _⟩ => rfl
        | ⟨1, _⟩ => exact absurd rfl hb) (by show 3072 + (d.val - 3072) = d.val; omega)).trans ?_
    pointwise
    unfold Args.col
    dsimp only
    rw [if_neg (by omega), if_neg (by omega), if_neg (by omega), if_neg (by omega), if_neg (by omega), if_neg (by omega), if_pos (by omega)]
    exact congrArg w (congrArg (ix2 e) (Fin.ext (by dsimp only; omega)))
  by_cases h11 : d.val < 3592
  · refine (concatenate_apply_piece 1 _ _ (ix2 e d) 11 (by show 11 < 15; decide) S1024x8 _ rfl rfl 3584 rfl (ix2 e ⟨d.val - 3584, by omega⟩)
      (fun b hb => by
        match b with
        | ⟨0, _⟩ => rfl
        | ⟨1, _⟩ => exact absurd rfl hb) (by show 3584 + (d.val - 3584) = d.val; omega)).trans ?_
    pointwise
    unfold Args.col
    dsimp only
    rw [if_neg (by omega), if_neg (by omega), if_neg (by omega), if_neg (by omega), if_neg (by omega), if_neg (by omega), if_neg (by omega), if_pos (by omega)]
    exact congrArg w (congrArg (ix2 e) (Fin.ext (by dsimp only; omega)))
  by_cases h12 : d.val < 3712
  · refine (concatenate_apply_piece 1 _ _ (ix2 e d) 12 (by show 12 < 15; decide) S1024x120 _ rfl rfl 3592 rfl (ix2 e ⟨d.val - 3592, by omega⟩)
      (fun b hb => by
        match b with
        | ⟨0, _⟩ => rfl
        | ⟨1, _⟩ => exact absurd rfl hb) (by show 3592 + (d.val - 3592) = d.val; omega)).trans ?_
    pointwise
    unfold Args.col
    dsimp only
    rw [if_neg (by omega), if_neg (by omega), if_neg (by omega), if_neg (by omega), if_neg (by omega), if_neg (by omega), if_neg (by omega), if_neg (by omega), if_pos (by omega)]
    try exact Ideal.ofBits_zero
  by_cases h13 : d.val < 3720
  · refine (concatenate_apply_piece 1 _ _ (ix2 e d) 13 (by show 13 < 15; decide) S1024x8 _ rfl rfl 3712 rfl (ix2 e ⟨d.val - 3712, by omega⟩)
      (fun b hb => by
        match b with
        | ⟨0, _⟩ => rfl
        | ⟨1, _⟩ => exact absurd rfl hb) (by show 3712 + (d.val - 3712) = d.val; omega)).trans ?_
    pointwise
    unfold Args.col
    dsimp only
    rw [if_neg (by omega), if_neg (by omega), if_neg (by omega), if_neg (by omega), if_neg (by omega), if_neg (by omega), if_neg (by omega), if_neg (by omega), if_neg (by omega), if_pos (by omega)]
    exact congrArg w (congrArg (ix2 e) (Fin.ext (by dsimp only; omega)))
  · refine (concatenate_apply_piece 1 _ _ (ix2 e d) 14 (by show 14 < 15; decide) S1024x120 _ rfl rfl 3720 rfl (ix2 e ⟨d.val - 3720, by omega⟩)
      (fun b hb => by
        match b with
        | ⟨0, _⟩ => rfl
        | ⟨1, _⟩ => exact absurd rfl hb) (by show 3720 + (d.val - 3720) = d.val; omega)).trans ?_
    pointwise
    unfold Args.col
    dsimp only
    rw [if_neg (by omega), if_neg (by omega), if_neg (by omega), if_neg (by omega), if_neg (by omega), if_neg (by omega), if_neg (by omega), if_neg (by omega), if_neg (by omega), if_neg (by omega)]
    try exact Ideal.ofBits_zero

/-- The projection's columns in the results' order, as the region finds them. -/
theorem col_apply (e : Fin 1024) (d : Fin 3840) : V m c main_v16 (ix2 e d) = (args m c).col e d := by
  rw [joined_eq]
  exact joined_apply _ e d

/-- The column a row of the permutation picks, as the host's words compute it. -/
theorem swap_word : ∀ r : Fin 256, IntOp.addi (IntOp.muli (IntOp.remsi ArithUnit.host (BitVec.ofNat 32 r.val) 16#32) 16#32)
    (IntOp.divsi ArithUnit.host (BitVec.ofNat 32 r.val) 16#32) = BitVec.ofNat 32 (r.val % 16 * 16 + r.val / 16) := by
  decide +kernel

/-- The permutation, as the region finds it: row `r` picks row `(r mod 16) * 16 + r / 16`. -/
theorem swap_apply (r q : Fin 256) : V m c main_v31 (ix2 r q) = (if q.val = r.val % 16 * 16 + r.val / 16 then 1 else 0 : EReal) := by
  unfold V
  after_reads_at
  rw [id]
  pointwise
  rw [swap_word]
  have hq := q.isLt
  have hr := r.isLt
  by_cases h : q.val = r.val % 16 * 16 + r.val / 16
  · rw [if_pos h, h]
    simp [Scalar.select, IntOp.cmpi]
  · have hw : BitVec.ofNat 32 q.val ≠ BitVec.ofNat 32 (r.val % 16 * 16 + r.val / 16) := by
      intro e
      apply h
      have := congrArg BitVec.toNat e
      simp only [BitVec.toNat_ofNat] at this
      omega
    rw [if_neg h]
    simp only [Scalar.select, IntOp.cmpi, beq_eq_false_iff_ne.2 hw]
    rfl

end Cert.Kernel2Ideal.Project
-- ==== Proof.ProjBlocks.lean ====
module

public import proofs.«01_k».proof.Proof.Gen.Kernel2Ideal.Points
public import proofs.«01_k».proof.Proof.ProjHost

@[expose] public section
noncomputable section
open Idealize.ShloMosaic Idealize.ShloMosaic.TcCoe
namespace Cert.Kernel2Ideal.Project
open Cert.Kernel2Ideal Cert.Kernel2Ideal.Gen _root_.Project
set_option maxRecDepth 16384

/-!
  The blocks the windows of the input projection hold, at their indices. A step of the grid reads the newest tile and
  writes the S5 input's tile in the scan's layout a step later, each kept within the 144 tiles there are.
-/

/-- The tile a window running `k` steps behind holds at step `t`. -/
def tile (k t : ℕ) : Fin 144 := ⟨min (t - k) 143, by omega⟩

/-- The sequence of a tile. -/
def seq (u : Fin 144) : Fin 16 := ⟨u.val / 9, by omega⟩

/-- The token at row `r` of a tile. -/
def tok (u : Fin 144) (r : Fin 256) : Fin 2304 := ⟨u.val % 9 * 256 + r.val, by omega⟩

/-- The modulation row of a tile is each of its tokens'. -/
theorem modRow_tile (u : Fin 144) (r : Fin 256) :
    (Merge.Args.modRow (seq u) (tok u r)).val = if u.val % 9 = 0 then 16 else u.val / 9 := by
  unfold Merge.Args.modRow tok seq
  dsimp only
  split <;> split <;> dsimp only <;> omega

variable (m : (ℓ : Loc nD τ sig) → Buf (Elt Ideal) ℓ) (c : Dev nD)

/-- Where window 0's block lies at each step. -/
theorem index_0 : ∀ t : Fin cfg0.N, win0_0.index t 0 = min (t.val - 0) 143 / 9 ∧ win0_0.index t 1 = min (t.val - 0) 143 % 9 ∧ win0_0.index t 2 = 0 := by
  decide +kernel

/-- The newest tile of the residual stream. -/
theorem block_0 (t : Fin cfg0.N) (z : Fin 1) (r : Fin 256) (e : Fin 1024) : (iblk m c 0 t : Vec Ideal _ _) (ix3 z r e) = (args m c).x (seq (tile 0 t)) (tok (tile 0 t) r) e := by
  have hi := index_0 t
  unfold iblk
  rw [View.read_apply]
  refine Eq.trans (b := V m c main_arg0 (ix3 (seq (tile 0 t)) (tok (tile 0 t) r) e)) ?_ ?_
  · show V m c main_arg0 _ = V m c main_arg0 _
    congr 1
    funext a
    apply Fin.ext
    match a with
    | ⟨0, _⟩ => show win0_0.index t 0 * 1 + 1 * z.val = (seq _).val; rw [hi.1]; simp only [seq, tile]; omega
    | ⟨1, _⟩ => show win0_0.index t 1 * 256 + 1 * r.val = (tok _ r).val; rw [hi.2.1]; simp only [tok, tile]; omega
    | ⟨2, _⟩ => show win0_0.index t 2 * 1024 + 1 * e.val = e.val; rw [hi.2.2]; omega
  · rw [V_main_arg0]; rfl

/-- Where window 1's block lies at each step. -/
theorem index_1 : ∀ t : Fin cfg0.N, win0_1.index t 0 = (if min (t.val - 0) 143 % 9 = 0 then 16 else min (t.val - 0) 143 / 9) ∧ win0_1.index t 1 = 0 ∧ win0_1.index t 2 = 0 := by
  decide +kernel

/-- The newest tile's modulation row, which is each of its tokens'. -/
theorem block_1 (t : Fin cfg0.N) (r : Fin 256) (z y : Fin 1) (e : Fin 6144) : (iblk m c 1 t : Vec Ideal _ _) (ix3 z y e) = (args m c).md (Merge.Args.modRow (seq (tile 0 t)) (tok (tile 0 t) r)) e := by
  have hi := index_1 t
  unfold iblk
  rw [View.read_apply]
  refine Eq.trans (b := V m c main_arg1 (ix3 (Merge.Args.modRow (seq (tile 0 t)) (tok (tile 0 t) r)) 0 e)) ?_ ?_
  · show V m c main_arg1 _ = V m c main_arg1 _
    congr 1
    funext a
    apply Fin.ext
    match a with
    | ⟨0, _⟩ => show win0_1.index t 0 * 1 + 1 * z.val = (Merge.Args.modRow _ _).val; rw [hi.1.trans (modRow_tile (tile 0 t) r).symm]; omega
    | ⟨1, _⟩ => show win0_1.index t 1 * 1 + 1 * y.val = 0; rw [hi.2.1]; omega
    | ⟨2, _⟩ => show win0_1.index t 2 * 6144 + 1 * e.val = e.val; rw [hi.2.2]; omega
  · rw [V_main_arg1]; rfl

/-- Where window 2's block lies at each step. -/
theorem index_2 : ∀ t : Fin cfg0.N, win0_2.index t 0 = 0 ∧ win0_2.index t 1 = 0 := by
  decide +kernel

/-- The projection's columns. -/
theorem block_2 (t : Fin cfg0.N) (r : Fin 1024) (e : Fin 3840) : (iblk m c 2 t : Vec Ideal _ _) (ix2 r e) = (args m c).col r e := by
  have hi := index_2 t
  unfold iblk
  rw [View.read_apply]
  refine Eq.trans (b := V m c main_v16 (ix2 r e)) ?_ ?_
  · show V m c main_v16 _ = V m c main_v16 _
    congr 1
    funext a
    apply Fin.ext
    match a with
    | ⟨0, _⟩ => show win0_2.index t 0 * 1024 + 1 * r.val = r.val; rw [hi.1]; omega
    | ⟨1, _⟩ => show win0_2.index t 1 * 3840 + 1 * e.val = e.val; rw [hi.2]; omega
  · exact col_apply m c r e

/-- Where window 3's block lies at each step. -/
theorem index_3 : ∀ t : Fin cfg0.N, win0_3.index t 0 = 0 ∧ win0_3.index t 1 = 0 := by
  decide +kernel

/-- The permutation. -/
theorem block_3 (t : Fin cfg0.N) (r : Fin 256) (e : Fin 256) : (iblk m c 3 t : Vec Ideal _ _) (ix2 r e) = (if e.val = r.val % 16 * 16 + r.val / 16 then 1 else 0 : EReal) := by
  have hi := index_3 t
  unfold iblk
  rw [View.read_apply]
  refine Eq.trans (b := V m c main_v31 (ix2 r e)) ?_ ?_
  · show V m c main_v31 _ = V m c main_v31 _
    congr 1
    funext a
    apply Fin.ext
    match a with
    | ⟨0, _⟩ => show win0_3.index t 0 * 256 + 1 * r.val = r.val; rw [hi.1]; omega
    | ⟨1, _⟩ => show win0_3.index t 1 * 256 + 1 * e.val = e.val; rw [hi.2]; omega
  · exact swap_apply m c r e

end Cert.Kernel2Ideal.Project
-- ==== Proof.FinalToken.lean ====
module

public import proofs.«01_k».proof.Proof.Rows

@[expose] public section
noncomputable section
open Idealize.ShloMosaic

/-!
  The layer's output on one latent token, over the extended reals: what a row of the kernel's tile and a row of the
  reference's batch both compute, as functions of the arguments.
-/

namespace Final

/-- The arguments at their coordinates: the stream after the mixer, the modulation rows, the experts' outputs by slot,
    the routing rows, and the norm's scale and shift. -/
structure Args where
  x1 : Fin 16 → Fin 2304 → Fin 1024 → EReal
  md : Fin 24 → Fin 6144 → EReal
  f : Fin 2 → Fin 16 → Fin 2304 → Fin 1024 → EReal
  route : Fin 8 → Fin 36864 → EReal
  g : Fin 1024 → EReal
  b : Fin 1024 → EReal

/-- A latent token among all the tokens of its sequence: after the context's 256. -/
def tok (n : Fin 2048) : Fin 2304 := ⟨256 + n.val, by omega⟩

/-- A token's column in the routing rows. -/
def flat (s : Fin 16) (n : Fin 2304) : Fin 36864 := ⟨s.val * 2304 + n.val, by omega⟩

/-- A token's two experts' outputs, each times its weight, summed. -/
def mixed (w0 w1 : EReal) (f0 f1 : Fin 1024 → EReal) (d : Fin 1024) : EReal := w0 * f0 d + w1 * f1 d

/-- The residual stream of a token after the experts: the scaled input plus their gated sum. -/
def stream (x g : Fin 1024 → EReal) (h : Fin 1024 → EReal) (d : Fin 1024) : EReal := Merge.alpha * x d + g d * h d

namespace Args

variable (a : Args)

/-- The experts' weighted sum on a latent token. -/
def ffn (s : Fin 16) (n : Fin 2048) : Fin 1024 → EReal :=
  mixed (a.route 2 (flat s (tok n))) (a.route 3 (flat s (tok n))) (a.f 0 s (tok n)) (a.f 1 s (tok n))

/-- The residual stream on a latent token. -/
def resid (s : Fin 16) (n : Fin 2048) : Fin 1024 → EReal :=
  stream (a.x1 s (tok n)) (fun d => a.md ⟨s.val, by omega⟩ ⟨5120 + d.val, by omega⟩) (a.ffn s n)

/-- The layer's output on a latent token. -/
def out (s : Fin 16) (n : Fin 2048) (d : Fin 1024) : EReal := Merge.postNorm (a.resid s n) a.g a.b d

end Args
end Final
-- ==== Proof.NextToken.lean ====
module

public import proofs.«01_k».proof.Proof.FinalToken
public import proofs.«01_k».proof.Proof.ProjToken

@[expose] public section
noncomputable section
open Idealize.ShloMosaic

/-!
  One token of the input projection as the later layers call it: the residual of the layer before on every token, then
  the projection of what that gives.
-/

namespace Next

/-- The arguments at their coordinates: the last residual's of the layer before, then the modulation rows and the
    projection of this layer. -/
structure Args where
  old : Final.Args
  md : Fin 24 → Fin 6144 → EReal
  win : Fin 1024 → Fin 7696 → EReal

namespace Args

variable (a : Args)

/-- The output of the layer before on any token: a context token's gate is in row 16. -/
def x (s : Fin 16) (n : Fin 2304) (d : Fin 1024) : EReal :=
  Merge.postNorm (Final.stream (a.old.x1 s n) (fun d => a.old.md (Merge.Args.modRow s n) ⟨5120 + d.val, by omega⟩)
    (Final.mixed (a.old.route 2 (Final.flat s n)) (a.old.route 3 (Final.flat s n)) (a.old.f 0 s n) (a.old.f 1 s n))) a.old.g a.old.b d

/-- What the projection takes: that output, with this layer's modulation rows and projection. -/
def next : Project.Args := ⟨a.x, a.md, a.win⟩

end Args
end Next
-- ==== Proof.NextBlocks.lean ====
module

public import proofs.«01_k».proof.Proof.Gen.Kernel5Ideal.Frame
public import proofs.«01_k».proof.Proof.ProjBlocks
public import proofs.«01_k».proof.Proof.NextToken

@[expose] public section
noncomputable section
open Idealize.ShloMosaic Idealize.ShloMosaic.TcCoe
open Idealize.ShloMosaic.StableHlo hiding seq
namespace Cert.Kernel5Ideal.Next
open Cert.Kernel5Ideal Cert.Kernel5Ideal.Gen _root_.Next
open Cert.Kernel2Ideal.Project (tile seq tok modRow_tile swap_word joined joined_apply)
set_option maxRecDepth 16384

/-!
  The blocks the windows of the later layers' input projection hold, at their indices. The tiles, the columns' order and
  the permutation are those of the first layer's.
-/

variable (m : (ℓ : Loc nD τ sig) → Buf (Elt Ideal) ℓ) (c : Dev nD)

/-- The kernel's arguments at their coordinates. -/
def args : Args where
  old := {
    x1 := fun s n e => m ((c : Thread nD τ).loc main_arg0) (ix3 s n e)
    md := fun s e => m ((c : Thread nD τ).loc main_arg1) (ix3 s 0 e)
    f := fun k s n e => m ((c : Thread nD τ).loc main_arg2) (ix4 k s n e)
    route := fun k p => m ((c : Thread nD τ).loc main_arg3) (ix2 k p)
    g := fun e => m ((c : Thread nD τ).loc main_arg4) (ix1 e)
    b := fun e => m ((c : Thread nD τ).loc main_arg5) (ix1 e) }
  md s e := m ((c : Thread nD τ).loc main_arg6) (ix3 s 0 e)
  win e d := m ((c : Thread nD τ).loc main_arg7) (ix2 e d)

/-- The norm's scale, as the region finds it. -/
theorem g_apply (z : Fin 1) (d : Fin 1024) : V m c main_v19 (ix2 z d) = (args m c).old.g d := by
  unfold V
  after_reads_at
  rfl

/-- The norm's shift, as the region finds it. -/
theorem b_apply (z : Fin 1) (d : Fin 1024) : V m c main_v20 (ix2 z d) = (args m c).old.b d := by
  unfold V
  after_reads_at
  rfl

/-- The projection's columns, as the region finds them. -/
theorem col_apply (e : Fin 1024) (d : Fin 3840) : V m c main_v16 (ix2 e d) = (args m c).next.col e d := by
  have h : V m c main_v16 = (truncf (F := Ideal) .bf16 (joined (m ((c : Thread nD τ).loc main_arg7))) bitsLt_bf16_f32 : Vec Ideal S1024x3840 .bf16) := rfl
  rw [h]
  exact joined_apply _ e d

/-- The permutation, as the region finds it: row `r` picks row `(r mod 16) * 16 + r / 16`. -/
theorem swap_apply (r q : Fin 256) : V m c main_v33 (ix2 r q) = (if q.val = r.val % 16 * 16 + r.val / 16 then 1 else 0 : EReal) := by
  unfold V
  after_reads_at
  rw [id]
  pointwise
  rw [swap_word]
  have hq := q.isLt
  have hr := r.isLt
  by_cases h : q.val = r.val % 16 * 16 + r.val / 16
  · rw [if_pos h, h]
    simp [Scalar.select, IntOp.cmpi]
  · have hw : BitVec.ofNat 32 q.val ≠ BitVec.ofNat 32 (r.val % 16 * 16 + r.val / 16) := by
      intro e
      apply h
      have := congrArg BitVec.toNat e
      simp only [BitVec.toNat_ofNat] at this
      omega
    rw [if_neg h]
    simp only [Scalar.select, IntOp.cmpi, beq_eq_false_iff_ne.2 hw]
    rfl

/-- Where the blocks that are read lie at each step. -/
theorem index_in : ∀ t : Fin cfg0.N, (win0_0.index t 0 = min (t.val - 0) 143 / 9 ∧ win0_0.index t 1 = min (t.val - 0) 143 % 9 ∧ win0_0.index t 2 = 0)
    ∧ (win0_1.index t 0 = (if min (t.val - 0) 143 % 9 = 0 then 16 else min (t.val - 0) 143 / 9) ∧ win0_1.index t 1 = 0 ∧ win0_1.index t 2 = 0)
    ∧ (win0_2.index t 0 = 0 ∧ win0_2.index t 1 = min (t.val - 0) 143 / 9 ∧ win0_2.index t 2 = min (t.val - 0) 143 % 9 ∧ win0_2.index t 3 = 0)
    ∧ (win0_3.index t 0 = 1 ∧ win0_3.index t 1 = min (t.val - 0) 143 / 9 ∧ win0_3.index t 2 = min (t.val - 0) 143 % 9 ∧ win0_3.index t 3 = 0)
    ∧ (win0_4.index t 0 = 0 ∧ win0_4.index t 1 = min (t.val - 0) 143)
    ∧ (win0_5.index t 0 = 0 ∧ win0_5.index t 1 = 0) ∧ (win0_6.index t 0 = 0 ∧ win0_6.index t 1 = 0)
    ∧ (win0_7.index t 0 = (if min (t.val - 0) 143 % 9 = 0 then 16 else min (t.val - 0) 143 / 9) ∧ win0_7.index t 1 = 0 ∧ win0_7.index t 2 = 0)
    ∧ (win0_8.index t 0 = 0 ∧ win0_8.index t 1 = 0) ∧ (win0_9.index t 0 = 0 ∧ win0_9.index t 1 = 0) := by
  decide +kernel

/-- The newest tile of the stream after the mixer. -/
theorem block_0 (t : Fin cfg0.N) (z : Fin 1) (r : Fin 256) (e : Fin 1024) : (iblk m c 0 t : Vec Ideal _ _) (ix3 z r e) = (args m c).old.x1 (seq (tile 0 t)) (tok (tile 0 t) r) e := by
  have hi := (index_in t).1
  unfold iblk
  rw [View.read_apply]
  refine Eq.trans (b := V m c main_arg0 (ix3 (seq (tile 0 t)) (tok (tile 0 t) r) e)) (congrArg (V m c main_arg0) (funext fun a => Fin.ext ?_)) (by rw [V_main_arg0]; rfl)
  match a with
  | ⟨0, _⟩ => show win0_0.index t 0 * 1 + 1 * z.val = (seq _).val; rw [hi.1]; simp only [seq, tile]; omega
  | ⟨1, _⟩ => show win0_0.index t 1 * 256 + 1 * r.val = (tok _ r).val; rw [hi.2.1]; simp only [tok, tile]; omega
  | ⟨2, _⟩ => show win0_0.index t 2 * 1024 + 1 * e.val = e.val; rw [hi.2.2]; omega

/-- Its modulation row in the layer before, which is each of its tokens'. -/
theorem block_1 (t : Fin cfg0.N) (r : Fin 256) (z y : Fin 1) (e : Fin 6144) : (iblk m c 1 t : Vec Ideal _ _) (ix3 z y e) = (args m c).old.md (Merge.Args.modRow (seq (tile 0 t)) (tok (tile 0 t) r)) e := by
  have hi := (index_in t).2.1
  unfold iblk
  rw [View.read_apply]
  refine Eq.trans (b := V m c main_arg1 (ix3 (Merge.Args.modRow (seq (tile 0 t)) (tok (tile 0 t) r)) 0 e)) (congrArg (V m c main_arg1) (funext fun a => Fin.ext ?_)) (by rw [V_main_arg1]; rfl)
  match a with
  | ⟨0, _⟩ => show win0_1.index t 0 * 1 + 1 * z.val = (Merge.Args.modRow _ _).val; rw [hi.1.trans (modRow_tile (tile 0 t) r).symm]; omega
  | ⟨1, _⟩ => show win0_1.index t 1 * 1 + 1 * y.val = 0; rw [hi.2.1]; omega
  | ⟨2, _⟩ => show win0_1.index t 2 * 6144 + 1 * e.val = e.val; rw [hi.2.2]; omega

/-- The newest tile of the first slot's expert. -/
theorem block_2 (t : Fin cfg0.N) (z y : Fin 1) (r : Fin 256) (e : Fin 1024) : (iblk m c 2 t : Vec Ideal _ _) (ix4 z y r e) = (args m c).old.f 0 (seq (tile 0 t)) (tok (tile 0 t) r) e := by
  have hi := (index_in t).2.2.1
  unfold iblk
  rw [View.read_apply]
  refine Eq.trans (b := V m c main_arg2 (ix4 0 (seq (tile 0 t)) (tok (tile 0 t) r) e)) (congrArg (V m c main_arg2) (funext fun a => Fin.ext ?_)) (by rw [V_main_arg2]; rfl)
  match a with
  | ⟨0, _⟩ => show win0_2.index t 0 * 1 + 1 * z.val = 0; rw [hi.1]; omega
  | ⟨1, _⟩ => show win0_2.index t 1 * 1 + 1 * y.val = (seq _).val; rw [hi.2.1]; simp only [seq, tile]; omega
  | ⟨2, _⟩ => show win0_2.index t 2 * 256 + 1 * r.val = (tok _ r).val; rw [hi.2.2.1]; simp only [tok, tile]; omega
  | ⟨3, _⟩ => show win0_2.index t 3 * 1024 + 1 * e.val = e.val; rw [hi.2.2.2]; omega

/-- The newest tile of the second slot's expert. -/
theorem block_3 (t : Fin cfg0.N) (z y : Fin 1) (r : Fin 256) (e : Fin 1024) : (iblk m c 3 t : Vec Ideal _ _) (ix4 z y r e) = (args m c).old.f 1 (seq (tile 0 t)) (tok (tile 0 t) r) e := by
  have hi := (index_in t).2.2.2.1
  unfold iblk
  rw [View.read_apply]
  refine Eq.trans (b := V m c main_arg2 (ix4 1 (seq (tile 0 t)) (tok (tile 0 t) r) e)) (congrArg (V m c main_arg2) (funext fun a => Fin.ext ?_)) (by rw [V_main_arg2]; rfl)
  match a with
  | ⟨0, _⟩ => show win0_3.index t 0 * 1 + 1 * z.val = 1; rw [hi.1]; omega
  | ⟨1, _⟩ => show win0_3.index t 1 * 1 + 1 * y.val = (seq _).val; rw [hi.2.1]; simp only [seq, tile]; omega
  | ⟨2, _⟩ => show win0_3.index t 2 * 256 + 1 * r.val = (tok _ r).val; rw [hi.2.2.1]; simp only [tok, tile]; omega
  | ⟨3, _⟩ => show win0_3.index t 3 * 1024 + 1 * e.val = e.val; rw [hi.2.2.2]; omega

/-- The newest tile's columns of the routing rows. -/
theorem block_4 (t : Fin cfg0.N) (k : Fin 8) (r : Fin 256) : (iblk m c 4 t : Vec Ideal _ _) (ix2 k r) = (args m c).old.route k (Final.flat (seq (tile 0 t)) (tok (tile 0 t) r)) := by
  have hi := (index_in t).2.2.2.2.1
  unfold iblk
  rw [View.read_apply]
  refine Eq.trans (b := V m c main_arg3 (ix2 k (Final.flat (seq (tile 0 t)) (tok (tile 0 t) r)))) (congrArg (V m c main_arg3) (funext fun a => Fin.ext ?_)) (by rw [V_main_arg3]; rfl)
  match a with
  | ⟨0, _⟩ => show win0_4.index t 0 * 8 + 1 * k.val = k.val; rw [hi.1]; omega
  | ⟨1, _⟩ => show win0_4.index t 1 * 256 + 1 * r.val = (Final.flat _ _).val; rw [hi.2]; simp only [Final.flat, tok, seq, tile]; omega

/-- The norm's scale. -/
theorem block_5 (t : Fin cfg0.N) (z : Fin 1) (e : Fin 1024) : (iblk m c 5 t : Vec Ideal _ _) (ix2 z e) = (args m c).old.g e := by
  have hi := (index_in t).2.2.2.2.2.1
  unfold iblk
  rw [View.read_apply]
  refine Eq.trans (b := V m c main_v19 (ix2 z e)) (congrArg (V m c main_v19) (funext fun a => Fin.ext ?_)) (g_apply m c z e)
  match a with
  | ⟨0, _⟩ => show win0_5.index t 0 * 1 + 1 * z.val = z.val; rw [hi.1]; omega
  | ⟨1, _⟩ => show win0_5.index t 1 * 1024 + 1 * e.val = e.val; rw [hi.2]; omega

/-- The norm's shift. -/
theorem block_6 (t : Fin cfg0.N) (z : Fin 1) (e : Fin 1024) : (iblk m c 6 t : Vec Ideal _ _) (ix2 z e) = (args m c).old.b e := by
  have hi := (index_in t).2.2.2.2.2.2.1
  unfold iblk
  rw [View.read_apply]
  refine Eq.trans (b := V m c main_v20 (ix2 z e)) (congrArg (V m c main_v20) (funext fun a => Fin.ext ?_)) (b_apply m c z e)
  match a with
  | ⟨0, _⟩ => show win0_6.index t 0 * 1 + 1 * z.val = z.val; rw [hi.1]; omega
  | ⟨1, _⟩ => show win0_6.index t 1 * 1024 + 1 * e.val = e.val; rw [hi.2]; omega

/-- The newest tile's modulation row in this layer. -/
theorem block_7 (t : Fin cfg0.N) (r : Fin 256) (z y : Fin 1) (e : Fin 6144) : (iblk m c 7 t : Vec Ideal _ _) (ix3 z y e) = (args m c).md (Merge.Args.modRow (seq (tile 0 t)) (tok (tile 0 t) r)) e := by
  have hi := (index_in t).2.2.2.2.2.2.2.1
  unfold iblk
  rw [View.read_apply]
  refine Eq.trans (b := V m c main_arg6 (ix3 (Merge.Args.modRow (seq (tile 0 t)) (tok (tile 0 t) r)) 0 e)) (congrArg (V m c main_arg6) (funext fun a => Fin.ext ?_)) (by rw [V_main_arg6]; rfl)
  match a with
  | ⟨0, _⟩ => show win0_7.index t 0 * 1 + 1 * z.val = (Merge.Args.modRow _ _).val; rw [hi.1.trans (modRow_tile (tile 0 t) r).symm]; omega
  | ⟨1, _⟩ => show win0_7.index t 1 * 1 + 1 * y.val = 0; rw [hi.2.1]; omega
  | ⟨2, _⟩ => show win0_7.index t 2 * 6144 + 1 * e.val = e.val; rw [hi.2.2]; omega

/-- The projection's columns. -/
theorem block_8 (t : Fin cfg0.N) (r : Fin 1024) (e : Fin 3840) : (iblk m c 8 t : Vec Ideal _ _) (ix2 r e) = (args m c).next.col r e := by
  have hi := (index_in t).2.2.2.2.2.2.2.2.1
  unfold iblk
  rw [View.read_apply]
  refine Eq.trans (b := V m c main_v16 (ix2 r e)) (congrArg (V m c main_v16) (funext fun a => Fin.ext ?_)) (col_apply m c r e)
  match a with
  | ⟨0, _⟩ => show win0_8.index t 0 * 1024 + 1 * r.val = r.val; rw [hi.1]; omega
  | ⟨1, _⟩ => show win0_8.index t 1 * 3840 + 1 * e.val = e.val; rw [hi.2]; omega

/-- The permutation. -/
theorem block_9 (t : Fin cfg0.N) (r e : Fin 256) : (iblk m c 9 t : Vec Ideal _ _) (ix2 r e) = (if e.val = r.val % 16 * 16 + r.val / 16 then 1 else 0 : EReal) := by
  have hi := (index_in t).2.2.2.2.2.2.2.2.2
  unfold iblk
  rw [View.read_apply]
  refine Eq.trans (b := V m c main_v33 (ix2 r e)) (congrArg (V m c main_v33) (funext fun a => Fin.ext ?_)) (swap_apply m c r e)
  match a with
  | ⟨0, _⟩ => show win0_9.index t 0 * 256 + 1 * r.val = r.val; rw [hi.1]; omega
  | ⟨1, _⟩ => show win0_9.index t 1 * 256 + 1 * e.val = e.val; rw [hi.2]; omega

end Cert.Kernel5Ideal.Next
-- ==== Proof.ProjPieces.lean ====
module

public import proofs.«01_k».proof.Proof.Gen.Kernel2Ideal.Frame
public import Idealize.ShloMosaic.Lib.Pipeline.ValueKit.Tiles
public import Idealize.ShloMosaic.Lib.Pipeline.ReadBack
public import proofs.«01_k».proof.Proof.Rows

@[expose] public section
noncomputable section
open Idealize.ShloMosaic Idealize.ShloMosaic.TcCoe
namespace Cert.Kernel2Ideal.Project
open Cert.Kernel2Ideal Cert.Kernel2Ideal.Gen
set_option maxRecDepth 16384

/-!
  What the input projection's body loads and computes of a tile, row by row.
-/

/-- A load of 1024 columns of a modulation row. -/
theorem ld_mod (x : Vec Ideal S1x1x6144 .f32) (o : ℕ) (inb) (ho : o + 1024 ≤ 6144) (e : Fin 1024) :
    View.ld x (Rect.unit (s := S1x1x6144) ![0, 0, o] ![1, 1, 1024] inb) (ix3 0 0 e) = x (ix3 0 0 ⟨o + e.val, by omega⟩) := by
  refine View.ld_unit_apply_of x _ _ _ _ _ fun a => ?_
  match a with
  | ⟨0, _⟩ => rfl
  | ⟨1, _⟩ => rfl
  | ⟨2, _⟩ => rfl

/-- A load of some columns of the projection. -/
theorem ld_cols (x : Vec Ideal S1024x3840 .bf16) (o w : ℕ) (inb) (ho : o + w ≤ 3840) (r : Fin 1024) (e : Fin w) :
    View.ld x (Rect.unit (s := S1024x3840) ![0, o] ![1024, w] inb) (ix2 r e) = x (ix2 r ⟨o + e.val, by omega⟩) := by
  refine View.ld_unit_apply_of x _ _ _ _ _ fun a => ?_
  match a with
  | ⟨0, _⟩ => exact (Nat.zero_add _).symm
  | ⟨1, _⟩ => rfl

/-- A load of a whole tile is the tile. -/
theorem ld_tile (x : Vec Ideal S1x256x1024 .f32) (inb) (a : Fin 1) (b : Fin 256) (c : Fin 1024) : View.ld x (Rect.unit (s := S1x256x1024) ![0, 0, 0] ![1, 256, 1024] inb) (ix3 a b c) = x (ix3 a b c) :=
  congrFun (View.ld_unit_lit (S := S1x256x1024) _ x (by decide)) _

/-- The modulated norm of a tile's row, as the body computes it. -/
theorem hidden_apply (x : Vec Ideal S1x256x1024 .f32) (sc sh : Vec Ideal S1x1x1024 .f32) (r : Fin 256) (d : Fin 1024) :
    k0_pay594 (k0_pay593 x sc) sh (ix2 r d)
      = _root_.Merge.modulated (fun e => x (ix3 0 r e)) (fun e => sc (ix3 0 0 e)) (fun e => sh (ix3 0 0 e)) d := by
  pointwise [k0_pay594, k0_pay593]
  rfl

/-- A row of a tile's norm against 1536 columns. -/
theorem dot595_apply (v : FVec Ideal S256x1024 .f32) (sh : Vec Ideal S1x1x1024 .f32) (w : Vec Ideal S1024x1536 .bf16) (r : Fin 256) (d : Fin 1536) :
    k0_pay595 v sh w (ix3 0 r d) = ∑ e, k0_pay594 v sh (ix2 r e) * w (ix2 e d) := by
  pointwise [k0_pay595]

/-- A row of a tile's norm against 1024 columns. -/
theorem dot596_apply (v : FVec Ideal S256x1024 .f32) (sh : Vec Ideal S1x1x1024 .f32) (w : Vec Ideal S1024x1024 .bf16) (r : Fin 256) (d : Fin 1024) :
    k0_pay596 v sh w (ix3 0 r d) = ∑ e, k0_pay594 v sh (ix2 r e) * w (ix2 e d) := by
  pointwise [k0_pay596]

/-- A row of a tile's norm against 512 columns. -/
theorem dot597_apply (v : FVec Ideal S256x1024 .f32) (sh : Vec Ideal S1x1x1024 .f32) (w : Vec Ideal S1024x512 .bf16) (r : Fin 256) (d : Fin 512) :
    k0_pay597 v sh w (ix3 0 r d) = ∑ e, k0_pay594 v sh (ix2 r e) * w (ix2 e d) := by
  pointwise [k0_pay597]

/-- A row of a tile's norm against 512 columns. -/
theorem dot598_apply (v : FVec Ideal S256x1024 .f32) (sh : Vec Ideal S1x1x1024 .f32) (w : Vec Ideal S1024x512 .bf16) (r : Fin 256) (d : Fin 512) :
    k0_pay598 v sh w (ix3 0 r d) = ∑ e, k0_pay594 v sh (ix2 r e) * w (ix2 e d) := by
  pointwise [k0_pay598]

/-- A row of a tile's norm against the step widths' columns. -/
theorem dot1_apply (h : FVec Ideal S256x1024 .bf16) (w : Vec Ideal S1024x256 .bf16) (r : Fin 256) (d : Fin 256) :
    k0_pay1 h (k0_pay599 w) (ix3 0 r d) = ∑ e, h (ix2 r e) * w (ix2 e d) := by
  pointwise [k0_pay1, k0_pay599]

/-- The carried block: the S5 input without its leading axis. -/
theorem carried_apply (v : Vec Ideal S1x256x512 .f32) (r : Fin 256) (d : Fin 512) : k0_pay2 v (ix2 r d) = v (ix3 0 r d) := by
  pointwise [k0_pay2]

end Cert.Kernel2Ideal.Project
-- ==== Proof.ProjLayout.lean ====
module

public import proofs.«01_k».proof.Proof.Gen.Kernel2Ideal.Frame
public import Idealize.ShloMosaic.Lib.Pipeline.ValueKit.Tiles
public import Idealize.ShloMosaic.Lib.Pipeline.ReadBack
public import proofs.«01_k».proof.Proof.Rows

@[expose] public section
noncomputable section
open Idealize.ShloMosaic Idealize.ShloMosaic.TcCoe
namespace Cert.Kernel2Ideal.Project
open Cert.Kernel2Ideal Cert.Kernel2Ideal.Gen
set_option maxRecDepth 16384

/-!
  The S5 input's tile laid out for the scan: 512 blocks of 16 by 16, each cut from the permuted tile, stored side by
  side.
-/

/-- The tile the 512 stores leave: group `g`, chunk `q`, lane `t * 16 + k` is row `t * 16 + q` of the permuted tile,
    column `g * 16 + k`. -/
def laid (p : Vec Ideal S256x512 .f32) : Vec Ideal S32x16x256 .bf16 := fun i =>
  p (ix2 ⟨(i 2).val / 16 * 16 + (i 1).val, by have h1 : (i 1).val < 16 := (i 1).isLt; have h2 : (i 2).val < 256 := (i 2).isLt; omega⟩
    ⟨(i 0).val * 16 + (i 2).val % 16, by have h0 : (i 0).val < 32 := (i 0).isLt; omega⟩)

/-- The rows block `n` is cut from lie in the tile. -/
theorem rows_in (n : ℕ) : S256x512.Slices ![16 * (n % 512 / 32), 0] S16x512 := by
  refine ⟨rfl, fun a => ?_⟩
  match a with
  | ⟨0, _⟩ => show 16 * (n % 512 / 32) + 16 ≤ 256; omega
  | ⟨1, _⟩ => show 0 + 512 ≤ 512; omega

/-- The columns block `n` is cut from lie in those rows. -/
theorem cols_in (n : ℕ) : S16x512.Slices ![0, 16 * (n % 32)] S16x16 := by
  refine ⟨rfl, fun a => ?_⟩
  match a with
  | ⟨0, _⟩ => show 0 + 16 ≤ 16; omega
  | ⟨1, _⟩ => show 16 * (n % 32) + 16 ≤ 512; omega

/-- The place block `n` is stored at lies in the result. -/
theorem place_in (n : ℕ) (a : Fin 3) : (![n % 32, 0, 16 * (n % 512 / 32)] : Fin 3 → ℕ) a + S1x16x16.size a ≤ S32x16x256.size a := by
  match a with
  | ⟨0, _⟩ => show n % 32 + 1 ≤ 32; omega
  | ⟨1, _⟩ => show 0 + 16 ≤ 16; omega
  | ⟨2, _⟩ => show 16 * (n % 512 / 32) + 16 ≤ 256; omega

/-- What block `n` holds. -/
def cut (p : FVec Ideal S256x512 .f32) (n : ℕ) : FVec Ideal S1x16x16 .bf16 :=
  shapeCast S1x16x16 (truncf .bf16 (extractStridedSlice S16x16 ![0, 16 * (n % 32)]
    (extractStridedSlice S16x512 ![16 * (n % 512 / 32), 0] p (rows_in n)) (cols_in n)) bitsLt_bf16_f32) shapeCasts_S16x16_S1x16x16

/-- A block's elements come from the tile. -/
theorem cut_apply (p : FVec Ideal S256x512 .f32) (n : ℕ) (z : Fin 1) (a b : Fin 16) :
    cut p n (ix3 z a b) = p (ix2 ⟨16 * (n % 512 / 32) + a.val, by omega⟩ ⟨16 * (n % 32) + b.val, by omega⟩) := by
  unfold cut
  pointwise

/-- Block `n` of the 512: token `n / 32` of the chunks, group `n % 32`. -/
def block (p : FVec Ideal S256x512 .f32) (n : ℕ) : View.Piece (Elt Ideal) S32x16x256 .bf16 :=
  ⟨Rect.unit (s := S32x16x256) ![n % 32, 0, 16 * (n % 512 / 32)] S1x16x16.size (place_in n), cut p n⟩

/-- The first `n` blocks, the last stored first. -/
def blocks (p : FVec Ideal S256x512 .f32) (n : ℕ) : List (View.Piece (Elt Ideal) S32x16x256 .bf16) :=
  Nat.rec [] (fun k l => block p k :: l) n

/-- One block is where it belongs in the tile laid out. -/
theorem block_laid (p : FVec Ideal S256x512 .f32) (n : ℕ) (y : S1x16x16.Idx) :
    cut p n y = laid p ((Rect.unit (s := S32x16x256) ![n % 32, 0, 16 * (n % 512 / 32)] S1x16x16.size (place_in n)).emb y) := by
  idx_vars y
  rw [cut_apply]
  unfold laid
  have h0 := y0.isLt
  have h1 := y1.isLt
  have h2 := y2.isLt
  refine congrArg p ?_
  funext a
  apply Fin.ext
  match a with
  | ⟨0, _⟩ => show 16 * (n % 512 / 32) + y1.val = (16 * (n % 512 / 32) + 1 * y2.val) / 16 * 16 + (0 + 1 * y1.val); omega
  | ⟨1, _⟩ => show 16 * (n % 32) + y2.val = (n % 32 + 1 * y0.val) * 16 + (16 * (n % 512 / 32) + 1 * y2.val) % 16; omega

/-- Every one of them is a block of the tile laid out. -/
theorem blocks_laid (p : FVec Ideal S256x512 .f32) (n : ℕ) : View.PiecesOf (laid p) (blocks p n) := by
  induction n with
  | zero => exact trivial
  | succ k ih => exact ⟨fun y => block_laid p k y, ih⟩

/-- The permuted tile: the permutation against the carried one. -/
theorem permuted_apply (v3 : Vec Ideal S256x256 .bf16) (v5 : Vec Ideal S256x512 .bf16) (r : Fin 256) (d : Fin 512) :
    k0_pay4 v3 v5 (ix2 r d) = ∑ q, v3 (ix2 r q) * v5 (ix2 q d) := by
  pointwise [k0_pay4]

/-- The stores of a later point are the 512 blocks of the permuted tile. -/
theorem stores_B : @out0_B_9 Ideal _ = fun c i a1 h1 a2 h2 a3 h3 a4 h4 a5 h5 a6 h6 a7 h7 a8 h8 a9 h9 a10 h10 a11 h11 hc x0 x1 x2 x3 xs =>
    View.canon (blocks (kernelRun0_B.sl.r c a4 h4 a11 h11 x3 xs) 512) := by
  funext c i a1 h1 a2 h2 a3 h3 a4 h4 a5 h5 a6 h6 a7 h7 a8 h8 a9 h9 a10 h10 a11 h11 hc x0 x1 x2 x3 xs
  unfold out0_B_9
  rw [View.read_writes_junk_eq_canon]
  unfold kernelRun0_B
  dsimp only
  refine congrArg View.canon ?_
  sl_kernel_rfl

/-- Together they are the permuted tile laid out. -/
theorem laid_blocks (p : FVec Ideal S256x512 .f32) (j : S32x16x256.Idx) : View.canon (blocks p 512) j = laid p j :=
  View.canon_apply_of_pieces _ _ (blocks_laid _ 512).mem _ (View.cover_of_tiledL _ ![1, 16, 16] (by sl_kernel_rfl) _)

end Cert.Kernel2Ideal.Project
-- ==== Proof.ProjChain.lean ====
module

public import proofs.«01_k».proof.Proof.ProjPieces
public import proofs.«01_k».proof.Proof.ProjLayout
public import proofs.«01_k».proof.Proof.ProjBlocks

@[expose] public section
noncomputable section
open Idealize.ShloMosaic Idealize.ShloMosaic.TcCoe
namespace Cert.Kernel2Ideal.Project
open Cert.Kernel2Ideal Cert.Kernel2Ideal.Gen _root_.Project
set_option maxRecDepth 16384

/-!
  What each point of the input projection's grid leaves: the newest tile's five results, the S5 input it carries, and
  the tile before in the scan's layout.
-/

variable (m : (ℓ : Loc nD τ sig) → Buf (Elt Ideal) ℓ) (c : Dev nD)

set_option maxHeartbeats 4000000 in
/-- A row of the newest tile's modulated norm against some of the projection's columns. -/
theorem product (t : Fin cfg0.N) (o w : ℕ) (inb) (ho : o + w ≤ 3840) (r : Fin 256) (d : Fin w) :
    ∑ e, k0_pay594 (k0_pay593 (View.ld (iblk m c 0 t) (Rect.unit ![0, 0, 0] S1x256x1024.size inb_S1x256x1024_S1x256x1024_0_0_0))
          (View.ld (iblk m c 1 t) (Rect.unit ![0, 0, 1024] S1x1x1024.size inb_S1x1x6144_S1x1x1024_0_0_1024)))
        (View.ld (iblk m c 1 t) (Rect.unit ![0, 0, 0] S1x1x1024.size inb_S1x1x6144_S1x1x1024_0_0_0)) (ix2 r e)
        * View.ld (iblk m c 2 t : Vec Ideal S1024x3840 .bf16) (Rect.unit (s := S1024x3840) ![0, o] ![1024, w] inb) (ix2 e d)
      = (args m c).proj (seq (tile 0 t)) (tok (tile 0 t) r) ⟨o + d.val, by omega⟩ := by
  refine Finset.sum_congr rfl fun e _ => congrArg₂ (· * ·) ?_ ((ld_cols (iblk m c 2 t) o w _ ho e d).trans (block_2 m c t e _))
  rw [hidden_apply]
  refine congrFun (congr (congr (congrArg _root_.Merge.modulated (funext fun e => ?_)) (funext fun e => ?_)) (funext fun e => ?_)) e
  · exact (ld_tile (iblk m c 0 t) _ 0 r e).trans (block_0 m c t 0 r e)
  · exact (ld_mod (iblk m c 1 t) 1024 _ (by decide) e).trans (block_1 m c t r 0 0 _)
  · exact (ld_mod (iblk m c 1 t) 0 _ (by decide) e).trans (block_1 m c t r 0 0 _)

set_option maxHeartbeats 4000000 in
/-- The attentions' rows of the newest tile. -/
theorem attn_left (t : Fin cfg0.N) (r : Fin 256) (d : Fin 1536) :
    (outsAt0 m c t.val t.isLt).1 (ix3 0 r d) = (args m c).attn (seq (tile 0 t)) (tok (tile 0 t) r) d := by
  refine Eq.trans ?_ (product m c t 0 1536 inb_S1024x3840_S1024x1536_0_0 (by decide) r d)
  by_cases h0 : t.val % 145 = 0
  on_goal 1 => rw [outsAt0_A m c t h0]; dsimp only; unfold out0_A_4; rw [View.read_writes_junk_eq_canon]; unfold kernelRun0_A
  on_goal 2 => rw [outsAt0_B m c t h0]; dsimp only; unfold out0_B_4; rw [View.read_writes_junk_eq_canon]; unfold kernelRun0_B
  all_goals
    dsimp only
    simp only [kernelRun0_A.sl.r_87, kernelRun0_A.sl.r_86, kernelRun0_B.sl.r_87, kernelRun0_B.sl.r_86, View.readAt_eq_ld,
      Memref.IsWhole.read_unread]
    refine (congrFun (View.canon_cons_unit_lit (S := S1x256x1536) _ _ _ (by decide)) _).trans ?_
    exact dot595_apply _ _ _ r d

set_option maxHeartbeats 4000000 in
/-- The convolution's rows of the newest tile. -/
theorem conv_left (t : Fin cfg0.N) (r : Fin 256) (d : Fin 1024) :
    (outsAt0 m c t.val t.isLt).2.1 (ix3 0 r d) = (args m c).conv (seq (tile 0 t)) (tok (tile 0 t) r) d := by
  refine Eq.trans ?_ (product m c t 1536 1024 inb_S1024x3840_S1024x1024_0_1536 (by decide) r d)
  by_cases h0 : t.val % 145 = 0
  on_goal 1 => rw [outsAt0_A m c t h0]; dsimp only; unfold out0_A_5; rw [View.read_writes_junk_eq_canon]; unfold kernelRun0_A
  on_goal 2 => rw [outsAt0_B m c t h0]; dsimp only; unfold out0_B_5; rw [View.read_writes_junk_eq_canon]; unfold kernelRun0_B
  all_goals
    dsimp only
    simp only [kernelRun0_A.sl.r_87, kernelRun0_A.sl.r_86, kernelRun0_B.sl.r_87, kernelRun0_B.sl.r_86, View.readAt_eq_ld,
      Memref.IsWhole.read_unread]
    refine (congrFun (View.canon_cons_unit_lit (S := S1x256x1024) _ _ _ (by decide)) _).trans ?_
    exact dot596_apply _ _ _ r d

set_option maxHeartbeats 4000000 in
/-- The state space gate's rows of the newest tile. -/
theorem sz_left (t : Fin cfg0.N) (r : Fin 256) (d : Fin 512) :
    (outsAt0 m c t.val t.isLt).2.2.1 (ix3 0 r d) = (args m c).sz (seq (tile 0 t)) (tok (tile 0 t) r) d := by
  refine Eq.trans ?_ (product m c t 2560 512 inb_S1024x3840_S1024x512_0_2560 (by decide) r d)
  by_cases h0 : t.val % 145 = 0
  on_goal 1 => rw [outsAt0_A m c t h0]; dsimp only; unfold out0_A_6; rw [View.read_writes_junk_eq_canon]; unfold kernelRun0_A
  on_goal 2 => rw [outsAt0_B m c t h0]; dsimp only; unfold out0_B_6; rw [View.read_writes_junk_eq_canon]; unfold kernelRun0_B
  all_goals
    dsimp only
    simp only [kernelRun0_A.sl.r_87, kernelRun0_A.sl.r_86, kernelRun0_B.sl.r_87, kernelRun0_B.sl.r_86, View.readAt_eq_ld,
      Memref.IsWhole.read_unread]
    refine (congrFun (View.canon_cons_unit_lit (S := S1x256x512) _ _ _ (by decide)) _).trans ?_
    exact dot597_apply _ _ _ r d

set_option maxHeartbeats 4000000 in
/-- The S5 input's rows of the newest tile. -/
theorem su_left (t : Fin cfg0.N) (r : Fin 256) (d : Fin 512) :
    (outsAt0 m c t.val t.isLt).2.2.2.1 (ix3 0 r d) = (args m c).su (seq (tile 0 t)) (tok (tile 0 t) r) d := by
  refine Eq.trans ?_ (product m c t 3072 512 inb_S1024x3840_S1024x512_0_3072 (by decide) r d)
  by_cases h0 : t.val % 145 = 0
  on_goal 1 => rw [outsAt0_A m c t h0]; dsimp only; unfold out0_A_7; rw [View.read_writes_junk_eq_canon]; unfold kernelRun0_A
  on_goal 2 => rw [outsAt0_B m c t h0]; dsimp only; unfold out0_B_7; rw [View.read_writes_junk_eq_canon]; unfold kernelRun0_B
  all_goals
    dsimp only
    simp only [kernelRun0_A.sl.H7_1, kernelRun0_A.sl.r_87, kernelRun0_A.sl.r_86, kernelRun0_B.sl.H7_1, kernelRun0_B.sl.r_87,
      kernelRun0_B.sl.r_86, View.readAt_eq_ld, Memref.IsWhole.read_unread]
    refine (congrFun (View.canon_cons_unit_lit (S := S1x256x512) _ _ _ (by decide)) _).trans ?_
    exact dot598_apply _ _ _ r d

set_option maxHeartbeats 4000000 in
/-- The step widths' rows of the newest tile. -/
theorem dt_left (t : Fin cfg0.N) (r : Fin 256) (d : Fin 256) :
    (outsAt0 m c t.val t.isLt).2.2.2.2.1 (ix3 0 r d) = (args m c).dt (seq (tile 0 t)) (tok (tile 0 t) r) d := by
  refine Eq.trans ?_ (product m c t 3584 256 inb_S1024x3840_S1024x256_0_3584 (by decide) r d)
  by_cases h0 : t.val % 145 = 0
  on_goal 1 => rw [outsAt0_A m c t h0]; dsimp only; unfold out0_A_8; rw [View.read_writes_junk_eq_canon]; unfold kernelRun0_A
  on_goal 2 => rw [outsAt0_B m c t h0]; dsimp only; unfold out0_B_8; rw [View.read_writes_junk_eq_canon]; unfold kernelRun0_B
  all_goals
    dsimp only
    simp only [kernelRun0_A.sl.r_88, kernelRun0_A.sl.r_89, kernelRun0_A.sl.r_87, kernelRun0_A.sl.r_86, kernelRun0_B.sl.r_88,
      kernelRun0_B.sl.r_89, kernelRun0_B.sl.r_87, kernelRun0_B.sl.r_86, View.readAt_eq_ld, Memref.IsWhole.read_unread]
    refine (congrFun (View.canon_cons_unit_lit (S := S1x256x256) _ _ _ (by decide)) _).trans ?_
    exact dot1_apply _ _ r d

set_option maxHeartbeats 4000000 in
/-- After every point the carried block is the newest tile's S5 input. -/
theorem next_left (t : Fin cfg0.N) (r : Fin 256) (d : Fin 512) :
    (outsAt0 m c t.val t.isLt).2.2.2.2.2.2 (ix2 r d) = (args m c).su (seq (tile 0 t)) (tok (tile 0 t) r) d := by
  refine Eq.trans ?_ (product m c t 3072 512 inb_S1024x3840_S1024x512_0_3072 (by decide) r d)
  by_cases h0 : t.val % 145 = 0
  on_goal 1 => rw [outsAt0_A m c t h0]; dsimp only; unfold sout0_A_0; rw [View.read_writes_junk_eq_canon]; unfold kernelRun0_A
  on_goal 2 => rw [outsAt0_B m c t h0]; dsimp only; unfold sout0_B_0; rw [View.read_writes_junk_eq_canon]; unfold kernelRun0_B
  all_goals
    dsimp only
    simp only [kernelRun0_A.sl.v2642, kernelRun0_A.sl.H7_1, kernelRun0_A.sl.r_87, kernelRun0_A.sl.r_86, kernelRun0_B.sl.v2642,
      kernelRun0_B.sl.H7_1, kernelRun0_B.sl.r_87, kernelRun0_B.sl.r_86, View.readAt_eq_ld, Memref.IsWhole.read_unread]
    refine (congrFun (View.canon_cons_unit_lit (S := S256x512) _ _ _ (by decide)) _).trans ?_
    rw [carried_apply, View.readCov_eq_canon']
    refine (congrFun (View.canon_cons_unit_lit (S := S1x256x512) _ _ _ (by decide)) _).trans ?_
    refine Eq.trans (congrArg _ (funext fun a => Fin.ext ?_)) (dot598_apply _ _ _ r d)
    match a with
    | ⟨0, _⟩ => rfl
    | ⟨1, _⟩ => show 0 + 1 * r.val = r.val; omega
    | ⟨2, _⟩ => show 0 + 1 * d.val = d.val; omega

/-- The point before. -/
def prev (t : Fin cfg0.N) : Fin cfg0.N := ⟨t.val - 1, Nat.lt_of_le_of_lt (Nat.sub_le _ _) t.isLt⟩

/-- A whole load of the permutation is the permutation. -/
theorem ld_swap (x : Vec Ideal S256x256 .bf16) (inb) (a : Fin 256) (b : Fin 256) : View.ld x (Rect.unit (s := S256x256) ![0, 0] ![256, 256] inb) (ix2 a b) = x (ix2 a b) :=
  congrFun (View.ld_unit_lit (S := S256x256) _ x (by decide)) _

/-- A whole load of the carried block is the carried block. -/
theorem ld_next (x : Vec Ideal S256x512 .bf16) (inb) (a : Fin 256) (b : Fin 512) : View.ld x (Rect.unit (s := S256x512) ![0, 0] ![256, 512] inb) (ix2 a b) = x (ix2 a b) :=
  congrFun (View.ld_unit_lit (S := S256x512) _ x (by decide)) _

/-- The permutation brings a row of the carried tile to its place. -/
theorem moved_B (arg4 : Memref sig .tc .vmem S256x256 .bf16) (harg4 : arg4.IsWhole) (arg11 : Memref sig .tc .vmem S256x512 .bf16) (harg11 : arg11.IsWhole)
    (x3 : Vec Ideal S256x256 .bf16) (xs0 : Vec Ideal S256x512 .bf16)
    (hx : ∀ r e : Fin 256, x3 (ix2 r e) = (if e.val = r.val % 16 * 16 + r.val / 16 then 1 else 0 : EReal)) (r : Fin 256) (d : Fin 512) :
    kernelRun0_B.sl.r c arg4 harg4 arg11 harg11 x3 xs0 (ix2 r d) = xs0 (ix2 ⟨r.val % 16 * 16 + r.val / 16, by omega⟩ d) := by
  unfold kernelRun0_B.sl.r
  simp only [View.readAt_eq_ld, Memref.IsWhole.read_unread]
  rw [permuted_apply]
  rw [Finset.sum_eq_single ⟨r.val % 16 * 16 + r.val / 16, by omega⟩]
  · refine Eq.trans (congrArg₂ (· * ·) (ld_swap x3 _ r _) (ld_next xs0 _ _ d)) ?_
    rw [hx, if_pos rfl, one_mul]
  · intro q _ hq
    refine Eq.trans (congrArg₂ (· * ·) (ld_swap x3 _ r q) rfl) ?_
    rw [hx, if_neg (fun h => hq (Fin.ext h)), zero_mul]
  · intro h
    exact absurd (Finset.mem_univ _) h

/-- A row the permutation picks from the tile before, as the scan's layout has it. -/
theorem su_u (a : Args) (t : Fin cfg0.N) (h0 : ¬t.val % 145 = 0) (g : Fin 32) (q : Fin 16) (l : Fin 256) :
    a.su (seq (tile 0 (prev t))) (tok (tile 0 (prev t)) ⟨(l.val / 16 * 16 + q.val) % 16 * 16 + (l.val / 16 * 16 + q.val) / 16, by omega⟩) ⟨g.val * 16 + l.val % 16, by omega⟩
      = a.u g ⟨(tile 1 t).val % 9 * 16 + q.val, by omega⟩ ⟨(tile 1 t).val / 9 * 256 + l.val, by omega⟩ := by
  have hl := l.isLt
  have hq := q.isLt
  have hu : (tile 0 (prev t)).val = (tile 1 t).val := rfl
  have e1 : (l.val / 16 * 16 + q.val) % 16 = q.val := by omega
  have e2 : (l.val / 16 * 16 + q.val) / 16 = l.val / 16 := by omega
  unfold Args.u
  congr 1
  · apply Fin.ext
    show (tile 0 (prev t)).val / 9 = ((tile 1 t).val / 9 * 256 + l.val) / 256
    rw [hu]
    omega
  · apply Fin.ext
    show (tile 0 (prev t)).val % 9 * 256 + ((l.val / 16 * 16 + q.val) % 16 * 16 + (l.val / 16 * 16 + q.val) / 16)
      = ((tile 1 t).val % 9 * 16 + q.val) * 16 + ((tile 1 t).val / 9 * 256 + l.val) / 16 % 16
    rw [hu, e1, e2]
    omega
  · apply Fin.ext
    show g.val * 16 + l.val % 16 = g.val * 16 + ((tile 1 t).val / 9 * 256 + l.val) % 16
    omega

set_option maxHeartbeats 4000000 in
/-- After every point but the first the S5 input's tile of the point before stands in the scan's layout. -/
theorem u_left (t : Fin cfg0.N) (h0 : ¬t.val % 145 = 0) (g : Fin 32) (q : Fin 16) (l : Fin 256) :
    (outsAt0 m c t.val t.isLt).2.2.2.2.2.1 (ix3 g q l)
      = (args m c).u g ⟨(tile 1 t).val % 9 * 16 + q.val, by omega⟩ ⟨(tile 1 t).val / 9 * 256 + l.val, by omega⟩ := by
  rw [outsAt0_B m c t h0]
  dsimp only
  rw [stores_B]
  refine (laid_blocks _ _).trans ?_
  unfold laid
  refine (moved_B c _ _ _ _ _ _ (fun r e => block_3 m c t r e) _ _).trans ?_
  exact (next_left m c (prev t) _ _).trans (su_u (args m c) t h0 g q l)

end Cert.Kernel2Ideal.Project
-- ==== Proof.FinalTile.lean ====
module

public import proofs.«01_k».proof.Proof.Gen.Kernel3Ideal.Value
public import Idealize.ShloMosaic.Lib.StableHlo.ReadAt
public import Idealize.ShloMosaic.Lib.Pipeline.ValueKit
public import proofs.«01_k».proof.Proof.FinalToken

@[expose] public section
noncomputable section
open Idealize.ShloMosaic Idealize.ShloMosaic.TcCoe Idealize.ShloMosaic.StableHlo
namespace Cert.Kernel3Ideal.Final
open Cert.Kernel3Ideal Cert.Kernel3Ideal.Gen _root_.Final
set_option maxRecDepth 16384

/-!
  What the body of the last call computes on a tile, at an index. It turns a routing row into a column by keeping the
  diagonal of its copies and summing each row of that square.
-/

/-- A row of the square with the routing row on its diagonal sums to the token's own weight. -/
theorem diagonal_apply (w : Fin 256 → EReal) (r : Fin 256) :
    ∑ q : Fin 256, Scalar.select (IntOp.cmpi .eq (BitVec.ofNat 32 r.val) (BitVec.ofNat 32 q.val)) (w q) (0 : EReal) = w r := by
  rw [Finset.sum_eq_single r]
  · simp [Scalar.select, IntOp.cmpi]
  · intro q _ hq
    have hw : BitVec.ofNat 32 r.val ≠ BitVec.ofNat 32 q.val := by
      intro e
      apply hq
      have hn := congrArg BitVec.toNat e
      simp only [BitVec.toNat_ofNat] at hn
      apply Fin.ext
      omega
    simp only [Scalar.select, IntOp.cmpi, beq_eq_false_iff_ne.2 hw]
    rfl
  · intro h
    exact absurd (Finset.mem_univ r) h

/-- The experts' weighted sum on a tile's row. -/
theorem mixed_apply (w0 w1 : Vec Ideal S1x256 .f32) (f0 f1 : Vec Ideal S1x1x256x1024 .bf16) (r : Fin 256) (d : Fin 1024) :
    k0_pay2 w0 w1 f0 f1 (ix2 r d) = mixed (w0 (ix2 0 r)) (w1 (ix2 0 r)) (fun d => f0 (ix4 0 0 r d)) (fun d => f1 (ix4 0 0 r d)) d := by
  pointwise [k0_pay2]
  rw [diagonal_apply, diagonal_apply]
  rfl

/-- The norm of a tile's row after the experts. -/
theorem tile_apply (h : FVec Ideal S256x1024 .f32) (x : Vec Ideal S1x256x1024 .f32) (gt : Vec Ideal S1x1x1024 .f32) (g b : Vec Ideal S1x1024 .f32) (z : Fin 1) (r : Fin 256) (d : Fin 1024) :
    k0_pay1 h (k0_pay3 x) (k0_pay4 gt) g b (ix3 z r d)
      = Merge.postNorm (stream (fun e => x (ix3 0 r e)) (fun e => gt (ix3 0 0 e)) (fun e => h (ix2 r e))) (fun e => g (ix2 0 e)) (fun e => b (ix2 0 e)) d := by
  pointwise [k0_pay1, k0_pay3, k0_pay4]
  rfl

/-- A routing row loaded whole. -/
theorem ld_row (x : Vec Ideal S8x256 .f32) (k : Fin 8) (inb) (z : Fin 1) (r : Fin 256) :
    View.ld x (Rect.unit (s := S8x256) ![k.val, 0] ![1, 256] inb) (ix2 z r) = x (ix2 k r) := by
  refine View.ld_unit_apply_of x _ _ _ _ _ fun a => ?_
  match a with
  | ⟨0, _⟩ => show k.val = k.val + z.val; omega
  | ⟨1, _⟩ => show r.val = 0 + r.val; omega

/-- The gate's columns of the modulation row. -/
theorem ld_gate (x : Vec Ideal S1x1x6144 .f32) (inb) (e : Fin 1024) :
    View.ld x (Rect.unit (s := S1x1x6144) ![0, 0, 5120] ![1, 1, 1024] inb) (ix3 0 0 e) = x (ix3 0 0 ⟨5120 + e.val, by omega⟩) := by
  refine View.ld_unit_apply_of x _ _ _ _ _ fun a => ?_
  match a with
  | ⟨0, _⟩ => rfl
  | ⟨1, _⟩ => rfl
  | ⟨2, _⟩ => rfl

/-- What the body leaves in the result's buffer, at an index, from the blocks it reads. -/
theorem out_apply (x0 : Vec Ideal S1x256x1024 .f32) (x1 : Vec Ideal S1x1x6144 .f32) (x2 x3 : Vec Ideal S1x1x256x1024 .bf16)
    (x4 : Vec Ideal S8x256 .f32) (x5 x6 : Vec Ideal S1x1024 .f32) (z : Fin 1) (r : Fin 256) (d : Fin 1024) :
    out0_7 x0 x1 x2 x3 x4 x5 x6 (ix3 z r d)
      = Merge.postNorm (stream (fun e => x0 (ix3 0 r e)) (fun e => x1 (ix3 0 0 ⟨5120 + e.val, by omega⟩))
          (mixed (x4 (ix2 2 r)) (x4 (ix2 3 r)) (fun e => x2 (ix4 0 0 r e)) (fun e => x3 (ix4 0 0 r e))))
        (fun e => x5 (ix2 0 e)) (fun e => x6 (ix2 0 e)) d := by
  unfold out0_7
  refine (congrFun (View.canon_cons_unit_lit (S := S1x256x1024) _ _ _ (by decide)) _).trans ?_
  rw [tile_apply]
  congr 1
  · congr 1
    · exact funext fun e => congrFun (View.ld_unit_lit (S := S1x256x1024) _ x0 (by decide)) _
    · exact funext fun e => ld_gate x1 _ e
    · funext e
      rw [mixed_apply]
      have h0 := ld_row x4 2 inb_S8x256_S1x256_2_0 0 r
      have h1 := ld_row x4 3 inb_S8x256_S1x256_3_0 0 r
      have h2 : View.ld x2 r0_3 = x2 := View.ld_unit_lit (S := S1x1x256x1024) _ x2 (by decide)
      have h3 : View.ld x3 r0_3 = x3 := View.ld_unit_lit (S := S1x1x256x1024) _ x3 (by decide)
      rw [h2, h3]
      exact congrArg₂ (fun u v => mixed u v _ _ e) h0 h1
  · exact funext fun e => congrFun (View.ld_unit_lit (S := S1x1024) _ x5 (by decide)) _
  · exact funext fun e => congrFun (View.ld_unit_lit (S := S1x1024) _ x6 (by decide)) _

end Cert.Kernel3Ideal.Final
-- ==== Proof.NextPieces.lean ====
module

public import proofs.«01_k».proof.Proof.NextBlocks
public import proofs.«01_k».proof.Proof.ProjChain
public import proofs.«01_k».proof.Proof.FinalTile

@[expose] public section
noncomputable section
open Idealize.ShloMosaic Idealize.ShloMosaic.TcCoe
namespace Cert.Kernel5Ideal.Next
open Cert.Kernel5Ideal Cert.Kernel5Ideal.Gen _root_.Next
open Cert.Kernel2Ideal.Project (tile seq tok ld_mod ld_cols ld_tile)
open Cert.Kernel3Ideal.Final (diagonal_apply ld_row ld_gate)
set_option maxRecDepth 16384

/-!
  What each point of the grid of the later layers' input projection leaves: the newest tile of the layer's output and of
  its products, the S5 input it carries, and the tile before in the scan's layout.
-/

/-- The norm of a tile's row after the experts. -/
theorem tile_apply (x : Vec Ideal S1x256x1024 .f32) (w0 w1 : Vec Ideal S1x256 .f32) (f0 f1 : Vec Ideal S1x1x256x1024 .bf16)
    (gt : Vec Ideal S1x1x1024 .f32) (g b : Vec Ideal S1x1024 .f32) (r : Fin 256) (d : Fin 1024) :
    k0_pay596 (k0_pay593 x) (k0_pay594 w1) (k0_pay595 w0 f0) f1 gt g b (ix2 r d)
      = Merge.postNorm (Final.stream (fun e => x (ix3 0 r e)) (fun e => gt (ix3 0 0 e))
          (Final.mixed (w0 (ix2 0 r)) (w1 (ix2 0 r)) (fun e => f0 (ix4 0 0 r e)) (fun e => f1 (ix4 0 0 r e))))
        (fun e => g (ix2 0 e)) (fun e => b (ix2 0 e)) d := by
  pointwise [k0_pay596, k0_pay593, k0_pay594, k0_pay595]
  simp only [diagonal_apply]
  rfl

/-- The modulated norm of a tile's row. -/
theorem hidden_apply (v : FVec Ideal S256x1024 .f32) (sc sh : Vec Ideal S1x1x1024 .f32) (r : Fin 256) (e : Fin 1024) :
    k0_pay598 v sc sh (ix2 r e) = Merge.modulated (fun e => v (ix2 r e)) (fun e => sc (ix3 0 0 e)) (fun e => sh (ix3 0 0 e)) e := by
  pointwise [k0_pay598]
  rfl

/-- A tile's products with the projection's columns, at a row. -/
theorem dots_apply (v : FVec Ideal S256x1024 .f32) (sc sh : Vec Ideal S1x1x1024 .f32) (r : Fin 256) :
    (∀ w d, k0_pay599 v sc sh w (ix3 0 r d) = ∑ e, k0_pay598 v sc sh (ix2 r e) * w (ix2 e d))
    ∧ (∀ w d, k0_pay601 (k0_pay600 v sc sh w) (ix3 0 r d) = ∑ e, k0_pay598 v sc sh (ix2 r e) * w (ix2 e d))
    ∧ (∀ h w d, k0_pay602 (F := Ideal) h w (ix3 0 r d) = ∑ e, h (ix2 r e) * w (ix2 e d))
    ∧ (∀ h w d, k0_pay603 (F := Ideal) h w (ix3 0 r d) = ∑ e, h (ix2 r e) * w (ix2 e d))
    ∧ (∀ h w d, k0_pay1 (k0_pay604 (F := Ideal) h w) (ix3 0 r d) = ∑ e, h (ix2 r e) * w (ix2 e d))
    ∧ (∀ u d, k0_pay2 (F := Ideal) u (ix2 r d) = u (ix3 0 r d)) := by
  refine ⟨fun w d => ?_, fun w d => ?_, fun h w d => ?_, fun h w d => ?_, fun h w d => ?_, fun u d => ?_⟩
  · pointwise [k0_pay599]
  · pointwise [k0_pay601, k0_pay600]
  · pointwise [k0_pay602]
  · pointwise [k0_pay603]
  · pointwise [k0_pay1, k0_pay604]
  · pointwise [k0_pay2]

variable (m : (ℓ : Loc nD τ sig) → Buf (Elt Ideal) ℓ) (c : Dev nD)

/-- The newest tile of the layer's output, out of the blocks. -/
def out (t : Fin cfg0.N) : FVec Ideal S256x1024 .f32 :=
  k0_pay596 (k0_pay593 (View.ld (iblk m c 0 t) (Rect.unit ![0, 0, 0] S1x256x1024.size inb_S1x256x1024_S1x256x1024_0_0_0)))
    (k0_pay594 (View.ld (iblk m c 4 t) (Rect.unit ![3, 0] S1x256.size inb_S8x256_S1x256_3_0)))
    (k0_pay595 (View.ld (iblk m c 4 t) (Rect.unit ![2, 0] S1x256.size inb_S8x256_S1x256_2_0))
      (View.ld (iblk m c 2 t) (Rect.unit ![0, 0, 0, 0] S1x1x256x1024.size inb_S1x1x256x1024_S1x1x256x1024_0_0_0_0)))
    (View.ld (iblk m c 3 t) (Rect.unit ![0, 0, 0, 0] S1x1x256x1024.size inb_S1x1x256x1024_S1x1x256x1024_0_0_0_0))
    (View.ld (iblk m c 1 t) (Rect.unit ![0, 0, 5120] S1x1x1024.size inb_S1x1x6144_S1x1x1024_0_0_5120))
    (View.ld (iblk m c 5 t) (Rect.unit ![0, 0] S1x1024.size inb_S1x1024_S1x1024_0_0))
    (View.ld (iblk m c 6 t) (Rect.unit ![0, 0] S1x1024.size inb_S1x1024_S1x1024_0_0))

set_option maxHeartbeats 4000000 in
/-- It is the layer's output on the tile's tokens. -/
theorem out_apply (t : Fin cfg0.N) (r : Fin 256) (d : Fin 1024) : out m c t (ix2 r d) = (args m c).x (seq (tile 0 t)) (tok (tile 0 t) r) d := by
  unfold out
  rw [tile_apply]
  unfold Args.x
  congr 1
  · congr 1
    · exact funext fun e => (ld_tile (iblk m c 0 t) _ 0 r e).trans (block_0 m c t 0 r e)
    · exact funext fun e => (ld_gate (iblk m c 1 t) _ e).trans (block_1 m c t r 0 0 _)
    · congr 1
      · exact (ld_row (iblk m c 4 t) 2 _ 0 r).trans (block_4 m c t 2 r)
      · exact (ld_row (iblk m c 4 t) 3 _ 0 r).trans (block_4 m c t 3 r)
      · exact funext fun e => (congrFun (View.ld_unit_lit (S := S1x1x256x1024) _ (iblk m c 2 t) (by decide)) _).trans (block_2 m c t 0 0 r e)
      · exact funext fun e => (congrFun (View.ld_unit_lit (S := S1x1x256x1024) _ (iblk m c 3 t) (by decide)) _).trans (block_3 m c t 0 0 r e)
  · exact funext fun e => (congrFun (View.ld_unit_lit (S := S1x1024) _ (iblk m c 5 t) (by decide)) _).trans (block_5 m c t 0 e)
  · exact funext fun e => (congrFun (View.ld_unit_lit (S := S1x1024) _ (iblk m c 6 t) (by decide)) _).trans (block_6 m c t 0 e)

set_option maxHeartbeats 4000000 in
/-- A row of its modulated norm against some of the projection's columns. -/
theorem product (t : Fin cfg0.N) (o w : ℕ) (inb) (ho : o + w ≤ 3840) (r : Fin 256) (d : Fin w) :
    ∑ e, k0_pay598 (out m c t) (View.ld (iblk m c 7 t) (Rect.unit ![0, 0, 1024] S1x1x1024.size inb_S1x1x6144_S1x1x1024_0_0_1024))
        (View.ld (iblk m c 7 t) (Rect.unit ![0, 0, 0] S1x1x1024.size inb_S1x1x6144_S1x1x1024_0_0_0)) (ix2 r e)
        * View.ld (iblk m c 8 t : Vec Ideal S1024x3840 .bf16) (Rect.unit (s := S1024x3840) ![0, o] ![1024, w] inb) (ix2 e d)
      = (args m c).next.proj (seq (tile 0 t)) (tok (tile 0 t) r) ⟨o + d.val, by omega⟩ := by
  refine Finset.sum_congr rfl fun e _ => congrArg₂ (· * ·) ?_ ((ld_cols (iblk m c 8 t) o w _ ho e d).trans (block_8 m c t e _))
  rw [hidden_apply]
  refine congrFun (congr (congr (congrArg Merge.modulated (funext fun e => out_apply m c t r e)) (funext fun e => ?_)) (funext fun e => ?_)) e
  · exact (ld_mod (iblk m c 7 t) 1024 _ (by decide) e).trans (block_7 m c t r 0 0 _)
  · exact (ld_mod (iblk m c 7 t) 0 _ (by decide) e).trans (block_7 m c t r 0 0 _)

set_option maxHeartbeats 4000000 in
/-- The layer's output on the newest tile. -/
theorem x_left (t : Fin cfg0.N) (r : Fin 256) (d : Fin 1024) :
    (outsAt0 m c t.val t.isLt).1 (ix3 0 r d) = (args m c).x (seq (tile 0 t)) (tok (tile 0 t) r) d := by
  refine Eq.trans ?_ (out_apply m c t r d)
  by_cases h0 : t.val % 145 = 0
  on_goal 1 => rw [outsAt0_A m c t h0]; dsimp only; unfold out0_A_10; rw [View.read_writes_junk_eq_canon]; unfold kernelRun0_A
  on_goal 2 => rw [outsAt0_B m c t h0]; dsimp only; unfold out0_B_10; rw [View.read_writes_junk_eq_canon]; unfold kernelRun0_B
  all_goals
    dsimp only
    refine (congrFun (View.canon_cons_unit_lit (S := S1x256x1024) _ _ _ (by decide)) _).trans ?_
    simp only [kernelRun0_A.sl.r_90, kernelRun0_A.sl.r_88, kernelRun0_A.sl.r_87, kernelRun0_A.sl.r_86, kernelRun0_B.sl.r_90,
      kernelRun0_B.sl.r_88, kernelRun0_B.sl.r_87, kernelRun0_B.sl.r_86, View.readAt_eq_ld, Memref.IsWhole.read_unread]
    pointwise [k0_pay597]
    rfl

end Cert.Kernel5Ideal.Next
-- ==== Proof.NextChain.lean ====
module

public import proofs.«01_k».proof.Proof.NextPieces

@[expose] public section
noncomputable section
open Idealize.ShloMosaic Idealize.ShloMosaic.TcCoe
namespace Cert.Kernel5Ideal.Next
open Cert.Kernel5Ideal Cert.Kernel5Ideal.Gen _root_.Next
open Cert.Kernel2Ideal.Project (tile seq tok prev ld_swap ld_next laid blocks laid_blocks permuted_apply su_u)
set_option maxRecDepth 16384

/-!
  The products each point of that grid leaves, the S5 input it carries, and the tile before in the scan's layout.
-/

variable (m : (ℓ : Loc nD τ sig) → Buf (Elt Ideal) ℓ) (c : Dev nD)

set_option maxHeartbeats 4000000 in
/-- The attentions' rows of the newest tile. -/
theorem attn_left (t : Fin cfg0.N) (r : Fin 256) (d : Fin 1536) :
    (outsAt0 m c t.val t.isLt).2.1 (ix3 0 r d) = (args m c).next.attn (seq (tile 0 t)) (tok (tile 0 t) r) d := by
  refine Eq.trans ?_ (product m c t 0 1536 inb_S1024x3840_S1024x1536_0_0 (by decide) r d)
  by_cases h0 : t.val % 145 = 0
  on_goal 1 => rw [outsAt0_A m c t h0]; dsimp only; unfold out0_A_11; rw [View.read_writes_junk_eq_canon]; unfold kernelRun0_A
  on_goal 2 => rw [outsAt0_B m c t h0]; dsimp only; unfold out0_B_11; rw [View.read_writes_junk_eq_canon]; unfold kernelRun0_B
  all_goals
    dsimp only
    simp only [kernelRun0_A.sl.r_89, kernelRun0_A.sl.r_88, kernelRun0_A.sl.r_87, kernelRun0_A.sl.r_86, kernelRun0_B.sl.r_89,
      kernelRun0_B.sl.r_88, kernelRun0_B.sl.r_87, kernelRun0_B.sl.r_86, View.readAt_eq_ld, Memref.IsWhole.read_unread]
    refine (congrFun (View.canon_cons_unit_lit (S := S1x256x1536) _ _ _ (by decide)) _).trans ?_
    exact (dots_apply _ _ _ r).1 _ d

set_option maxHeartbeats 4000000 in
/-- The convolution's rows of the newest tile. -/
theorem conv_left (t : Fin cfg0.N) (r : Fin 256) (d : Fin 1024) :
    (outsAt0 m c t.val t.isLt).2.2.1 (ix3 0 r d) = (args m c).next.conv (seq (tile 0 t)) (tok (tile 0 t) r) d := by
  refine Eq.trans ?_ (product m c t 1536 1024 inb_S1024x3840_S1024x1024_0_1536 (by decide) r d)
  by_cases h0 : t.val % 145 = 0
  on_goal 1 => rw [outsAt0_A m c t h0]; dsimp only; unfold out0_A_12; rw [View.read_writes_junk_eq_canon]; unfold kernelRun0_A
  on_goal 2 => rw [outsAt0_B m c t h0]; dsimp only; unfold out0_B_12; rw [View.read_writes_junk_eq_canon]; unfold kernelRun0_B
  all_goals
    dsimp only
    simp only [kernelRun0_A.sl.r_92, kernelRun0_A.sl.r_89, kernelRun0_A.sl.r_88, kernelRun0_A.sl.r_87, kernelRun0_A.sl.r_86,
      kernelRun0_B.sl.r_92, kernelRun0_B.sl.r_89, kernelRun0_B.sl.r_88, kernelRun0_B.sl.r_87, kernelRun0_B.sl.r_86,
      View.readAt_eq_ld, Memref.IsWhole.read_unread]
    refine (congrFun (View.canon_cons_unit_lit (S := S1x256x1024) _ _ _ (by decide)) _).trans ?_
    exact (dots_apply _ _ _ r).2.1 _ d

set_option maxHeartbeats 4000000 in
/-- The state space gate's rows of the newest tile. -/
theorem sz_left (t : Fin cfg0.N) (r : Fin 256) (d : Fin 512) :
    (outsAt0 m c t.val t.isLt).2.2.2.1 (ix3 0 r d) = (args m c).next.sz (seq (tile 0 t)) (tok (tile 0 t) r) d := by
  refine Eq.trans ?_ (product m c t 2560 512 inb_S1024x3840_S1024x512_0_2560 (by decide) r d)
  by_cases h0 : t.val % 145 = 0
  on_goal 1 => rw [outsAt0_A m c t h0]; dsimp only; unfold out0_A_13; rw [View.read_writes_junk_eq_canon]; unfold kernelRun0_A
  on_goal 2 => rw [outsAt0_B m c t h0]; dsimp only; unfold out0_B_13; rw [View.read_writes_junk_eq_canon]; unfold kernelRun0_B
  all_goals
    dsimp only
    simp only [kernelRun0_A.sl.r_91, kernelRun0_A.sl.r_89, kernelRun0_A.sl.r_88, kernelRun0_A.sl.r_87, kernelRun0_A.sl.r_86,
      kernelRun0_B.sl.r_91, kernelRun0_B.sl.r_89, kernelRun0_B.sl.r_88, kernelRun0_B.sl.r_87, kernelRun0_B.sl.r_86,
      View.readAt_eq_ld, Memref.IsWhole.read_unread]
    refine (congrFun (View.canon_cons_unit_lit (S := S1x256x512) _ _ _ (by decide)) _).trans ?_
    exact (dots_apply 0 0 0 r).2.2.1 _ _ d

set_option maxHeartbeats 4000000 in
/-- The S5 input's rows of the newest tile. -/
theorem su_left (t : Fin cfg0.N) (r : Fin 256) (d : Fin 512) :
    (outsAt0 m c t.val t.isLt).2.2.2.2.1 (ix3 0 r d) = (args m c).next.su (seq (tile 0 t)) (tok (tile 0 t) r) d := by
  refine Eq.trans ?_ (product m c t 3072 512 inb_S1024x3840_S1024x512_0_3072 (by decide) r d)
  by_cases h0 : t.val % 145 = 0
  on_goal 1 => rw [outsAt0_A m c t h0]; dsimp only; unfold out0_A_14; rw [View.read_writes_junk_eq_canon]; unfold kernelRun0_A
  on_goal 2 => rw [outsAt0_B m c t h0]; dsimp only; unfold out0_B_14; rw [View.read_writes_junk_eq_canon]; unfold kernelRun0_B
  all_goals
    dsimp only
    simp only [kernelRun0_A.sl.H14_1, kernelRun0_A.sl.r_91, kernelRun0_A.sl.r_89, kernelRun0_A.sl.r_88, kernelRun0_A.sl.r_87,
      kernelRun0_A.sl.r_86, kernelRun0_B.sl.H14_1, kernelRun0_B.sl.r_91, kernelRun0_B.sl.r_89, kernelRun0_B.sl.r_88,
      kernelRun0_B.sl.r_87, kernelRun0_B.sl.r_86, View.readAt_eq_ld, Memref.IsWhole.read_unread]
    refine (congrFun (View.canon_cons_unit_lit (S := S1x256x512) _ _ _ (by decide)) _).trans ?_
    exact (dots_apply 0 0 0 r).2.2.2.1 _ _ d

set_option maxHeartbeats 4000000 in
/-- The step widths' rows of the newest tile. -/
theorem dt_left (t : Fin cfg0.N) (r : Fin 256) (d : Fin 256) :
    (outsAt0 m c t.val t.isLt).2.2.2.2.2.1 (ix3 0 r d) = (args m c).next.dt (seq (tile 0 t)) (tok (tile 0 t) r) d := by
  refine Eq.trans ?_ (product m c t 3584 256 inb_S1024x3840_S1024x256_0_3584 (by decide) r d)
  by_cases h0 : t.val % 145 = 0
  on_goal 1 => rw [outsAt0_A m c t h0]; dsimp only; unfold out0_A_15; rw [View.read_writes_junk_eq_canon]; unfold kernelRun0_A
  on_goal 2 => rw [outsAt0_B m c t h0]; dsimp only; unfold out0_B_15; rw [View.read_writes_junk_eq_canon]; unfold kernelRun0_B
  all_goals
    dsimp only
    simp only [kernelRun0_A.sl.r_93, kernelRun0_A.sl.r_91, kernelRun0_A.sl.r_89, kernelRun0_A.sl.r_88, kernelRun0_A.sl.r_87,
      kernelRun0_A.sl.r_86, kernelRun0_B.sl.r_93, kernelRun0_B.sl.r_91, kernelRun0_B.sl.r_89, kernelRun0_B.sl.r_88,
      kernelRun0_B.sl.r_87, kernelRun0_B.sl.r_86, View.readAt_eq_ld, Memref.IsWhole.read_unread]
    refine (congrFun (View.canon_cons_unit_lit (S := S1x256x256) _ _ _ (by decide)) _).trans ?_
    exact (dots_apply 0 0 0 r).2.2.2.2.1 _ _ d

set_option maxHeartbeats 4000000 in
/-- After every point the carried block is the newest tile's S5 input. -/
theorem carried_left (t : Fin cfg0.N) (r : Fin 256) (d : Fin 512) :
    (outsAt0 m c t.val t.isLt).2.2.2.2.2.2.2 (ix2 r d) = (args m c).next.su (seq (tile 0 t)) (tok (tile 0 t) r) d := by
  refine Eq.trans ?_ (product m c t 3072 512 inb_S1024x3840_S1024x512_0_3072 (by decide) r d)
  by_cases h0 : t.val % 145 = 0
  on_goal 1 => rw [outsAt0_A m c t h0]; dsimp only; unfold sout0_A_0; rw [View.read_writes_junk_eq_canon]; unfold kernelRun0_A
  on_goal 2 => rw [outsAt0_B m c t h0]; dsimp only; unfold sout0_B_0; rw [View.read_writes_junk_eq_canon]; unfold kernelRun0_B
  all_goals
    dsimp only
    simp only [kernelRun0_A.sl.v2705, kernelRun0_A.sl.H14_1, kernelRun0_A.sl.r_91, kernelRun0_A.sl.r_89, kernelRun0_A.sl.r_88,
      kernelRun0_A.sl.r_87, kernelRun0_A.sl.r_86, kernelRun0_B.sl.v2705, kernelRun0_B.sl.H14_1, kernelRun0_B.sl.r_91,
      kernelRun0_B.sl.r_89, kernelRun0_B.sl.r_88, kernelRun0_B.sl.r_87, kernelRun0_B.sl.r_86, View.readAt_eq_ld,
      Memref.IsWhole.read_unread]
    refine (congrFun (View.canon_cons_unit_lit (S := S256x512) _ _ _ (by decide)) _).trans ?_
    refine ((dots_apply 0 0 0 r).2.2.2.2.2 _ d).trans ?_
    rw [View.readCov_eq_canon']
    refine (congrFun (View.canon_cons_unit_lit (S := S1x256x512) _ _ _ (by decide)) _).trans ?_
    refine Eq.trans (congrArg _ (funext fun a => Fin.ext ?_)) ((dots_apply 0 0 0 r).2.2.2.1 _ _ d)
    match a with
    | ⟨0, _⟩ => rfl
    | ⟨1, _⟩ => show 0 + 1 * r.val = r.val; omega
    | ⟨2, _⟩ => show 0 + 1 * d.val = d.val; omega

/-- The permutation brings a row of the carried tile to its place. -/
theorem moved (arg10 : Memref sig .tc .vmem S256x256 .bf16) (harg10 : arg10.IsWhole) (arg18 : Memref sig .tc .vmem S256x512 .bf16) (harg18 : arg18.IsWhole)
    (x9 : Vec Ideal S256x256 .bf16) (xs0 : Vec Ideal S256x512 .bf16)
    (hx : ∀ r e : Fin 256, x9 (ix2 r e) = (if e.val = r.val % 16 * 16 + r.val / 16 then 1 else 0 : EReal)) (r : Fin 256) (d : Fin 512) :
    kernelRun0_B.sl.r c arg10 harg10 arg18 harg18 x9 xs0 (ix2 r d) = xs0 (ix2 ⟨r.val % 16 * 16 + r.val / 16, by omega⟩ d) := by
  unfold kernelRun0_B.sl.r
  simp only [View.readAt_eq_ld, Memref.IsWhole.read_unread]
  refine (permuted_apply _ _ r d).trans ?_
  rw [Finset.sum_eq_single ⟨r.val % 16 * 16 + r.val / 16, by omega⟩]
  · refine Eq.trans (congrArg₂ (· * ·) (ld_swap x9 _ r _) (ld_next xs0 _ _ d)) ?_
    rw [hx, if_pos rfl, one_mul]
  · intro q _ hq
    refine Eq.trans (congrArg₂ (· * ·) (ld_swap x9 _ r q) rfl) ?_
    rw [hx, if_neg (fun h => hq (Fin.ext h)), zero_mul]
  · exact fun h => absurd (Finset.mem_univ _) h

/-- The stores of a later point are the 512 blocks of the permuted tile. -/
theorem stores : @out0_B_16 Ideal _ = fun c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 xs =>
    View.canon (blocks (kernelRun0_B.sl.r c a10 h10 a18 h18 x9 xs) 512) := by
  funext c i a1 h1 a2 h2 a3 h3 a4 h4 a5 h5 a6 h6 a7 h7 a8 h8 a9 h9 a10 h10 a11 h11 a12 h12 a13 h13 a14 h14 a15 h15 a16 h16 a17 h17 a18 h18 hc x0 x1 x2 x3 x4 x5 x6 x7 x8 x9 xs
  unfold out0_B_16
  rw [View.read_writes_junk_eq_canon]
  unfold kernelRun0_B
  dsimp only
  refine congrArg View.canon ?_
  sl_kernel_rfl

set_option maxHeartbeats 4000000 in
/-- After every point but the first the S5 input's tile of the point before stands in the scan's layout. -/
theorem u_left (t : Fin cfg0.N) (h0 : ¬t.val % 145 = 0) (g : Fin 32) (q : Fin 16) (l : Fin 256) :
    (outsAt0 m c t.val t.isLt).2.2.2.2.2.2.1 (ix3 g q l)
      = (args m c).next.u g ⟨(tile 1 t).val % 9 * 16 + q.val, by omega⟩ ⟨(tile 1 t).val / 9 * 256 + l.val, by omega⟩ := by
  rw [outsAt0_B m c t h0]
  dsimp only
  rw [stores]
  refine (laid_blocks _ _).trans ?_
  unfold laid
  refine (moved c _ _ _ _ _ _ (fun r e => block_9 m c t r e) _ _).trans ?_
  exact (carried_left m c (prev t) _ _).trans (su_u (args m c).next t h0 g q l)

end Cert.Kernel5Ideal.Next
-- ==== Proof.ProjResult.lean ====
module

public import proofs.«01_k».proof.Proof.Gen.Kernel2Ideal.Value
public import proofs.«01_k».proof.Proof.ProjChain

@[expose] public section
noncomputable section
open Idealize.ShloMosaic Idealize.ShloMosaic.TcCoe Idealize.SL.Sem
namespace Cert.Kernel2Ideal.Project
open Cert.Kernel2Ideal Cert.Kernel2Ideal.Gen _root_.Project
set_option maxRecDepth 16384

/-!
  The six result arrays after the run: every tile is written back once, so the arrays end at the projection of every
  token of every sequence.
-/

variable (m : (ℓ : Loc nD τ sig) → Buf (Elt Ideal) ℓ) (ρ : Dev nD → PrngReg) (c : Dev nD)

/-- The attentions' rows of every token of every sequence. -/
def attnOf (a : Args) : Vec Ideal S16x2304x1536 .f32 := fun i => a.attn (i 0) (i 1) (i 2)

/-- The convolution's rows of every token of every sequence. -/
def convOf (a : Args) : Vec Ideal S16x2304x1024 .f32 := fun i => a.conv (i 0) (i 1) (i 2)

/-- The state space gate's rows of every token of every sequence. -/
def szOf (a : Args) : Vec Ideal S16x2304x512 .f32 := fun i => a.sz (i 0) (i 1) (i 2)

/-- The S5 input's rows of every token of every sequence. -/
def suOf (a : Args) : Vec Ideal S16x2304x512 .f32 := fun i => a.su (i 0) (i 1) (i 2)

/-- The step widths' rows of every token of every sequence. -/
def dtOf (a : Args) : Vec Ideal S16x2304x256 .f32 := fun i => a.dt (i 0) (i 1) (i 2)

/-- The S5 input of every token of every sequence, in the scan's layout. -/
def uOf (a : Args) : Vec Ideal S32x144x4096 .bf16 := fun i => a.u (i 0) (i 1) (i 2)

/-- Every token lies in the newest tile of a step at which the results are written back. -/
theorem newest (s : Fin 16) (n : Fin 2304) : ∃ t : Fin cfg0.N, (t.val ≤ 142 ∨ t.val = 144) ∧ seq (tile 0 t) = s
    ∧ tok (tile 0 t) ⟨n.val % 256, by omega⟩ = n := by
  have hu : s.val * 9 + n.val / 256 ≤ 143 := by omega
  obtain ⟨t, ht, htv⟩ : ∃ t : Fin cfg0.N, (t.val ≤ 142 ∨ t.val = 144) ∧ min (t.val - 0) 143 = s.val * 9 + n.val / 256 := by
    by_cases hl : s.val * 9 + n.val / 256 = 143
    · exact ⟨⟨144, by decide⟩, Or.inr rfl, by rw [hl]; rfl⟩
    · exact ⟨⟨s.val * 9 + n.val / 256, by show _ < 145; omega⟩, Or.inl (by show s.val * 9 + n.val / 256 ≤ 142; omega), by
        show min (s.val * 9 + n.val / 256 - 0) 143 = _; omega⟩
  refine ⟨t, ht, ?_, ?_⟩ <;> apply Fin.ext
  · simp only [seq, tile]; rw [htv]; omega
  · simp only [tok, tile]; rw [htv]; omega

/-- Every lane of every chunk lies in the tile before at a step at which the scan's layout is written back. -/
theorem newest_u (h : Fin 144) (l : Fin 4096) : ∃ t : Fin cfg0.N, 1 ≤ t.val
    ∧ (⟨(tile 1 t).val % 9 * 16 + h.val % 16, by omega⟩ : Fin 144) = h ∧ (⟨(tile 1 t).val / 9 * 256 + l.val % 256, by omega⟩ : Fin 4096) = l := by
  have hu : l.val / 256 * 9 + h.val / 16 ≤ 143 := by omega
  obtain ⟨t, ht, htv⟩ : ∃ t : Fin cfg0.N, 1 ≤ t.val ∧ min (t.val - 1) 143 = l.val / 256 * 9 + h.val / 16 :=
    ⟨⟨l.val / 256 * 9 + h.val / 16 + 1, by show _ < 145; omega⟩, by show 1 ≤ _ + 1; omega, by
      show min (l.val / 256 * 9 + h.val / 16 + 1 - 1) 143 = _; omega⟩
  refine ⟨t, ht, ?_, ?_⟩ <;> apply Fin.ext <;> simp only [tile] <;> rw [htv] <;> omega

/-- Where the blocks that are written lie at each point, and when they are written back. -/
theorem index_out : ∀ t : Fin cfg0.N, ((win0_4.index t 0 = min (t.val - 0) 143 / 9 ∧ win0_4.index t 1 = min (t.val - 0) 143 % 9 ∧ win0_4.index t 2 = 0) ∧ ((cfg0.win 4).flush t = true ↔ (t.val ≤ 142 ∨ t.val = 144)))
    ∧ ((win0_5.index t 0 = min (t.val - 0) 143 / 9 ∧ win0_5.index t 1 = min (t.val - 0) 143 % 9 ∧ win0_5.index t 2 = 0) ∧ ((cfg0.win 5).flush t = true ↔ (t.val ≤ 142 ∨ t.val = 144)))
    ∧ ((win0_6.index t 0 = min (t.val - 0) 143 / 9 ∧ win0_6.index t 1 = min (t.val - 0) 143 % 9 ∧ win0_6.index t 2 = 0) ∧ ((cfg0.win 6).flush t = true ↔ (t.val ≤ 142 ∨ t.val = 144)))
    ∧ ((win0_7.index t 0 = min (t.val - 0) 143 / 9 ∧ win0_7.index t 1 = min (t.val - 0) 143 % 9 ∧ win0_7.index t 2 = 0) ∧ ((cfg0.win 7).flush t = true ↔ (t.val ≤ 142 ∨ t.val = 144)))
    ∧ ((win0_8.index t 0 = min (t.val - 0) 143 / 9 ∧ win0_8.index t 1 = min (t.val - 0) 143 % 9 ∧ win0_8.index t 2 = 0) ∧ ((cfg0.win 8).flush t = true ↔ (t.val ≤ 142 ∨ t.val = 144)))
    ∧ (win0_9.index t 0 = 0 ∧ win0_9.index t 1 = min (t.val - 1) 143 % 9 ∧ win0_9.index t 2 = min (t.val - 1) 143 / 9) ∧ ((cfg0.win 9).flush t = true ↔ 1 ≤ t.val) := by
  decide +kernel

/-- The attentions' rows of every token end in their array. -/
theorem final_4 : (dats m 0 c).arrAt 4 cfg0.N = attnOf (args m c) := by
  have emb : ∀ (t : Fin cfg0.N) (z : Fin 1) (r : Fin 256) (e : Fin 1536),
      ((cfg0.win 4).blk t).view.emb (ix3 z r e) = (ix3 (seq (tile 0 t)) (tok (tile 0 t) r) e : S16x2304x1536.Idx) := fun t z r e => by
    have hi := (index_out t).1.1
    funext a
    apply Fin.ext
    match a with
    | ⟨0, _⟩ => show win0_4.index t 0 * 1 + 1 * z.val = (seq _).val; rw [hi.1]; simp only [seq, tile]; omega
    | ⟨1, _⟩ => show win0_4.index t 1 * 256 + 1 * r.val = (tok _ r).val; rw [hi.2.1]; simp only [tok, tile]; omega
    | ⟨2, _⟩ => show win0_4.index t 2 * 1536 + 1 * e.val = e.val; rw [hi.2.2]; omega
  refine (dats m 0 c).arrAt_eq_of_cover 4 (attnOf (args m c)) (fun t _ => ?_) fun (i : S16x2304x1536.Idx) => ?_
  · show (cfg0.win 4).cut (grid0.coords t) ((dats m 0 c).after 4 t) = _
    rw [after0_4]
    funext j
    rw [View.read_apply]
    have key : ∀ y : S1x256x1536.Idx, (outsAt0 m c t.val t.isLt).1 y = attnOf (args m c) (((cfg0.win 4).blk t).view.emb y) := fun y => by
      idx_vars y
      rw [emb]
      obtain rfl : y0 = 0 := Subsingleton.elim _ _
      exact attn_left m c t y1 y2
    exact key j
  · idx_vars i
    obtain ⟨t, ht, hs, hk⟩ := newest i0 i1
    refine ⟨t, (index_out t).1.2.mpr ht, ?_⟩
    have hm := ((cfg0.win 4).blk t).view.emb_mem_set (ix3 (0 : Fin 1) ⟨i1.val % 256, by omega⟩ i2 : S1x256x1536.Idx)
    rw [emb] at hm
    exact (congrArg₂ (fun s n => (ix3 s n i2 : S16x2304x1536.Idx)) hs hk) ▸ hm

/-- The convolution's rows of every token end in their array. -/
theorem final_5 : (dats m 0 c).arrAt 5 cfg0.N = convOf (args m c) := by
  have emb : ∀ (t : Fin cfg0.N) (z : Fin 1) (r : Fin 256) (e : Fin 1024),
      ((cfg0.win 5).blk t).view.emb (ix3 z r e) = (ix3 (seq (tile 0 t)) (tok (tile 0 t) r) e : S16x2304x1024.Idx) := fun t z r e => by
    have hi := (index_out t).2.1.1
    funext a
    apply Fin.ext
    match a with
    | ⟨0, _⟩ => show win0_5.index t 0 * 1 + 1 * z.val = (seq _).val; rw [hi.1]; simp only [seq, tile]; omega
    | ⟨1, _⟩ => show win0_5.index t 1 * 256 + 1 * r.val = (tok _ r).val; rw [hi.2.1]; simp only [tok, tile]; omega
    | ⟨2, _⟩ => show win0_5.index t 2 * 1024 + 1 * e.val = e.val; rw [hi.2.2]; omega
  refine (dats m 0 c).arrAt_eq_of_cover 5 (convOf (args m c)) (fun t _ => ?_) fun (i : S16x2304x1024.Idx) => ?_
  · show (cfg0.win 5).cut (grid0.coords t) ((dats m 0 c).after 5 t) = _
    rw [after0_5]
    funext j
    rw [View.read_apply]
    have key : ∀ y : S1x256x1024.Idx, (outsAt0 m c t.val t.isLt).2.1 y = convOf (args m c) (((cfg0.win 5).blk t).view.emb y) := fun y => by
      idx_vars y
      rw [emb]
      obtain rfl : y0 = 0 := Subsingleton.elim _ _
      exact conv_left m c t y1 y2
    exact key j
  · idx_vars i
    obtain ⟨t, ht, hs, hk⟩ := newest i0 i1
    refine ⟨t, (index_out t).2.1.2.mpr ht, ?_⟩
    have hm := ((cfg0.win 5).blk t).view.emb_mem_set (ix3 (0 : Fin 1) ⟨i1.val % 256, by omega⟩ i2 : S1x256x1024.Idx)
    rw [emb] at hm
    exact (congrArg₂ (fun s n => (ix3 s n i2 : S16x2304x1024.Idx)) hs hk) ▸ hm

/-- The state space gate's rows of every token end in their array. -/
theorem final_6 : (dats m 0 c).arrAt 6 cfg0.N = szOf (args m c) := by
  have emb : ∀ (t : Fin cfg0.N) (z : Fin 1) (r : Fin 256) (e : Fin 512),
      ((cfg0.win 6).blk t).view.emb (ix3 z r e) = (ix3 (seq (tile 0 t)) (tok (tile 0 t) r) e : S16x2304x512.Idx) := fun t z r e => by
    have hi := (index_out t).2.2.1.1
    funext a
    apply Fin.ext
    match a with
    | ⟨0, _⟩ => show win0_6.index t 0 * 1 + 1 * z.val = (seq _).val; rw [hi.1]; simp only [seq, tile]; omega
    | ⟨1, _⟩ => show win0_6.index t 1 * 256 + 1 * r.val = (tok _ r).val; rw [hi.2.1]; simp only [tok, tile]; omega
    | ⟨2, _⟩ => show win0_6.index t 2 * 512 + 1 * e.val = e.val; rw [hi.2.2]; omega
  refine (dats m 0 c).arrAt_eq_of_cover 6 (szOf (args m c)) (fun t _ => ?_) fun (i : S16x2304x512.Idx) => ?_
  · show (cfg0.win 6).cut (grid0.coords t) ((dats m 0 c).after 6 t) = _
    rw [after0_6]
    funext j
    rw [View.read_apply]
    have key : ∀ y : S1x256x512.Idx, (outsAt0 m c t.val t.isLt).2.2.1 y = szOf (args m c) (((cfg0.win 6).blk t).view.emb y) := fun y => by
      idx_vars y
      rw [emb]
      obtain rfl : y0 = 0 := Subsingleton.elim _ _
      exact sz_left m c t y1 y2
    exact key j
  · idx_vars i
    obtain ⟨t, ht, hs, hk⟩ := newest i0 i1
    refine ⟨t, (index_out t).2.2.1.2.mpr ht, ?_⟩
    have hm := ((cfg0.win 6).blk t).view.emb_mem_set (ix3 (0 : Fin 1) ⟨i1.val % 256, by omega⟩ i2 : S1x256x512.Idx)
    rw [emb] at hm
    exact (congrArg₂ (fun s n => (ix3 s n i2 : S16x2304x512.Idx)) hs hk) ▸ hm

/-- The S5 input's rows of every token end in their array. -/
theorem final_7 : (dats m 0 c).arrAt 7 cfg0.N = suOf (args m c) := by
  have emb : ∀ (t : Fin cfg0.N) (z : Fin 1) (r : Fin 256) (e : Fin 512),
      ((cfg0.win 7).blk t).view.emb (ix3 z r e) = (ix3 (seq (tile 0 t)) (tok (tile 0 t) r) e : S16x2304x512.Idx) := fun t z r e => by
    have hi := (index_out t).2.2.2.1.1
    funext a
    apply Fin.ext
    match a with
    | ⟨0, _⟩ => show win0_7.index t 0 * 1 + 1 * z.val = (seq _).val; rw [hi.1]; simp only [seq, tile]; omega
    | ⟨1, _⟩ => show win0_7.index t 1 * 256 + 1 * r.val = (tok _ r).val; rw [hi.2.1]; simp only [tok, tile]; omega
    | ⟨2, _⟩ => show win0_7.index t 2 * 512 + 1 * e.val = e.val; rw [hi.2.2]; omega
  refine (dats m 0 c).arrAt_eq_of_cover 7 (suOf (args m c)) (fun t _ => ?_) fun (i : S16x2304x512.Idx) => ?_
  · show (cfg0.win 7).cut (grid0.coords t) ((dats m 0 c).after 7 t) = _
    rw [after0_7]
    funext j
    rw [View.read_apply]
    have key : ∀ y : S1x256x512.Idx, (outsAt0 m c t.val t.isLt).2.2.2.1 y = suOf (args m c) (((cfg0.win 7).blk t).view.emb y) := fun y => by
      idx_vars y
      rw [emb]
      obtain rfl : y0 = 0 := Subsingleton.elim _ _
      exact su_left m c t y1 y2
    exact key j
  · idx_vars i
    obtain ⟨t, ht, hs, hk⟩ := newest i0 i1
    refine ⟨t, (index_out t).2.2.2.1.2.mpr ht, ?_⟩
    have hm := ((cfg0.win 7).blk t).view.emb_mem_set (ix3 (0 : Fin 1) ⟨i1.val % 256, by omega⟩ i2 : S1x256x512.Idx)
    rw [emb] at hm
    exact (congrArg₂ (fun s n => (ix3 s n i2 : S16x2304x512.Idx)) hs hk) ▸ hm

/-- The step widths' rows of every token end in their array. -/
theorem final_8 : (dats m 0 c).arrAt 8 cfg0.N = dtOf (args m c) := by
  have emb : ∀ (t : Fin cfg0.N) (z : Fin 1) (r : Fin 256) (e : Fin 256),
      ((cfg0.win 8).blk t).view.emb (ix3 z r e) = (ix3 (seq (tile 0 t)) (tok (tile 0 t) r) e : S16x2304x256.Idx) := fun t z r e => by
    have hi := (index_out t).2.2.2.2.1.1
    funext a
    apply Fin.ext
    match a with
    | ⟨0, _⟩ => show win0_8.index t 0 * 1 + 1 * z.val = (seq _).val; rw [hi.1]; simp only [seq, tile]; omega
    | ⟨1, _⟩ => show win0_8.index t 1 * 256 + 1 * r.val = (tok _ r).val; rw [hi.2.1]; simp only [tok, tile]; omega
    | ⟨2, _⟩ => show win0_8.index t 2 * 256 + 1 * e.val = e.val; rw [hi.2.2]; omega
  refine (dats m 0 c).arrAt_eq_of_cover 8 (dtOf (args m c)) (fun t _ => ?_) fun (i : S16x2304x256.Idx) => ?_
  · show (cfg0.win 8).cut (grid0.coords t) ((dats m 0 c).after 8 t) = _
    rw [after0_8]
    funext j
    rw [View.read_apply]
    have key : ∀ y : S1x256x256.Idx, (outsAt0 m c t.val t.isLt).2.2.2.2.1 y = dtOf (args m c) (((cfg0.win 8).blk t).view.emb y) := fun y => by
      idx_vars y
      rw [emb]
      obtain rfl : y0 = 0 := Subsingleton.elim _ _
      exact dt_left m c t y1 y2
    exact key j
  · idx_vars i
    obtain ⟨t, ht, hs, hk⟩ := newest i0 i1
    refine ⟨t, (index_out t).2.2.2.2.1.2.mpr ht, ?_⟩
    have hm := ((cfg0.win 8).blk t).view.emb_mem_set (ix3 (0 : Fin 1) ⟨i1.val % 256, by omega⟩ i2 : S1x256x256.Idx)
    rw [emb] at hm
    exact (congrArg₂ (fun s n => (ix3 s n i2 : S16x2304x256.Idx)) hs hk) ▸ hm

/-- The S5 input ends in the scan's layout in its array. -/
theorem final_9 : (dats m 0 c).arrAt 9 cfg0.N = uOf (args m c) := by
  have emb : ∀ (t : Fin cfg0.N) (g : Fin 32) (q : Fin 16) (l : Fin 256), ((cfg0.win 9).blk t).view.emb (ix3 g q l)
      = (ix3 g ⟨(tile 1 t).val % 9 * 16 + q.val, by omega⟩ ⟨(tile 1 t).val / 9 * 256 + l.val, by omega⟩ : S32x144x4096.Idx) := fun t g q l => by
    have hi := (index_out t).2.2.2.2.2.1
    funext a
    apply Fin.ext
    match a with
    | ⟨0, _⟩ => show win0_9.index t 0 * 32 + 1 * g.val = g.val; rw [hi.1]; omega
    | ⟨1, _⟩ => show win0_9.index t 1 * 16 + 1 * q.val = (tile 1 t).val % 9 * 16 + q.val; rw [hi.2.1]; simp only [tile]; omega
    | ⟨2, _⟩ => show win0_9.index t 2 * 256 + 1 * l.val = (tile 1 t).val / 9 * 256 + l.val; rw [hi.2.2]; simp only [tile]; omega
  refine (dats m 0 c).arrAt_eq_of_cover 9 (uOf (args m c)) (fun t hf => ?_) fun (i : S32x144x4096.Idx) => ?_
  · have h1 : 1 ≤ t.val := (index_out t).2.2.2.2.2.2.mp hf
    have h2 : t.val < 145 := t.isLt
    show (cfg0.win 9).cut (grid0.coords t) ((dats m 0 c).after 9 t) = _
    rw [after0_9]
    funext j
    rw [View.read_apply]
    have key : ∀ y : S32x16x256.Idx, (outsAt0 m c t.val t.isLt).2.2.2.2.2.1 y = uOf (args m c) (((cfg0.win 9).blk t).view.emb y) := fun y => by
      idx_vars y
      rw [emb]
      exact u_left m c t (by omega) y0 y1 y2
    exact key j
  · idx_vars i
    obtain ⟨t, ht, hs, hk⟩ := newest_u i1 i2
    refine ⟨t, (index_out t).2.2.2.2.2.2.mpr ht, ?_⟩
    have hm := ((cfg0.win 9).blk t).view.emb_mem_set (ix3 i0 ⟨i1.val % 16, by omega⟩ ⟨i2.val % 256, by omega⟩ : S32x16x256.Idx)
    rw [emb] at hm
    exact (congrArg₂ (fun h l => (ix3 i0 h l : S32x144x4096.Idx)) hs hk) ▸ hm

/-- The run, read: the six result arrays at the results, the arguments unchanged. -/
theorem run : θ_run defs (onTc (τ := τ) (main (F := Ideal))) ⟨m, fun _ => 0, ρ⟩ (fun r => ∀ c : Dev nD,
      r.2.mem ((c.tc : Thread nD τ).loc main_v32_0) = attnOf (args m c)
      ∧ r.2.mem ((c.tc : Thread nD τ).loc main_v32_1) = convOf (args m c)
      ∧ r.2.mem ((c.tc : Thread nD τ).loc main_v32_2) = szOf (args m c)
      ∧ r.2.mem ((c.tc : Thread nD τ).loc main_v32_3) = suOf (args m c)
      ∧ r.2.mem ((c.tc : Thread nD τ).loc main_v32_4) = dtOf (args m c)
      ∧ r.2.mem ((c.tc : Thread nD τ).loc main_v32_5) = uOf (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (final_4 m c), (h c).2.1.trans (final_5 m c), (h c).2.2.1.trans (final_6 m c),
      (h c).2.2.2.1.trans (final_7 m c), (h c).2.2.2.2.1.trans (final_8 m c), (h c).2.2.2.2.2.1.trans (final_9 m c), (h c).2.2.2.2.2.2⟩)
    (Cert.Kernel2Ideal.Value.run_blocks m ρ)

end Cert.Kernel2Ideal.Project
-- ==== Proof.NextResult.lean ====
module

public import proofs.«01_k».proof.Proof.Gen.Kernel5Ideal.Value
public import proofs.«01_k».proof.Proof.NextChain
public import proofs.«01_k».proof.Proof.ProjResult

@[expose] public section
noncomputable section
open Idealize.ShloMosaic Idealize.ShloMosaic.TcCoe Idealize.SL.Sem
namespace Cert.Kernel5Ideal.Next
open Cert.Kernel5Ideal Cert.Kernel5Ideal.Gen _root_.Next
open Cert.Kernel2Ideal.Project (tile seq tok newest newest_u attnOf convOf szOf suOf dtOf uOf)
set_option maxRecDepth 16384

/-!
  The seven result arrays after the run: the layer's output on every token of every sequence, and its projection.
-/

variable (m : (ℓ : Loc nD τ sig) → Buf (Elt Ideal) ℓ) (ρ : Dev nD → PrngReg) (c : Dev nD)

/-- The output of the layer before on every token of every sequence. -/
def xOf (a : Args) : Vec Ideal S16x2304x1024 .f32 := fun i => a.x (i 0) (i 1) (i 2)

/-- Where the blocks that are written lie at each point, and when they are written back. -/
theorem index_out : ∀ t : Fin cfg0.N, ((win0_10.index t 0 = min (t.val - 0) 143 / 9 ∧ win0_10.index t 1 = min (t.val - 0) 143 % 9 ∧ win0_10.index t 2 = 0) ∧ ((cfg0.win 10).flush t = true ↔ (t.val ≤ 142 ∨ t.val = 144)))
    ∧ ((win0_11.index t 0 = min (t.val - 0) 143 / 9 ∧ win0_11.index t 1 = min (t.val - 0) 143 % 9 ∧ win0_11.index t 2 = 0) ∧ ((cfg0.win 11).flush t = true ↔ (t.val ≤ 142 ∨ t.val = 144)))
    ∧ ((win0_12.index t 0 = min (t.val - 0) 143 / 9 ∧ win0_12.index t 1 = min (t.val - 0) 143 % 9 ∧ win0_12.index t 2 = 0) ∧ ((cfg0.win 12).flush t = true ↔ (t.val ≤ 142 ∨ t.val = 144)))
    ∧ ((win0_13.index t 0 = min (t.val - 0) 143 / 9 ∧ win0_13.index t 1 = min (t.val - 0) 143 % 9 ∧ win0_13.index t 2 = 0) ∧ ((cfg0.win 13).flush t = true ↔ (t.val ≤ 142 ∨ t.val = 144)))
    ∧ ((win0_14.index t 0 = min (t.val - 0) 143 / 9 ∧ win0_14.index t 1 = min (t.val - 0) 143 % 9 ∧ win0_14.index t 2 = 0) ∧ ((cfg0.win 14).flush t = true ↔ (t.val ≤ 142 ∨ t.val = 144)))
    ∧ ((win0_15.index t 0 = min (t.val - 0) 143 / 9 ∧ win0_15.index t 1 = min (t.val - 0) 143 % 9 ∧ win0_15.index t 2 = 0) ∧ ((cfg0.win 15).flush t = true ↔ (t.val ≤ 142 ∨ t.val = 144)))
    ∧ (win0_16.index t 0 = 0 ∧ win0_16.index t 1 = min (t.val - 1) 143 % 9 ∧ win0_16.index t 2 = min (t.val - 1) 143 / 9) ∧ ((cfg0.win 16).flush t = true ↔ 1 ≤ t.val) := by
  decide +kernel

/-- The layer's output of every token end in their array. -/
theorem final_10 : (dats m 0 c).arrAt 10 cfg0.N = xOf (args m c) := by
  have emb : ∀ (t : Fin cfg0.N) (z : Fin 1) (r : Fin 256) (e : Fin 1024),
      ((cfg0.win 10).blk t).view.emb (ix3 z r e) = (ix3 (seq (tile 0 t)) (tok (tile 0 t) r) e : S16x2304x1024.Idx) := fun t z r e => by
    have hi := (index_out t).1.1
    funext a
    apply Fin.ext
    match a with
    | ⟨0, _⟩ => show win0_10.index t 0 * 1 + 1 * z.val = (seq _).val; rw [hi.1]; simp only [seq, tile]; omega
    | ⟨1, _⟩ => show win0_10.index t 1 * 256 + 1 * r.val = (tok _ r).val; rw [hi.2.1]; simp only [tok, tile]; omega
    | ⟨2, _⟩ => show win0_10.index t 2 * 1024 + 1 * e.val = e.val; rw [hi.2.2]; omega
  refine (dats m 0 c).arrAt_eq_of_cover 10 (xOf (args m c)) (fun t _ => ?_) fun (i : S16x2304x1024.Idx) => ?_
  · show (cfg0.win 10).cut (grid0.coords t) ((dats m 0 c).after 10 t) = _
    rw [after0_10]
    funext j
    rw [View.read_apply]
    have key : ∀ y : S1x256x1024.Idx, (outsAt0 m c t.val t.isLt).1 y = xOf (args m c) (((cfg0.win 10).blk t).view.emb y) := fun y => by
      idx_vars y
      rw [emb]
      obtain rfl : y0 = 0 := Subsingleton.elim _ _
      exact x_left m c t y1 y2
    exact key j
  · idx_vars i
    obtain ⟨t, ht, hs, hk⟩ := newest i0 i1
    refine ⟨t, (index_out t).1.2.mpr ht, ?_⟩
    have hm := ((cfg0.win 10).blk t).view.emb_mem_set (ix3 (0 : Fin 1) ⟨i1.val % 256, by omega⟩ i2 : S1x256x1024.Idx)
    rw [emb] at hm
    exact (congrArg₂ (fun s n => (ix3 s n i2 : S16x2304x1024.Idx)) hs hk) ▸ hm

/-- The attentions' rows of every token end in their array. -/
theorem final_11 : (dats m 0 c).arrAt 11 cfg0.N = attnOf (args m c).next := by
  have emb : ∀ (t : Fin cfg0.N) (z : Fin 1) (r : Fin 256) (e : Fin 1536),
      ((cfg0.win 11).blk t).view.emb (ix3 z r e) = (ix3 (seq (tile 0 t)) (tok (tile 0 t) r) e : S16x2304x1536.Idx) := fun t z r e => by
    have hi := (index_out t).2.1.1
    funext a
    apply Fin.ext
    match a with
    | ⟨0, _⟩ => show win0_11.index t 0 * 1 + 1 * z.val = (seq _).val; rw [hi.1]; simp only [seq, tile]; omega
    | ⟨1, _⟩ => show win0_11.index t 1 * 256 + 1 * r.val = (tok _ r).val; rw [hi.2.1]; simp only [tok, tile]; omega
    | ⟨2, _⟩ => show win0_11.index t 2 * 1536 + 1 * e.val = e.val; rw [hi.2.2]; omega
  refine (dats m 0 c).arrAt_eq_of_cover 11 (attnOf (args m c).next) (fun t _ => ?_) fun (i : S16x2304x1536.Idx) => ?_
  · show (cfg0.win 11).cut (grid0.coords t) ((dats m 0 c).after 11 t) = _
    rw [after0_11]
    funext j
    rw [View.read_apply]
    have key : ∀ y : S1x256x1536.Idx, (outsAt0 m c t.val t.isLt).2.1 y = attnOf (args m c).next (((cfg0.win 11).blk t).view.emb y) := fun y => by
      idx_vars y
      rw [emb]
      obtain rfl : y0 = 0 := Subsingleton.elim _ _
      exact attn_left m c t y1 y2
    exact key j
  · idx_vars i
    obtain ⟨t, ht, hs, hk⟩ := newest i0 i1
    refine ⟨t, (index_out t).2.1.2.mpr ht, ?_⟩
    have hm := ((cfg0.win 11).blk t).view.emb_mem_set (ix3 (0 : Fin 1) ⟨i1.val % 256, by omega⟩ i2 : S1x256x1536.Idx)
    rw [emb] at hm
    exact (congrArg₂ (fun s n => (ix3 s n i2 : S16x2304x1536.Idx)) hs hk) ▸ hm

/-- The convolution's rows of every token end in their array. -/
theorem final_12 : (dats m 0 c).arrAt 12 cfg0.N = convOf (args m c).next := by
  have emb : ∀ (t : Fin cfg0.N) (z : Fin 1) (r : Fin 256) (e : Fin 1024),
      ((cfg0.win 12).blk t).view.emb (ix3 z r e) = (ix3 (seq (tile 0 t)) (tok (tile 0 t) r) e : S16x2304x1024.Idx) := fun t z r e => by
    have hi := (index_out t).2.2.1.1
    funext a
    apply Fin.ext
    match a with
    | ⟨0, _⟩ => show win0_12.index t 0 * 1 + 1 * z.val = (seq _).val; rw [hi.1]; simp only [seq, tile]; omega
    | ⟨1, _⟩ => show win0_12.index t 1 * 256 + 1 * r.val = (tok _ r).val; rw [hi.2.1]; simp only [tok, tile]; omega
    | ⟨2, _⟩ => show win0_12.index t 2 * 1024 + 1 * e.val = e.val; rw [hi.2.2]; omega
  refine (dats m 0 c).arrAt_eq_of_cover 12 (convOf (args m c).next) (fun t _ => ?_) fun (i : S16x2304x1024.Idx) => ?_
  · show (cfg0.win 12).cut (grid0.coords t) ((dats m 0 c).after 12 t) = _
    rw [after0_12]
    funext j
    rw [View.read_apply]
    have key : ∀ y : S1x256x1024.Idx, (outsAt0 m c t.val t.isLt).2.2.1 y = convOf (args m c).next (((cfg0.win 12).blk t).view.emb y) := fun y => by
      idx_vars y
      rw [emb]
      obtain rfl : y0 = 0 := Subsingleton.elim _ _
      exact conv_left m c t y1 y2
    exact key j
  · idx_vars i
    obtain ⟨t, ht, hs, hk⟩ := newest i0 i1
    refine ⟨t, (index_out t).2.2.1.2.mpr ht, ?_⟩
    have hm := ((cfg0.win 12).blk t).view.emb_mem_set (ix3 (0 : Fin 1) ⟨i1.val % 256, by omega⟩ i2 : S1x256x1024.Idx)
    rw [emb] at hm
    exact (congrArg₂ (fun s n => (ix3 s n i2 : S16x2304x1024.Idx)) hs hk) ▸ hm

/-- The state space gate's rows of every token end in their array. -/
theorem final_13 : (dats m 0 c).arrAt 13 cfg0.N = szOf (args m c).next := by
  have emb : ∀ (t : Fin cfg0.N) (z : Fin 1) (r : Fin 256) (e : Fin 512),
      ((cfg0.win 13).blk t).view.emb (ix3 z r e) = (ix3 (seq (tile 0 t)) (tok (tile 0 t) r) e : S16x2304x512.Idx) := fun t z r e => by
    have hi := (index_out t).2.2.2.1.1
    funext a
    apply Fin.ext
    match a with
    | ⟨0, _⟩ => show win0_13.index t 0 * 1 + 1 * z.val = (seq _).val; rw [hi.1]; simp only [seq, tile]; omega
    | ⟨1, _⟩ => show win0_13.index t 1 * 256 + 1 * r.val = (tok _ r).val; rw [hi.2.1]; simp only [tok, tile]; omega
    | ⟨2, _⟩ => show win0_13.index t 2 * 512 + 1 * e.val = e.val; rw [hi.2.2]; omega
  refine (dats m 0 c).arrAt_eq_of_cover 13 (szOf (args m c).next) (fun t _ => ?_) fun (i : S16x2304x512.Idx) => ?_
  · show (cfg0.win 13).cut (grid0.coords t) ((dats m 0 c).after 13 t) = _
    rw [after0_13]
    funext j
    rw [View.read_apply]
    have key : ∀ y : S1x256x512.Idx, (outsAt0 m c t.val t.isLt).2.2.2.1 y = szOf (args m c).next (((cfg0.win 13).blk t).view.emb y) := fun y => by
      idx_vars y
      rw [emb]
      obtain rfl : y0 = 0 := Subsingleton.elim _ _
      exact sz_left m c t y1 y2
    exact key j
  · idx_vars i
    obtain ⟨t, ht, hs, hk⟩ := newest i0 i1
    refine ⟨t, (index_out t).2.2.2.1.2.mpr ht, ?_⟩
    have hm := ((cfg0.win 13).blk t).view.emb_mem_set (ix3 (0 : Fin 1) ⟨i1.val % 256, by omega⟩ i2 : S1x256x512.Idx)
    rw [emb] at hm
    exact (congrArg₂ (fun s n => (ix3 s n i2 : S16x2304x512.Idx)) hs hk) ▸ hm

/-- The S5 input's rows of every token end in their array. -/
theorem final_14 : (dats m 0 c).arrAt 14 cfg0.N = suOf (args m c).next := by
  have emb : ∀ (t : Fin cfg0.N) (z : Fin 1) (r : Fin 256) (e : Fin 512),
      ((cfg0.win 14).blk t).view.emb (ix3 z r e) = (ix3 (seq (tile 0 t)) (tok (tile 0 t) r) e : S16x2304x512.Idx) := fun t z r e => by
    have hi := (index_out t).2.2.2.2.1.1
    funext a
    apply Fin.ext
    match a with
    | ⟨0, _⟩ => show win0_14.index t 0 * 1 + 1 * z.val = (seq _).val; rw [hi.1]; simp only [seq, tile]; omega
    | ⟨1, _⟩ => show win0_14.index t 1 * 256 + 1 * r.val = (tok _ r).val; rw [hi.2.1]; simp only [tok, tile]; omega
    | ⟨2, _⟩ => show win0_14.index t 2 * 512 + 1 * e.val = e.val; rw [hi.2.2]; omega
  refine (dats m 0 c).arrAt_eq_of_cover 14 (suOf (args m c).next) (fun t _ => ?_) fun (i : S16x2304x512.Idx) => ?_
  · show (cfg0.win 14).cut (grid0.coords t) ((dats m 0 c).after 14 t) = _
    rw [after0_14]
    funext j
    rw [View.read_apply]
    have key : ∀ y : S1x256x512.Idx, (outsAt0 m c t.val t.isLt).2.2.2.2.1 y = suOf (args m c).next (((cfg0.win 14).blk t).view.emb y) := fun y => by
      idx_vars y
      rw [emb]
      obtain rfl : y0 = 0 := Subsingleton.elim _ _
      exact su_left m c t y1 y2
    exact key j
  · idx_vars i
    obtain ⟨t, ht, hs, hk⟩ := newest i0 i1
    refine ⟨t, (index_out t).2.2.2.2.1.2.mpr ht, ?_⟩
    have hm := ((cfg0.win 14).blk t).view.emb_mem_set (ix3 (0 : Fin 1) ⟨i1.val % 256, by omega⟩ i2 : S1x256x512.Idx)
    rw [emb] at hm
    exact (congrArg₂ (fun s n => (ix3 s n i2 : S16x2304x512.Idx)) hs hk) ▸ hm

/-- The step widths' rows of every token end in their array. -/
theorem final_15 : (dats m 0 c).arrAt 15 cfg0.N = dtOf (args m c).next := by
  have emb : ∀ (t : Fin cfg0.N) (z : Fin 1) (r : Fin 256) (e : Fin 256),
      ((cfg0.win 15).blk t).view.emb (ix3 z r e) = (ix3 (seq (tile 0 t)) (tok (tile 0 t) r) e : S16x2304x256.Idx) := fun t z r e => by
    have hi := (index_out t).2.2.2.2.2.1.1
    funext a
    apply Fin.ext
    match a with
    | ⟨0, _⟩ => show win0_15.index t 0 * 1 + 1 * z.val = (seq _).val; rw [hi.1]; simp only [seq, tile]; omega
    | ⟨1, _⟩ => show win0_15.index t 1 * 256 + 1 * r.val = (tok _ r).val; rw [hi.2.1]; simp only [tok, tile]; omega
    | ⟨2, _⟩ => show win0_15.index t 2 * 256 + 1 * e.val = e.val; rw [hi.2.2]; omega
  refine (dats m 0 c).arrAt_eq_of_cover 15 (dtOf (args m c).next) (fun t _ => ?_) fun (i : S16x2304x256.Idx) => ?_
  · show (cfg0.win 15).cut (grid0.coords t) ((dats m 0 c).after 15 t) = _
    rw [after0_15]
    funext j
    rw [View.read_apply]
    have key : ∀ y : S1x256x256.Idx, (outsAt0 m c t.val t.isLt).2.2.2.2.2.1 y = dtOf (args m c).next (((cfg0.win 15).blk t).view.emb y) := fun y => by
      idx_vars y
      rw [emb]
      obtain rfl : y0 = 0 := Subsingleton.elim _ _
      exact dt_left m c t y1 y2
    exact key j
  · idx_vars i
    obtain ⟨t, ht, hs, hk⟩ := newest i0 i1
    refine ⟨t, (index_out t).2.2.2.2.2.1.2.mpr ht, ?_⟩
    have hm := ((cfg0.win 15).blk t).view.emb_mem_set (ix3 (0 : Fin 1) ⟨i1.val % 256, by omega⟩ i2 : S1x256x256.Idx)
    rw [emb] at hm
    exact (congrArg₂ (fun s n => (ix3 s n i2 : S16x2304x256.Idx)) hs hk) ▸ hm

/-- The S5 input ends in the scan's layout in its array. -/
theorem final_16 : (dats m 0 c).arrAt 16 cfg0.N = uOf (args m c).next := by
  have emb : ∀ (t : Fin cfg0.N) (g : Fin 32) (q : Fin 16) (l : Fin 256), ((cfg0.win 16).blk t).view.emb (ix3 g q l)
      = (ix3 g ⟨(tile 1 t).val % 9 * 16 + q.val, by omega⟩ ⟨(tile 1 t).val / 9 * 256 + l.val, by omega⟩ : S32x144x4096.Idx) := fun t g q l => by
    have hi := (index_out t).2.2.2.2.2.2.1
    funext a
    apply Fin.ext
    match a with
    | ⟨0, _⟩ => show win0_16.index t 0 * 32 + 1 * g.val = g.val; rw [hi.1]; omega
    | ⟨1, _⟩ => show win0_16.index t 1 * 16 + 1 * q.val = (tile 1 t).val % 9 * 16 + q.val; rw [hi.2.1]; simp only [tile]; omega
    | ⟨2, _⟩ => show win0_16.index t 2 * 256 + 1 * l.val = (tile 1 t).val / 9 * 256 + l.val; rw [hi.2.2]; simp only [tile]; omega
  refine (dats m 0 c).arrAt_eq_of_cover 16 (uOf (args m c).next) (fun t hf => ?_) fun (i : S32x144x4096.Idx) => ?_
  · have h1 : 1 ≤ t.val := (index_out t).2.2.2.2.2.2.2.mp hf
    have h2 : t.val < 145 := t.isLt
    show (cfg0.win 16).cut (grid0.coords t) ((dats m 0 c).after 16 t) = _
    rw [after0_16]
    funext j
    rw [View.read_apply]
    have key : ∀ y : S32x16x256.Idx, (outsAt0 m c t.val t.isLt).2.2.2.2.2.2.1 y = uOf (args m c).next (((cfg0.win 16).blk t).view.emb y) := fun y => by
      idx_vars y
      rw [emb]
      exact u_left m c t (by omega) y0 y1 y2
    exact key j
  · idx_vars i
    obtain ⟨t, ht, hs, hk⟩ := newest_u i1 i2
    refine ⟨t, (index_out t).2.2.2.2.2.2.2.mpr ht, ?_⟩
    have hm := ((cfg0.win 16).blk t).view.emb_mem_set (ix3 i0 ⟨i1.val % 16, by omega⟩ ⟨i2.val % 256, by omega⟩ : S32x16x256.Idx)
    rw [emb] at hm
    exact (congrArg₂ (fun h l => (ix3 i0 h l : S32x144x4096.Idx)) hs hk) ▸ hm

/-- The run, read: the seven result arrays at the results, the arguments unchanged. -/
theorem run : θ_run defs (onTc (τ := τ) (main (F := Ideal))) ⟨m, fun _ => 0, ρ⟩ (fun r => ∀ c : Dev nD,
      r.2.mem ((c.tc : Thread nD τ).loc main_v34_0) = xOf (args m c)
      ∧ r.2.mem ((c.tc : Thread nD τ).loc main_v34_1) = attnOf (args m c).next
      ∧ r.2.mem ((c.tc : Thread nD τ).loc main_v34_2) = convOf (args m c).next
      ∧ r.2.mem ((c.tc : Thread nD τ).loc main_v34_3) = szOf (args m c).next
      ∧ r.2.mem ((c.tc : Thread nD τ).loc main_v34_4) = suOf (args m c).next
      ∧ r.2.mem ((c.tc : Thread nD τ).loc main_v34_5) = dtOf (args m c).next
      ∧ r.2.mem ((c.tc : Thread nD τ).loc main_v34_6) = uOf (args m c).next
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (final_10 m c), (h c).2.1.trans (final_11 m c), (h c).2.2.1.trans (final_12 m c), (h c).2.2.2.1.trans (final_13 m c), (h c).2.2.2.2.1.trans (final_14 m c), (h c).2.2.2.2.2.1.trans (final_15 m c), (h c).2.2.2.2.2.2.1.trans (final_16 m c), (h c).2.2.2.2.2.2.2⟩)
    (Cert.Kernel5Ideal.Value.run_blocks m ρ)

end Cert.Kernel5Ideal.Next
-- ==== Proof.ProjRef.lean ====
module

public import proofs.«01_k».proof.Proof.Gen.Reference2Ideal.Run
public import proofs.«01_k».proof.Proof.ProjToken
public import Idealize.ShloMosaic.Lib.Pipeline.Value

@[expose] public section
noncomputable section
open Idealize.ShloMosaic Idealize.ShloMosaic.TcCoe Idealize.ShloMosaic.StableHlo
namespace Cert.Reference2Ideal.Project
open Cert.Reference2Ideal Cert.Reference2Ideal.Gen Cert.Reference2Ideal.Value _root_.Project
set_option maxRecDepth 16384

/-!
  What the reference of the input projection computes at an index.
-/

variable (x : Vec Ideal S16x2304x1024 .f32) (md : Vec Ideal S24x1x6144 .f32) (w : Vec Ideal S1024x7696 .f32)

/-- The arguments at their coordinates. -/
def args : Args where
  x s n e := x (ix3 s n e)
  md s e := md (ix3 s 0 e)
  win e d := w (ix2 e d)

/-- The modulation laid along the tokens. -/
def laid : Vec Ideal S16x2304x6144 .f32 :=
  (concatenate S16x2304x6144 1 [⟨S16x256x6144, (broadcastInDim S16x256x6144 ![0, 1, 2] bcast_S1x1x6144_S16x256x6144_0_1_2 (extractStridedSlice S1x1x6144 ![16, 0, 0] md slices_S24x1x6144_S1x1x6144_16_0_0))⟩, ⟨S16x2048x6144, (broadcastInDim S16x2048x6144 ![0, 1, 2] bcast_S16x1x6144_S16x2048x6144_0_1_2 (extractStridedSlice S16x1x6144 ![0, 0, 0] md slices_S24x1x6144_S16x1x6144_0_0_0))⟩] concatenates_S16x256x6144_S16x2048x6144_S16x2304x6144_d1)

/-- The tokens about their means. -/
def cen : Vec Ideal S16x2304x1024 .f32 :=
  (subf x (broadcastInDim S16x2304x1024 ![0, 1, 2] bcast_S16x2304x1_S16x2304x1024_0_1_2 (Host.divf (broadcastInDim S16x2304x1 ![0, 1] bcast_S16x2304_S16x2304x1_0_1 (Host.reduceAdd x (constant (F := Ideal) S_ .f32 0x00000000#32) reducesTo_S16x2304x1024_S16x2304_d2 h_S_)) (broadcastInDim S16x2304x1 ![] bcast_S_S16x2304x1 (constant (F := Ideal) S_ .f32 0x44800000#32)))))

/-- The modulated norm. -/
def hiddenOf : Vec Ideal S16x2304x1024 .f32 :=
  (addf (mulf (mulf (cen x) (broadcastInDim S16x2304x1024 ![0, 1, 2] bcast_S16x2304x1_S16x2304x1024_0_1_2 (Host.rsqrt (addf (Host.divf (broadcastInDim S16x2304x1 ![0, 1] bcast_S16x2304_S16x2304x1_0_1 (Host.reduceAdd (mulf (cen x) (cen x)) (constant (F := Ideal) S_ .f32 0x00000000#32) reducesTo_S16x2304x1024_S16x2304_d2 h_S_)) (broadcastInDim S16x2304x1 ![] bcast_S_S16x2304x1 (constant (F := Ideal) S_ .f32 0x44800000#32))) (broadcastInDim S16x2304x1 ![] bcast_S_S16x2304x1 (constant (F := Ideal) S_ .f32 0x358637BD#32)))))) (addf (broadcastInDim S16x2304x1024 ![] bcast_S_S16x2304x1024 (constant (F := Ideal) S_ .f32 0x3F800000#32)) (extractStridedSlice S16x2304x1024 ![0, 0, 1024] (laid md) slices_S16x2304x6144_S16x2304x1024_0_0_1024))) (extractStridedSlice S16x2304x1024 ![0, 0, 0] (laid md) slices_S16x2304x6144_S16x2304x1024_0_0_0))

/-- The whole projection. -/
def full : Vec Ideal S16x2304x7696 .f32 :=
  (Host.dotGeneral (F := Ideal) (φ₁ := .f32) (φ₂ := .f32) dot_S16x2304x1024_S1024x7696_S16x2304x7696_2_0_01_1_n_n none (hiddenOf x md) w)

/-- The modulation of a token: the context's row under the first 256, the sequence's own under the rest. -/
theorem laid_apply (s : Fin 16) (n : Fin 2304) (e : Fin 6144) :
    laid md (ix3 s n e) = (args x md w).md (Merge.Args.modRow s n) e := by
  unfold laid
  pointwise
  unfold Merge.Args.modRow
  split <;> rfl

/-- A token's residual about its mean. -/
theorem cen_apply (s : Fin 16) (n : Fin 2304) (d : Fin 1024) :
    cen x (ix3 s n d) = (args x md w).x s n d - Merge.mean ((args x md w).x s n) := by
  unfold cen
  pointwise
  rfl

/-- The modulated norm at an index. -/
theorem hidden_apply (s : Fin 16) (n : Fin 2304) (d : Fin 1024) :
    hiddenOf x md (ix3 s n d) = (args x md w).hidden s n d := by
  unfold hiddenOf
  pointwise
  simp only [laid_apply x md w, cen_apply x md w]
  unfold Args.hidden Merge.modulated
  refine congrArg₂ (· + ·) (congrArg₂ (· * ·) rfl rfl) (congrArg ((args x md w).md (Merge.Args.modRow s n)) (Fin.ext ?_))
  simp

/-- A column of the projection at an index. -/
theorem full_apply (s : Fin 16) (n : Fin 2304) (k : Fin 7696) :
    full x md w (ix3 s n k) = ∑ e, (args x md w).hidden s n e * (args x md w).win e k := by
  unfold full
  pointwise
  simp only [hidden_apply x md w]
  rfl

/-- A column of the projection, at its place among the results. -/
theorem placed (s : Fin 16) (n : Fin 2304) (k : Fin 7696) (d : Fin 3840) (h : ∀ e, (args x md w).col e d = (args x md w).win e k) :
    full x md w (ix3 s n k) = (args x md w).proj s n d := by
  rw [full_apply]
  unfold Args.proj
  simp only [h]

/-- A column of zeros projects to zero. -/
theorem empty (s : Fin 16) (n : Fin 2304) (d : Fin 3840) (h : ∀ e, (args x md w).col e d = 0) : (args x md w).proj s n d = 0 := by
  unfold Args.proj
  simp only [h, mul_zero, Finset.sum_const_zero]

/-- The attentions' rows: the pieces of the whole projection end to end. -/
def attnOf : Vec Ideal S16x2304x1536 .f32 :=
  (concatenate S16x2304x1536 2 [⟨S16x2304x512, ((extractStridedSlice S16x2304x512 ![0, 0, 0] (full x md w) slices_S16x2304x7696_S16x2304x512_0_0_0) : (⟨S16x2304x512, .f32⟩ : BufTy).Contents (Elt Ideal))⟩, ⟨S16x2304x512, ((extractStridedSlice S16x2304x512 ![0, 0, 768] (full x md w) slices_S16x2304x7696_S16x2304x512_0_0_768) : (⟨S16x2304x512, .f32⟩ : BufTy).Contents (Elt Ideal))⟩, ⟨S16x2304x128, ((extractStridedSlice S16x2304x128 ![0, 0, 512] (full x md w) slices_S16x2304x7696_S16x2304x128_0_0_512) : (⟨S16x2304x128, .f32⟩ : BufTy).Contents (Elt Ideal))⟩, ⟨S16x2304x128, ((extractStridedSlice S16x2304x128 ![0, 0, 640] (full x md w) slices_S16x2304x7696_S16x2304x128_0_0_640) : (⟨S16x2304x128, .f32⟩ : BufTy).Contents (Elt Ideal))⟩, ⟨S16x2304x128, ((extractStridedSlice S16x2304x128 ![0, 0, 1280] (full x md w) slices_S16x2304x7696_S16x2304x128_0_0_1280) : (⟨S16x2304x128, .f32⟩ : BufTy).Contents (Elt Ideal))⟩, ⟨S16x2304x128, ((extractStridedSlice S16x2304x128 ![0, 0, 1408] (full x md w) slices_S16x2304x7696_S16x2304x128_0_0_1408) : (⟨S16x2304x128, .f32⟩ : BufTy).Contents (Elt Ideal))⟩] concatenates_S16x2304x512_S16x2304x512_S16x2304x128_S16x2304x128_S16x2304x128_S16x2304x128_S16x2304x1536_d2 : (⟨S16x2304x1536, .f32⟩ : BufTy).Contents (Elt Ideal))

set_option maxHeartbeats 4000000 in
/-- The attentions' rows at an index. -/
theorem attn_apply (s : Fin 16) (n : Fin 2304) (d : Fin 1536) : attnOf x md w (ix3 s n d) = (args x md w).attn s n d := by
  unfold attnOf Args.attn
  have hd := d.isLt
  have hcases : (d.val < 512) ∨ (512 ≤ d.val ∧ d.val < 1024) ∨ (1024 ≤ d.val ∧ d.val < 1152) ∨ (1152 ≤ d.val ∧ d.val < 1280) ∨ (1280 ≤ d.val ∧ d.val < 1408) ∨ (1408 ≤ d.val ∧ d.val < 1536) := by omega
  rcases hcases with h | h | h | h | h | h
  · refine (concatenate_apply_piece 2 _ _ (ix3 s n d) 0 (by show 0 < 6; decide) S16x2304x512 _ rfl rfl 0 rfl (ix3 s n ⟨d.val - 0, by omega⟩) (fun b hb => by match b with | ⟨0, _⟩ => rfl | ⟨1, _⟩ => rfl | ⟨2, _⟩ => exact absurd rfl hb) (by show 0 + (d.val - 0) = d.val; omega)).trans ?_
    pointwise
    refine placed x md w s n _ _ fun e => ?_
    unfold Args.col
    dsimp only
    rw [if_pos (by omega)]
  · refine (concatenate_apply_piece 2 _ _ (ix3 s n d) 1 (by show 1 < 6; decide) S16x2304x512 _ rfl rfl 512 rfl (ix3 s n ⟨d.val - 512, by omega⟩) (fun b hb => by match b with | ⟨0, _⟩ => rfl | ⟨1, _⟩ => rfl | ⟨2, _⟩ => exact absurd rfl hb) (by show 512 + (d.val - 512) = d.val; omega)).trans ?_
    pointwise
    refine placed x md w s n _ _ fun e => ?_
    unfold Args.col
    dsimp only
    rw [if_neg (by omega), if_pos (by omega)]
    exact congrArg _ (Fin.ext (by dsimp only; omega))
  · refine (concatenate_apply_piece 2 _ _ (ix3 s n d) 2 (by show 2 < 6; decide) S16x2304x128 _ rfl rfl 1024 rfl (ix3 s n ⟨d.val - 1024, by omega⟩) (fun b hb => by match b with | ⟨0, _⟩ => rfl | ⟨1, _⟩ => rfl | ⟨2, _⟩ => exact absurd rfl hb) (by show 1024 + (d.val - 1024) = d.val; omega)).trans ?_
    pointwise
    refine placed x md w s n _ _ fun e => ?_
    unfold Args.col
    dsimp only
    rw [if_neg (by omega), if_neg (by omega), if_pos (by omega)]
    exact congrArg _ (Fin.ext (by dsimp only; omega))
  · refine (concatenate_apply_piece 2 _ _ (ix3 s n d) 3 (by show 3 < 6; decide) S16x2304x128 _ rfl rfl 1152 rfl (ix3 s n ⟨d.val - 1152, by omega⟩) (fun b hb => by match b with | ⟨0, _⟩ => rfl | ⟨1, _⟩ => rfl | ⟨2, _⟩ => exact absurd rfl hb) (by show 1152 + (d.val - 1152) = d.val; omega)).trans ?_
    pointwise
    refine placed x md w s n _ _ fun e => ?_
    unfold Args.col
    dsimp only
    rw [if_neg (by omega), if_neg (by omega), if_pos (by omega)]
    exact congrArg _ (Fin.ext (by dsimp only; omega))
  · refine (concatenate_apply_piece 2 _ _ (ix3 s n d) 4 (by show 4 < 6; decide) S16x2304x128 _ rfl rfl 1280 rfl (ix3 s n ⟨d.val - 1280, by omega⟩) (fun b hb => by match b with | ⟨0, _⟩ => rfl | ⟨1, _⟩ => rfl | ⟨2, _⟩ => exact absurd rfl hb) (by show 1280 + (d.val - 1280) = d.val; omega)).trans ?_
    pointwise
    refine placed x md w s n _ _ fun e => ?_
    unfold Args.col
    dsimp only
    rw [if_neg (by omega), if_neg (by omega), if_neg (by omega), if_pos (by omega)]
    exact congrArg _ (Fin.ext (by dsimp only; omega))
  · refine (concatenate_apply_piece 2 _ _ (ix3 s n d) 5 (by show 5 < 6; decide) S16x2304x128 _ rfl rfl 1408 rfl (ix3 s n ⟨d.val - 1408, by omega⟩) (fun b hb => by match b with | ⟨0, _⟩ => rfl | ⟨1, _⟩ => rfl | ⟨2, _⟩ => exact absurd rfl hb) (by show 1408 + (d.val - 1408) = d.val; omega)).trans ?_
    pointwise
    refine placed x md w s n _ _ fun e => ?_
    unfold Args.col
    dsimp only
    rw [if_neg (by omega), if_neg (by omega), if_neg (by omega), if_pos (by omega)]
    exact congrArg _ (Fin.ext (by dsimp only; omega))

/-- The convolution's rows: the pieces of the whole projection end to end. -/
def convOf : Vec Ideal S16x2304x1024 .f32 :=
  (concatenate S16x2304x1024 2 [⟨S16x2304x512, ((extractStridedSlice S16x2304x512 ![0, 0, 1536] (full x md w) slices_S16x2304x7696_S16x2304x512_0_0_1536) : (⟨S16x2304x512, .f32⟩ : BufTy).Contents (Elt Ideal))⟩, ⟨S16x2304x256, ((extractStridedSlice S16x2304x256 ![0, 0, 2560] (full x md w) slices_S16x2304x7696_S16x2304x256_0_0_2560) : (⟨S16x2304x256, .f32⟩ : BufTy).Contents (Elt Ideal))⟩, ⟨S16x2304x256, ((extractStridedSlice S16x2304x256 ![0, 0, 2816] (full x md w) slices_S16x2304x7696_S16x2304x256_0_0_2816) : (⟨S16x2304x256, .f32⟩ : BufTy).Contents (Elt Ideal))⟩] concatenates_S16x2304x512_S16x2304x256_S16x2304x256_S16x2304x1024_d2 : (⟨S16x2304x1024, .f32⟩ : BufTy).Contents (Elt Ideal))

set_option maxHeartbeats 4000000 in
/-- The convolution's rows at an index. -/
theorem conv_apply (s : Fin 16) (n : Fin 2304) (d : Fin 1024) : convOf x md w (ix3 s n d) = (args x md w).conv s n d := by
  unfold convOf Args.conv
  have hd := d.isLt
  have hcases : (d.val < 512) ∨ (512 ≤ d.val ∧ d.val < 768) ∨ (768 ≤ d.val ∧ d.val < 1024) := by omega
  rcases hcases with h | h | h
  · refine (concatenate_apply_piece 2 _ _ (ix3 s n d) 0 (by show 0 < 3; decide) S16x2304x512 _ rfl rfl 0 rfl (ix3 s n ⟨d.val - 0, by omega⟩) (fun b hb => by match b with | ⟨0, _⟩ => rfl | ⟨1, _⟩ => rfl | ⟨2, _⟩ => exact absurd rfl hb) (by show 0 + (d.val - 0) = d.val; omega)).trans ?_
    pointwise
    refine placed x md w s n _ _ fun e => ?_
    unfold Args.col
    dsimp only
    rw [if_neg (by omega), if_neg (by omega), if_neg (by omega), if_pos (by omega)]
  · refine (concatenate_apply_piece 2 _ _ (ix3 s n d) 1 (by show 1 < 3; decide) S16x2304x256 _ rfl rfl 512 rfl (ix3 s n ⟨d.val - 512, by omega⟩) (fun b hb => by match b with | ⟨0, _⟩ => rfl | ⟨1, _⟩ => rfl | ⟨2, _⟩ => exact absurd rfl hb) (by show 512 + (d.val - 512) = d.val; omega)).trans ?_
    pointwise
    refine placed x md w s n _ _ fun e => ?_
    unfold Args.col
    dsimp only
    rw [if_neg (by omega), if_neg (by omega), if_neg (by omega), if_neg (by omega), if_pos (by omega)]
    exact congrArg _ (Fin.ext (by dsimp only; omega))
  · refine (concatenate_apply_piece 2 _ _ (ix3 s n d) 2 (by show 2 < 3; decide) S16x2304x256 _ rfl rfl 768 rfl (ix3 s n ⟨d.val - 768, by omega⟩) (fun b hb => by match b with | ⟨0, _⟩ => rfl | ⟨1, _⟩ => rfl | ⟨2, _⟩ => exact absurd rfl hb) (by show 768 + (d.val - 768) = d.val; omega)).trans ?_
    pointwise
    refine placed x md w s n _ _ fun e => ?_
    unfold Args.col
    dsimp only
    rw [if_neg (by omega), if_neg (by omega), if_neg (by omega), if_neg (by omega), if_pos (by omega)]
    exact congrArg _ (Fin.ext (by dsimp only; omega))

/-- The step widths' rows: the pieces of the whole projection end to end. -/
def dtOf : Vec Ideal S16x2304x256 .f32 :=
  (concatenate S16x2304x256 2 [⟨S16x2304x8, ((extractStridedSlice S16x2304x8 ![0, 0, 0] (extractStridedSlice S16x2304x16 ![0, 0, 3072] (full x md w) slices_S16x2304x7696_S16x2304x16_0_0_3072) slices_S16x2304x16_S16x2304x8_0_0_0) : (⟨S16x2304x8, .f32⟩ : BufTy).Contents (Elt Ideal))⟩, ⟨S16x2304x120, ((broadcastInDim S16x2304x120 ![] bcast_S_S16x2304x120 (constant (F := Ideal) S_ .f32 0x00000000#32)) : (⟨S16x2304x120, .f32⟩ : BufTy).Contents (Elt Ideal))⟩, ⟨S16x2304x8, ((extractStridedSlice S16x2304x8 ![0, 0, 8] (extractStridedSlice S16x2304x16 ![0, 0, 3072] (full x md w) slices_S16x2304x7696_S16x2304x16_0_0_3072) slices_S16x2304x16_S16x2304x8_0_0_8) : (⟨S16x2304x8, .f32⟩ : BufTy).Contents (Elt Ideal))⟩, ⟨S16x2304x120, ((broadcastInDim S16x2304x120 ![] bcast_S_S16x2304x120 (constant (F := Ideal) S_ .f32 0x00000000#32)) : (⟨S16x2304x120, .f32⟩ : BufTy).Contents (Elt Ideal))⟩] concatenates_S16x2304x8_S16x2304x120_S16x2304x8_S16x2304x120_S16x2304x256_d2 : (⟨S16x2304x256, .f32⟩ : BufTy).Contents (Elt Ideal))

set_option maxHeartbeats 4000000 in
/-- The step widths' rows at an index. -/
theorem dt_apply (s : Fin 16) (n : Fin 2304) (d : Fin 256) : dtOf x md w (ix3 s n d) = (args x md w).dt s n d := by
  unfold dtOf Args.dt
  have hd := d.isLt
  have hcases : (d.val < 8) ∨ (8 ≤ d.val ∧ d.val < 128) ∨ (128 ≤ d.val ∧ d.val < 136) ∨ (136 ≤ d.val ∧ d.val < 256) := by omega
  rcases hcases with h | h | h | h
  · refine (concatenate_apply_piece 2 _ _ (ix3 s n d) 0 (by show 0 < 4; decide) S16x2304x8 _ rfl rfl 0 rfl (ix3 s n ⟨d.val - 0, by omega⟩) (fun b hb => by match b with | ⟨0, _⟩ => rfl | ⟨1, _⟩ => rfl | ⟨2, _⟩ => exact absurd rfl hb) (by show 0 + (d.val - 0) = d.val; omega)).trans ?_
    pointwise
    refine placed x md w s n _ _ fun e => ?_
    unfold Args.col
    dsimp only
    rw [if_neg (by omega), if_neg (by omega), if_neg (by omega), if_neg (by omega), if_neg (by omega), if_neg (by omega), if_neg (by omega), if_pos (by omega)]
    exact congrArg _ (Fin.ext (by dsimp only; omega))
  · refine (concatenate_apply_piece 2 _ _ (ix3 s n d) 1 (by show 1 < 4; decide) S16x2304x120 _ rfl rfl 8 rfl (ix3 s n ⟨d.val - 8, by omega⟩) (fun b hb => by match b with | ⟨0, _⟩ => rfl | ⟨1, _⟩ => rfl | ⟨2, _⟩ => exact absurd rfl hb) (by show 8 + (d.val - 8) = d.val; omega)).trans ?_
    pointwise
    refine (empty x md w s n _ fun e => ?_).symm
    unfold Args.col
    dsimp only
    rw [if_neg (by omega), if_neg (by omega), if_neg (by omega), if_neg (by omega), if_neg (by omega), if_neg (by omega), if_neg (by omega), if_neg (by omega), if_pos (by omega)]
  · refine (concatenate_apply_piece 2 _ _ (ix3 s n d) 2 (by show 2 < 4; decide) S16x2304x8 _ rfl rfl 128 rfl (ix3 s n ⟨d.val - 128, by omega⟩) (fun b hb => by match b with | ⟨0, _⟩ => rfl | ⟨1, _⟩ => rfl | ⟨2, _⟩ => exact absurd rfl hb) (by show 128 + (d.val - 128) = d.val; omega)).trans ?_
    pointwise
    refine placed x md w s n _ _ fun e => ?_
    unfold Args.col
    dsimp only
    rw [if_neg (by omega), if_neg (by omega), if_neg (by omega), if_neg (by omega), if_neg (by omega), if_neg (by omega), if_neg (by omega), if_neg (by omega), if_neg (by omega), if_pos (by omega)]
    exact congrArg _ (Fin.ext (by dsimp only; omega))
  · refine (concatenate_apply_piece 2 _ _ (ix3 s n d) 3 (by show 3 < 4; decide) S16x2304x120 _ rfl rfl 136 rfl (ix3 s n ⟨d.val - 136, by omega⟩) (fun b hb => by match b with | ⟨0, _⟩ => rfl | ⟨1, _⟩ => rfl | ⟨2, _⟩ => exact absurd rfl hb) (by show 136 + (d.val - 136) = d.val; omega)).trans ?_
    pointwise
    refine (empty x md w s n _ fun e => ?_).symm
    unfold Args.col
    dsimp only
    rw [if_neg (by omega), if_neg (by omega), if_neg (by omega), if_neg (by omega), if_neg (by omega), if_neg (by omega), if_neg (by omega), if_neg (by omega), if_neg (by omega), if_neg (by omega)]

/-- The state space gate's rows: a slice of the whole projection. -/
def szOf : Vec Ideal S16x2304x512 .f32 :=
  extractStridedSlice S16x2304x512 ![0, 0, 2048] (full x md w) slices_S16x2304x7696_S16x2304x512_0_0_2048

/-- The state space gate's rows at an index. -/
theorem sz_apply (s : Fin 16) (n : Fin 2304) (d : Fin 512) : szOf x md w (ix3 s n d) = (args x md w).sz s n d := by
  unfold szOf Args.sz
  have hd := d.isLt
  pointwise
  refine placed x md w s n _ _ fun e => ?_
  unfold Args.col
  dsimp only
  rw [if_neg (by omega), if_neg (by omega), if_neg (by omega), if_neg (by omega), if_neg (by omega), if_pos (by omega)]
  exact congrArg _ (Fin.ext (by dsimp only; omega))

/-- The S5 input's rows: a slice of the whole projection. -/
def suOf : Vec Ideal S16x2304x512 .f32 :=
  extractStridedSlice S16x2304x512 ![0, 0, 3088] (full x md w) slices_S16x2304x7696_S16x2304x512_0_0_3088

/-- The S5 input's rows at an index. -/
theorem su_apply (s : Fin 16) (n : Fin 2304) (d : Fin 512) : suOf x md w (ix3 s n d) = (args x md w).su s n d := by
  unfold suOf Args.su
  have hd := d.isLt
  pointwise
  refine placed x md w s n _ _ fun e => ?_
  unfold Args.col
  dsimp only
  rw [if_neg (by omega), if_neg (by omega), if_neg (by omega), if_neg (by omega), if_neg (by omega), if_neg (by omega), if_pos (by omega)]
  exact congrArg _ (Fin.ext (by dsimp only; omega))

/-- The S5 input in the scan's layout. -/
def uOf : Vec Ideal S32x144x4096 .bf16 :=
  truncf (F := Ideal) .bf16 (shapeCast S32x144x4096 (transpose S32x144x16x16x16 [3, 1, 0, 2, 4] (shapeCast S16x144x16x32x16 (suOf x md w) shapeCasts_S16x2304x512_S16x144x16x32x16) transposes_S16x144x16x32x16_S32x144x16x16x16_3_1_0_2_4) shapeCasts_S32x144x16x16x16_S32x144x4096) bitsLt_bf16_f32

/-- The S5 input in the scan's layout, at an index. -/
theorem u_apply (g : Fin 32) (h : Fin 144) (l : Fin 4096) : uOf x md w (ix3 g h l) = (args x md w).u g h l := by
  unfold uOf Args.u
  pointwise
  rw [← su_apply]

/-- That result as an array. -/
theorem attn_array : attnOf x md w = fun j : S16x2304x1536.Idx => (args x md w).attn (j 0) (j 1) (j 2) := by
  refine funext fun (j : S16x2304x1536.Idx) => ?_
  idx_vars j
  exact attn_apply x md w j0 j1 j2

/-- That result as an array. -/
theorem conv_array : convOf x md w = fun j : S16x2304x1024.Idx => (args x md w).conv (j 0) (j 1) (j 2) := by
  refine funext fun (j : S16x2304x1024.Idx) => ?_
  idx_vars j
  exact conv_apply x md w j0 j1 j2

/-- That result as an array. -/
theorem sz_array : szOf x md w = fun j : S16x2304x512.Idx => (args x md w).sz (j 0) (j 1) (j 2) := by
  refine funext fun (j : S16x2304x512.Idx) => ?_
  idx_vars j
  exact sz_apply x md w j0 j1 j2

/-- That result as an array. -/
theorem su_array : suOf x md w = fun j : S16x2304x512.Idx => (args x md w).su (j 0) (j 1) (j 2) := by
  refine funext fun (j : S16x2304x512.Idx) => ?_
  idx_vars j
  exact su_apply x md w j0 j1 j2

/-- That result as an array. -/
theorem dt_array : dtOf x md w = fun j : S16x2304x256.Idx => (args x md w).dt (j 0) (j 1) (j 2) := by
  refine funext fun (j : S16x2304x256.Idx) => ?_
  idx_vars j
  exact dt_apply x md w j0 j1 j2

/-- That result as an array. -/
theorem u_array : uOf x md w = fun j : S32x144x4096.Idx => (args x md w).u (j 0) (j 1) (j 2) := by
  refine funext fun (j : S32x144x4096.Idx) => ?_
  idx_vars j
  exact u_apply x md w j0 j1 j2

end Cert.Reference2Ideal.Project
-- ==== Proof.NextRef.lean ====
module

public import proofs.«01_k».proof.Proof.Gen.Reference5Ideal.Run
public import proofs.«01_k».proof.Proof.NextToken
public import proofs.«01_k».proof.Proof.ProjRef

@[expose] public section
noncomputable section
open Idealize.ShloMosaic Idealize.ShloMosaic.TcCoe Idealize.ShloMosaic.StableHlo
namespace Cert.Reference5Ideal.Next
open Cert.Reference5Ideal Cert.Reference5Ideal.Gen Cert.Reference5Ideal.Value _root_.Next
set_option maxRecDepth 16384

/-!
  What the reference of the later layers' input projection computes at an index. After the residual it is the first
  layer's reference of the array that the residual gives.
-/

variable (V0 : Valuation τ sig (Elt Ideal))

/-- The arguments at their coordinates. -/
def args : Args where
  old := {
    x1 := fun s n e => V0 (Proc.devRef .tc main_arg0) (ix3 s n e)
    md := fun s e => V0 (Proc.devRef .tc main_arg1) (ix3 s 0 e)
    f := fun k s n e => V0 (Proc.devRef .tc main_arg2) (ix4 k s n e)
    route := fun k p => V0 (Proc.devRef .tc main_arg3) (ix2 k p)
    g := fun e => V0 (Proc.devRef .tc main_arg4) (ix1 e)
    b := fun e => V0 (Proc.devRef .tc main_arg5) (ix1 e) }
  md s e := V0 (Proc.devRef .tc main_arg6) (ix3 s 0 e)
  win e d := V0 (Proc.devRef .tc main_arg7) (ix2 e d)

/-- The modulation of a token: the context's row under the first 256, the sequence's own under the rest. -/
theorem laid_apply (s : Fin 16) (n : Fin 2304) (e : Fin 6144) :
    res_main_v4 V0 (ix3 s n e) = (args V0).old.md (Merge.Args.modRow s n) e := by
  unfold res_main_v4
  pointwise
  unfold Merge.Args.modRow
  split <;> rfl

/-- The residual stream of a token. -/
theorem stream_apply (s : Fin 16) (n : Fin 2304) (d : Fin 1024) :
    res_main_v21 V0 (ix3 s n d) = Final.stream ((args V0).old.x1 s n) (fun d => (args V0).old.md (Merge.Args.modRow s n) ⟨5120 + d.val, by omega⟩)
      (Final.mixed ((args V0).old.route 2 (Final.flat s n)) ((args V0).old.route 3 (Final.flat s n)) ((args V0).old.f 0 s n) ((args V0).old.f 1 s n)) d := by
  unfold res_main_v21
  pointwise
  simp only [laid_apply]
  rw [Fin.sum_univ_two]
  rfl

/-- The output of the layer before, at an index. -/
theorem x_apply (s : Fin 16) (n : Fin 2304) (d : Fin 1024) : res_main_v45 V0 (ix3 s n d) = (args V0).x s n d := by
  unfold res_main_v45 res_main_v27 res_main_v25
  pointwise
  simp only [stream_apply]
  rfl

/-- The first layer's arguments of that output are this one's. -/
theorem args_eq : Cert.Reference2Ideal.Project.args (res_main_v45 V0) (V0 (Proc.devRef .tc main_arg6)) (V0 (Proc.devRef .tc main_arg7)) = (args V0).next := by
  unfold Cert.Reference2Ideal.Project.args Args.next
  congr 1
  exact funext fun s => funext fun n => funext fun e => x_apply V0 s n e

/-- The output of the layer before as an array. -/
theorem x_array : res_main_v45 V0 = fun j : S16x2304x1024.Idx => (args V0).x (j 0) (j 1) (j 2) := by
  refine funext fun (j : S16x2304x1024.Idx) => ?_
  idx_vars j
  exact x_apply V0 j0 j1 j2

/-- The whole projection is the first layer's of that output. -/
theorem full_eq : res_main_v79 V0 = Cert.Reference2Ideal.Project.full (res_main_v45 V0) (V0 (Proc.devRef .tc main_arg6)) (V0 (Proc.devRef .tc main_arg7)) := by
  rfl

end Cert.Reference5Ideal.Next
-- ==== Proof.KernelIdealCases.lean ====
module

public import proofs.«01_k».proof.Proof.Gen.KernelIdeal.Frame.RunB
public import Idealize.ShloMosaic.Lib.Claim

@[expose] public section

-- deciding membership in a rectangle of these extents (`View.cover_of_tiled`)
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section CaseA

/-! ## Case A: what its run leaves, of the memrefs it is given and what they hold -/

variable (c : Dev nD) (i : grid0.Coords) (arg1 : Memref sig .tc .vmem S1x256x1024 .f32) (harg1 : arg1.IsWhole) (arg2 : Memref sig .tc .vmem S1x1x6144 .f32) (harg2 : arg2.IsWhole) (arg3 : Memref sig .tc .vmem S1x256x1024 .f32) (harg3 : arg3.IsWhole) (arg4 : Memref sig .tc .vmem S1x1x6144 .f32) (harg4 : arg4.IsWhole) (arg5 : Memref sig .tc .vmem S1x1x6144 .f32) (harg5 : arg5.IsWhole) (arg6 : Memref sig .tc .vmem S1x256x512 .bf16) (harg6 : arg6.IsWhole) (arg7 : Memref sig .tc .vmem S1x256x512 .bf16) (harg7 : arg7.IsWhole) (arg8 : Memref sig .tc .vmem S1x256x512 .bf16) (harg8 : arg8.IsWhole) (arg9 : Memref sig .tc .vmem S32x16x256 .bf16) (harg9 : arg9.IsWhole) (arg10 : Memref sig .tc .vmem S1x256x512 .f32) (harg10 : arg10.IsWhole) (arg11 : Memref sig .tc .vmem S1x512 .f32) (harg11 : arg11.IsWhole) (arg12 : Memref sig .tc .vmem S1024x4096 .bf16) (harg12 : arg12.IsWhole) (arg13 : Memref sig .tc .vmem S4x512x1024 .bf16) (harg13 : arg13.IsWhole) (arg14 : Memref sig .tc .vmem S512x1024 .bf16) (harg14 : arg14.IsWhole) (arg15 : Memref sig .tc .vmem S1024x1024 .bf16) (harg15 : arg15.IsWhole) (arg16 : Memref sig .tc .vmem S1x1024 .f32) (harg16 : arg16.IsWhole) (arg17 : Memref sig .tc .vmem S1x1024 .f32) (harg17 : arg17.IsWhole) (arg18 : Memref sig .tc .vmem S32x1024 .bf16) (harg18 : arg18.IsWhole) (arg19 : Memref sig .tc .vmem S32x1 .f32) (harg19 : arg19.IsWhole) (arg20 : Memref sig .tc .vmem S256x256 .bf16) (harg20 : arg20.IsWhole) (arg21 : Memref sig .tc .vmem S256x256 .bf16) (harg21 : arg21.IsWhole) (arg22 : Memref sig .tc .vmem S1x256x1024 .f32) (harg22 : arg22.IsWhole) (arg23 : Memref sig .tc .vmem S1x256x1024 .bf16) (harg23 : arg23.IsWhole) (arg24 : Memref sig .tc .vmem S8x256 .f32) (harg24 : arg24.IsWhole) (arg25 : Memref sig .tc .vmem S32x128 .f32) (harg25 : arg25.IsWhole) (arg26 : Memref sig .tc .vmem S32x1 .f32) (harg26 : arg26.IsWhole) (arg27 : Memref sig .tc .vmem S256x512 .bf16) (harg27 : arg27.IsWhole) (arg28 : Memref sig .tc .vmem S256x512 .bf16) (harg28 : arg28.IsWhole) (arg29 : Memref sig .tc .vmem S256x1024 .bf16) (harg29 : arg29.IsWhole) (arg30 : Memref sig .tc .vmem S256x1024 .f32) (harg30 : arg30.IsWhole) (arg31 : Memref sig .tc .vmem S256x1024 .bf16) (harg31 : arg31.IsWhole) (hc0 : cond0_0 i) (x0 : Vec F S1x256x1024 .f32) (x1 : Vec F S1x1x6144 .f32) (x2 : Vec F S1x256x1024 .f32) (x3 : Vec F S1x1x6144 .f32) (x4 : Vec F S1x1x6144 .f32) (x5 : Vec F S1x256x512 .bf16) (x6 : Vec F S1x256x512 .bf16) (x7 : Vec F S1x256x512 .bf16) (x8 : Vec F S32x16x256 .bf16) (x9 : Vec F S1x256x512 .f32) (x10 : Vec F S1x512 .f32) (x11 : Vec F S1024x4096 .bf16) (x12 : Vec F S4x512x1024 .bf16) (x13 : Vec F S512x1024 .bf16) (x14 : Vec F S1024x1024 .bf16) (x15 : Vec F S1x1024 .f32) (x16 : Vec F S1x1024 .f32) (x17 : Vec F S32x1024 .bf16) (x18 : Vec F S32x1 .f32) (x19 : Vec F S256x256 .bf16) (x20 : Vec F S256x256 .bf16)

/-- Case A's pieces for output 21 tile its block (1 store of `S1x256x1024`, checked by the kernel's evaluation: Lib/Ring.lean `Piece.tiledL`, linear in the pieces, through a loop's `@[irreducible]` trip theorem too), so they cover it. -/
theorem cover0_A_21 (y : S1x256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20).1 S1x256x1024.size (by sl_kernel_rfl) y

/-- What case A leaves in output 21's staging buffer: its pieces read back over junk. -/
def out0_A_21 : Vec F S1x256x1024 .f32 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20).1)

/-- Case A's pieces for output 22 tile its block (1 store of `S1x256x1024`, checked by the kernel's evaluation: Lib/Ring.lean `Piece.tiledL`, linear in the pieces, through a loop's `@[irreducible]` trip theorem too), so they cover it. -/
theorem cover0_A_22 (y : S1x256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20).2.1 S1x256x1024.size (by sl_kernel_rfl) y

/-- What case A leaves in output 22's staging buffer: its pieces read back over junk. -/
def out0_A_22 : Vec F S1x256x1024 .bf16 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20).2.1)

/-- Case A's pieces for output 23 tile its block (1 store of `S8x256`, checked by the kernel's evaluation: Lib/Ring.lean `Piece.tiledL`, linear in the pieces, through a loop's `@[irreducible]` trip theorem too), so they cover it. -/
theorem cover0_A_23 (y : S8x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20).2.2.1 S8x256.size (by sl_kernel_rfl) y

/-- What case A leaves in output 23's staging buffer: its pieces read back over junk. -/
def out0_A_23 : Vec F S8x256 .f32 :=
  VO0_23.read (Elt F) (VO0_23.writes (Elt F) VO0_23.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20).2.2.1)

/-- Case A's pieces for output 24 tile its block (1 store of `S32x128`, checked by the kernel's evaluation: Lib/Ring.lean `Piece.tiledL`, linear in the pieces, through a loop's `@[irreducible]` trip theorem too), so they cover it. -/
theorem cover0_A_24 (y : S32x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20).2.2.2.1 S32x128.size (by sl_kernel_rfl) y

/-- What case A leaves in output 24's staging buffer: its pieces read back over junk. -/
def out0_A_24 : Vec F S32x128 .f32 :=
  VO0_24.read (Elt F) (VO0_24.writes (Elt F) VO0_24.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20).2.2.2.1)

/-- Case A's pieces for scratch `arg26`, which the kernel carries between points, cover it: 2 pieces of `S32x1` tiling it (Lib/Ring.lean `Piece.tiledL`). -/
theorem scover0_A_0 (y : S32x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20).2.2.2.2.1 S32x1.size (by sl_kernel_rfl) y

/-- What case A leaves in scratch `arg26`: its pieces read back over junk. -/
def sout0_A_0 : Vec F S32x1 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20).2.2.2.2.1)

/-- Case A's pieces for scratch `arg28`, which the kernel carries between points, cover it: 2 pieces of `S256x512` tiling it (Lib/Ring.lean `Piece.tiledL`). -/
theorem scover0_A_2 (y : S256x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20).2.2.2.2.2.1 S256x512.size (by sl_kernel_rfl) y

/-- What case A leaves in scratch `arg28`: its pieces read back over junk. -/
def sout0_A_2 : Vec F S256x512 .bf16 :=
  VS0_2.read (Elt F) (VS0_2.writes (Elt F) VS0_2.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20).2.2.2.2.2.1)

/-- Case A's pieces for scratch `arg29`, which the kernel carries between points, cover it: 2 pieces of `S256x1024` tiling it (Lib/Ring.lean `Piece.tiledL`). -/
theorem scover0_A_3 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20).2.2.2.2.2.2.1 S256x1024.size (by sl_kernel_rfl) y

/-- What case A leaves in scratch `arg29`: its pieces read back over junk. -/
def sout0_A_3 : Vec F S256x1024 .bf16 :=
  VS0_3.read (Elt F) (VS0_3.writes (Elt F) VS0_3.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20).2.2.2.2.2.2.1)

/-- Case A's pieces for scratch `arg30`, which the kernel carries between points, cover it: 2 pieces of `S256x1024` tiling it (Lib/Ring.lean `Piece.tiledL`). -/
theorem scover0_A_4 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20).2.2.2.2.2.2.2.1 S256x1024.size (by sl_kernel_rfl) y

/-- What case A leaves in scratch `arg30`: its pieces read back over junk. -/
def sout0_A_4 : Vec F S256x1024 .f32 :=
  VS0_4.read (Elt F) (VS0_4.writes (Elt F) VS0_4.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20).2.2.2.2.2.2.2.1)

/-- Case A's pieces for scratch `arg31`, which the kernel carries between points, cover it: 2 pieces of `S256x1024` tiling it (Lib/Ring.lean `Piece.tiledL`). -/
theorem scover0_A_5 (y : S256x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20).2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20).2.2.2.2.2.2.2.2.1 S256x1024.size (by sl_kernel_rfl) y

/-- What case A leaves in scratch `arg31`: its pieces read back over junk. -/
def sout0_A_5 : Vec F S256x1024 .bf16 :=
  VS0_5.read (Elt F) (VS0_5.writes (Elt F) VS0_5.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20).2.2.2.2.2.2.2.2.1)

end CaseA

section CaseB

/-! ## Case B: what its run leaves, of the memrefs it is given and what they hold -/

variable (c : Dev nD) (i : grid0.Coords) (arg1 : Memref sig .tc .vmem S1x256x1024 .f32) (harg1 : arg1.IsWhole) (arg2 : Memref sig .tc .vmem S1x1x6144 .f32) (harg2 : arg2.IsWhole) (arg3 : Memref sig .tc .vmem S1x256x1024 .f32) (harg3 : arg3.IsWhole) (arg4 : Memref sig .tc .vmem S1x1x6144 .f32) (harg4 : arg4.IsWhole) (arg5 : Memref sig .tc .vmem S1x1x6144 .f32) (harg5 : arg5.IsWhole) (arg6 : Memref sig .tc .vmem S1x256x512 .bf16) (harg6 : arg6.IsWhole) (arg7 : Memref sig .tc .vmem S1x256x512 .bf16) (harg7 : arg7.IsWhole) (arg8 : Memref sig .tc .vmem S1x256x512 .bf16) (harg8 : arg8.IsWhole) (arg9 : Memref sig .tc .vmem S32x16x256 .bf16) (harg9 : arg9.IsWhole) (arg10 : Memref sig .tc .vmem S1x256x512 .f32) (harg10 : arg10.IsWhole) (arg11 : Memref sig .tc .vmem S1x512 .f32) (harg11 : arg11.IsWhole) (arg12 : Memref sig .tc .vmem S1024x4096 .bf16) (harg12 : arg12.IsWhole) (arg13 : Memref sig .tc .vmem S4x512x1024 .bf16) (harg13 : arg13.IsWhole) (arg14 : Memref sig .tc .vmem S512x1024 .bf16) (harg14 : arg14.IsWhole) (arg15 : Memref sig .tc .vmem S1024x1024 .bf16) (harg15 : arg15.IsWhole) (arg16 : Memref sig .tc .vmem S1x1024 .f32) (harg16 : arg16.IsWhole) (arg17 : Memref sig .tc .vmem S1x1024 .f32) (harg17 : arg17.IsWhole) (arg18 : Memref sig .tc .vmem S32x1024 .bf16) (harg18 : arg18.IsWhole) (arg19 : Memref sig .tc .vmem S32x1 .f32) (harg19 : arg19.IsWhole) (arg20 : Memref sig .tc .vmem S256x256 .bf16) (harg20 : arg20.IsWhole) (arg21 : Memref sig .tc .vmem S256x256 .bf16) (harg21 : arg21.IsWhole) (arg22 : Memref sig .tc .vmem S1x256x1024 .f32) (harg22 : arg22.IsWhole) (arg23 : Memref sig .tc .vmem S1x256x1024 .bf16) (harg23 : arg23.IsWhole) (arg24 : Memref sig .tc .vmem S8x256 .f32) (harg24 : arg24.IsWhole) (arg25 : Memref sig .tc .vmem S32x128 .f32) (harg25 : arg25.IsWhole) (arg26 : Memref sig .tc .vmem S32x1 .f32) (harg26 : arg26.IsWhole) (arg27 : Memref sig .tc .vmem S256x512 .bf16) (harg27 : arg27.IsWhole) (arg28 : Memref sig .tc .vmem S256x512 .bf16) (harg28 : arg28.IsWhole) (arg29 : Memref sig .tc .vmem S256x1024 .bf16) (harg29 : arg29.IsWhole) (arg30 : Memref sig .tc .vmem S256x1024 .f32) (harg30 : arg30.IsWhole) (arg31 : Memref sig .tc .vmem S256x1024 .bf16) (harg31 : arg31.IsWhole) (hc0 : ¬cond0_0 i) (x0 : Vec F S1x256x1024 .f32) (x1 : Vec F S1x1x6144 .f32) (x2 : Vec F S1x256x1024 .f32) (x3 : Vec F S1x1x6144 .f32) (x4 : Vec F S1x1x6144 .f32) (x5 : Vec F S1x256x512 .bf16) (x6 : Vec F S1x256x512 .bf16) (x7 : Vec F S1x256x512 .bf16) (x8 : Vec F S32x16x256 .bf16) (x9 : Vec F S1x256x512 .f32) (x10 : Vec F S1x512 .f32) (x11 : Vec F S1024x4096 .bf16) (x12 : Vec F S4x512x1024 .bf16) (x13 : Vec F S512x1024 .bf16) (x14 : Vec F S1024x1024 .bf16) (x15 : Vec F S1x1024 .f32) (x16 : Vec F S1x1024 .f32) (x17 : Vec F S32x1024 .bf16) (x18 : Vec F S32x1 .f32) (x19 : Vec F S256x256 .bf16) (x20 : Vec F S256x256 .bf16) (xs0 : Vec F S32x1 .f32) (xs2 : Vec F S256x512 .bf16) (xs3 : Vec F S256x1024 .bf16) (xs4 : Vec F S256x1024 .f32) (xs5 : Vec F S256x1024 .bf16)

/-- Case B's pieces for output 21 tile its block (1 store of `S1x256x1024`, checked by the kernel's evaluation: Lib/Ring.lean `Piece.tiledL`, linear in the pieces, through a loop's `@[irreducible]` trip theorem too), so they cover it. -/
theorem cover0_B_21 (y : S1x256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20 xs0 xs2 xs3 xs4 xs5).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20 xs0 xs2 xs3 xs4 xs5).1 S1x256x1024.size (by sl_kernel_rfl) y

/-- What case B leaves in output 21's staging buffer: its pieces read back over junk. -/
def out0_B_21 : Vec F S1x256x1024 .f32 :=
  VO0_21.read (Elt F) (VO0_21.writes (Elt F) VO0_21.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20 xs0 xs2 xs3 xs4 xs5).1)

/-- Case B's pieces for output 22 tile its block (1 store of `S1x256x1024`, checked by the kernel's evaluation: Lib/Ring.lean `Piece.tiledL`, linear in the pieces, through a loop's `@[irreducible]` trip theorem too), so they cover it. -/
theorem cover0_B_22 (y : S1x256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20 xs0 xs2 xs3 xs4 xs5).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20 xs0 xs2 xs3 xs4 xs5).2.1 S1x256x1024.size (by sl_kernel_rfl) y

/-- What case B leaves in output 22's staging buffer: its pieces read back over junk. -/
def out0_B_22 : Vec F S1x256x1024 .bf16 :=
  VO0_22.read (Elt F) (VO0_22.writes (Elt F) VO0_22.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20 xs0 xs2 xs3 xs4 xs5).2.1)

/-- Case B's pieces for output 23 tile its block (1 store of `S8x256`, checked by the kernel's evaluation: Lib/Ring.lean `Piece.tiledL`, linear in the pieces, through a loop's `@[irreducible]` trip theorem too), so they cover it. -/
theorem cover0_B_23 (y : S8x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20 xs0 xs2 xs3 xs4 xs5).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20 xs0 xs2 xs3 xs4 xs5).2.2.1 S8x256.size (by sl_kernel_rfl) y

/-- What case B leaves in output 23's staging buffer: its pieces read back over junk. -/
def out0_B_23 : Vec F S8x256 .f32 :=
  VO0_23.read (Elt F) (VO0_23.writes (Elt F) VO0_23.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20 xs0 xs2 xs3 xs4 xs5).2.2.1)

/-- Case B's pieces for output 24 tile its block (1 store of `S32x128`, checked by the kernel's evaluation: Lib/Ring.lean `Piece.tiledL`, linear in the pieces, through a loop's `@[irreducible]` trip theorem too), so they cover it. -/
theorem cover0_B_24 (y : S32x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20 xs0 xs2 xs3 xs4 xs5).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20 xs0 xs2 xs3 xs4 xs5).2.2.2.1 S32x128.size (by sl_kernel_rfl) y

/-- What case B leaves in output 24's staging buffer: its pieces read back over junk. -/
def out0_B_24 : Vec F S32x128 .f32 :=
  VO0_24.read (Elt F) (VO0_24.writes (Elt F) VO0_24.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20 xs0 xs2 xs3 xs4 xs5).2.2.2.1)

/-- Case B's pieces for scratch `arg26`, which the kernel carries between points, cover it: 1 piece of `S32x1` tiling it (Lib/Ring.lean `Piece.tiledL`). -/
theorem scover0_B_0 (y : S32x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20 xs0 xs2 xs3 xs4 xs5).2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20 xs0 xs2 xs3 xs4 xs5).2.2.2.2.1 S32x1.size (by sl_kernel_rfl) y

/-- What case B leaves in scratch `arg26`: its pieces read back over junk. -/
def sout0_B_0 : Vec F S32x1 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20 xs0 xs2 xs3 xs4 xs5).2.2.2.2.1)

/-- Case B's pieces for scratch `arg28`, which the kernel carries between points, cover it: 1 piece of `S256x512` tiling it (Lib/Ring.lean `Piece.tiledL`). -/
theorem scover0_B_2 (y : S256x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20 xs0 xs2 xs3 xs4 xs5).2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20 xs0 xs2 xs3 xs4 xs5).2.2.2.2.2.1 S256x512.size (by sl_kernel_rfl) y

/-- What case B leaves in scratch `arg28`: its pieces read back over junk. -/
def sout0_B_2 : Vec F S256x512 .bf16 :=
  VS0_2.read (Elt F) (VS0_2.writes (Elt F) VS0_2.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20 xs0 xs2 xs3 xs4 xs5).2.2.2.2.2.1)

/-- Case B's pieces for scratch `arg29`, which the kernel carries between points, cover it: 1 piece of `S256x1024` tiling it (Lib/Ring.lean `Piece.tiledL`). -/
theorem scover0_B_3 (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20 xs0 xs2 xs3 xs4 xs5).2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20 xs0 xs2 xs3 xs4 xs5).2.2.2.2.2.2.1 S256x1024.size (by sl_kernel_rfl) y

/-- What case B leaves in scratch `arg29`: its pieces read back over junk. -/
def sout0_B_3 : Vec F S256x1024 .bf16 :=
  VS0_3.read (Elt F) (VS0_3.writes (Elt F) VS0_3.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20 xs0 xs2 xs3 xs4 xs5).2.2.2.2.2.2.1)

/-- Case B's pieces for scratch `arg30`, which the kernel carries between points, cover it: 1 piece of `S256x1024` tiling it (Lib/Ring.lean `Piece.tiledL`). -/
theorem scover0_B_4 (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20 xs0 xs2 xs3 xs4 xs5).2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20 xs0 xs2 xs3 xs4 xs5).2.2.2.2.2.2.2.1 S256x1024.size (by sl_kernel_rfl) y

/-- What case B leaves in scratch `arg30`: its pieces read back over junk. -/
def sout0_B_4 : Vec F S256x1024 .f32 :=
  VS0_4.read (Elt F) (VS0_4.writes (Elt F) VS0_4.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20 xs0 xs2 xs3 xs4 xs5).2.2.2.2.2.2.2.1)

/-- Case B's pieces for scratch `arg31`, which the kernel carries between points, cover it: 1 piece of `S256x1024` tiling it (Lib/Ring.lean `Piece.tiledL`). -/
theorem scover0_B_5 (y : S256x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20 xs0 xs2 xs3 xs4 xs5).2.2.2.2.2.2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20 xs0 xs2 xs3 xs4 xs5).2.2.2.2.2.2.2.2.1 S256x1024.size (by sl_kernel_rfl) y

/-- What case B leaves in scratch `arg31`: its pieces read back over junk. -/
def sout0_B_5 : Vec F S256x1024 .bf16 :=
  VS0_5.read (Elt F) (VS0_5.writes (Elt F) VS0_5.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20 xs0 xs2 xs3 xs4 xs5).2.2.2.2.2.2.2.2.1)

end CaseB

end Cert.KernelIdeal.Gen

end
-- ==== Proof.KernelIdealFrame.lean ====
module

public import proofs.«01_k».proof.Proof.KernelIdealCases
public import Idealize.ShloMosaic.Lib.Claim

@[expose] public section

-- deciding membership in a rectangle of these extents (`View.cover_of_tiled`)
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs hold after each point -/

/-- What a point of case A leaves. -/
def caseA (c : Dev nD) (t : Fin cfg0.N) (h0 : t.val % 147 = 0) : Vec F S1x256x1024 .f32 × Vec F S1x256x1024 .bf16 × Vec F S8x256 .f32 × Vec F S32x128 .f32 × Vec F S32x1 .f32 × Vec F S256x512 .bf16 × Vec F S256x1024 .bf16 × Vec F S256x1024 .f32 × Vec F S256x1024 .bf16 :=
  (out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), sout0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t))

/-- What a point of case B leaves, over what the point before left. -/
def caseB (c : Dev nD) (t : Fin cfg0.N) (h0 : ¬t.val % 147 = 0) (p : Vec F S1x256x1024 .f32 × Vec F S1x256x1024 .bf16 × Vec F S8x256 .f32 × Vec F S32x128 .f32 × Vec F S32x1 .f32 × Vec F S256x512 .bf16 × Vec F S256x1024 .bf16 × Vec F S256x1024 .f32 × Vec F S256x1024 .bf16) :
    Vec F S1x256x1024 .f32 × Vec F S1x256x1024 .bf16 × Vec F S8x256 .f32 × Vec F S32x128 .f32 × Vec F S32x1 .f32 × Vec F S256x512 .bf16 × Vec F S256x1024 .bf16 × Vec F S256x1024 .f32 × Vec F S256x1024 .bf16 :=
  (out0_B_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) p.2.2.2.2.1 p.2.2.2.2.2.1 p.2.2.2.2.2.2.1 p.2.2.2.2.2.2.2.1 p.2.2.2.2.2.2.2.2, out0_B_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) p.2.2.2.2.1 p.2.2.2.2.2.1 p.2.2.2.2.2.2.1 p.2.2.2.2.2.2.2.1 p.2.2.2.2.2.2.2.2, out0_B_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) p.2.2.2.2.1 p.2.2.2.2.2.1 p.2.2.2.2.2.2.1 p.2.2.2.2.2.2.2.1 p.2.2.2.2.2.2.2.2, out0_B_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) p.2.2.2.2.1 p.2.2.2.2.2.1 p.2.2.2.2.2.2.1 p.2.2.2.2.2.2.2.1 p.2.2.2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) p.2.2.2.2.1 p.2.2.2.2.2.1 p.2.2.2.2.2.2.1 p.2.2.2.2.2.2.2.1 p.2.2.2.2.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) p.2.2.2.2.1 p.2.2.2.2.2.1 p.2.2.2.2.2.2.1 p.2.2.2.2.2.2.2.1 p.2.2.2.2.2.2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) p.2.2.2.2.1 p.2.2.2.2.2.1 p.2.2.2.2.2.2.1 p.2.2.2.2.2.2.2.1 p.2.2.2.2.2.2.2.2, sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) p.2.2.2.2.1 p.2.2.2.2.2.1 p.2.2.2.2.2.2.1 p.2.2.2.2.2.2.2.1 p.2.2.2.2.2.2.2.2, sout0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) p.2.2.2.2.1 p.2.2.2.2.2.1 p.2.2.2.2.2.2.1 p.2.2.2.2.2.2.2.1 p.2.2.2.2.2.2.2.2)

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1x256x1024 .f32 × Vec F S1x256x1024 .bf16 × Vec F S8x256 .f32 × Vec F S32x128 .f32 × Vec F S32x1 .f32 × Vec F S256x512 .bf16 × Vec F S256x1024 .bf16 × Vec F S256x1024 .f32 × Vec F S256x1024 .bf16
  | 0, hn => caseA m c ⟨0, hn⟩ (Nat.zero_mod _)
  | n + 1, hn =>
    if h0 : (n + 1) % 147 = 0 then
      caseA m c ⟨n + 1, hn⟩ h0
    else
      caseB m c ⟨n + 1, hn⟩ h0 (outsAt0 c n (Nat.lt_of_succ_lt hn))

/-- `outsAt0` at a point of case A: that case's contents. -/
theorem outsAt0_A (c : Dev nD) (t : Fin cfg0.N) (h0 : t.val % 147 = 0) :
    outsAt0 m c t.val t.isLt = (out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), sout0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t), sout0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 147 = 0) :
    outsAt0 m c t.val t.isLt = (out0_B_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, out0_B_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, sout0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2, sout0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.1) ∗ (∃ d, owns (c : Thread nD τ) scM0_1 fullShare d) ∗ owns (c : Thread nD τ) scM0_2 fullShare ((outsAt0 m c n hn).2.2.2.2.2.1) ∗ owns (c : Thread nD τ) scM0_3 fullShare ((outsAt0 m c n hn).2.2.2.2.2.2.1) ∗ owns (c : Thread nD τ) scM0_4 fullShare ((outsAt0 m c n hn).2.2.2.2.2.2.2.1) ∗ owns (c : Thread nD τ) scM0_5 fullShare ((outsAt0 m c n hn).2.2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.1) ∗ (∃ d, owns (c : Thread nD τ) scM0_1 fullShare d) ∗ owns (c : Thread nD τ) scM0_2 fullShare ((outsAt0 m c n hn).2.2.2.2.2.1) ∗ owns (c : Thread nD τ) scM0_3 fullShare ((outsAt0 m c n hn).2.2.2.2.2.2.1) ∗ owns (c : Thread nD τ) scM0_4 fullShare ((outsAt0 m c n hn).2.2.2.2.2.2.2.1) ∗ owns (c : Thread nD τ) scM0_5 fullShare ((outsAt0 m c n hn).2.2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.1) ∗ (∃ d, owns (c : Thread nD τ) scM0_1 fullShare d) ∗ owns (c : Thread nD τ) scM0_2 fullShare ((outsAt0 m c (n - 1) (by omega)).2.2.2.2.2.1) ∗ owns (c : Thread nD τ) scM0_3 fullShare ((outsAt0 m c (n - 1) (by omega)).2.2.2.2.2.2.1) ∗ owns (c : Thread nD τ) scM0_4 fullShare ((outsAt0 m c (n - 1) (by omega)).2.2.2.2.2.2.2.1) ∗ owns (c : Thread nD τ) scM0_5 fullShare ((outsAt0 m c (n - 1) (by omega)).2.2.2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => (outsAt0 m c t.val t.isLt).1
    | ⟨22, _⟩ => (outsAt0 m c t.val t.isLt).2.1
    | ⟨23, _⟩ => (outsAt0 m c t.val t.isLt).2.2.1
    | ⟨24, _⟩ => (outsAt0 m c t.val t.isLt).2.2.2.1
    | ⟨_ + 25, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = (outsAt0 m c t.val t.isLt).1 := by dsimp only [dats]
theorem after0_22 (c : Dev nD) (t : Fin cfg0.N) : (dats m 0 c).after 22 t = (outsAt0 m c t.val t.isLt).2.1 := by dsimp only [dats]
theorem after0_23 (c : Dev nD) (t : Fin cfg0.N) : (dats m 0 c).after 23 t = (outsAt0 m c t.val t.isLt).2.2.1 := by dsimp only [dats]
theorem after0_24 (c : Dev nD) (t : Fin cfg0.N) : (dats m 0 c).after 24 t = (outsAt0 m c t.val t.isLt).2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t))

set_option maxHeartbeats 22400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24]
  rw [show (dats m 0 c).Φ t.succ = PhiS m c (t.val + 1) t.isLt from rfl, PhiS_succ]
  have hN : t.val < 147 := lt_of_lt_of_eq t.isLt (show cfg0.N = 147 from N_0)
  by_cases h0 : t.val % 147 = 0
  · by_cases hz : t.val = 0
    · rw [PhiS_castSucc m c t, PhiS_zero m c _ _ hz, PhiA0_eq]
      rw [outsAt0_A m c t h0]
      unfold out0_A_21 out0_A_22 out0_A_23 out0_A_24 sout0_A_0 sout0_A_2 sout0_A_3 sout0_A_4 sout0_A_5; (try dsimp only)
      iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)).2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexists _; iexact H21
      isplitl [H22]; · iexists _; iexact H22
      isplitl [H23]; · iexists _; iexact H23
      isplitl [H24]; · iexists _; iexact H24
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, H9, H10, H11, H12, H13, H14, H15, H16, H17, H18, H19, H20, ⟨%e21, H21⟩, ⟨%e22, H22⟩, ⟨%e23, H23⟩, ⟨%e24, H24⟩, ⟨%es0, HS0⟩, ⟨%fT1, HS1⟩, ⟨%es2, HS2⟩, ⟨%es3, HS3⟩, ⟨%es4, HS4⟩, ⟨%es5, HS5⟩⟩
      isplitl [HS0 HS1 HS2 HS3 HS4 HS5 Hg]
      · isplitl [HS0 HS1 HS2 HS3 HS4 HS5]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS1]
          · iexists _; unfold owns; iexists _; isplitr
            swap; · iexact HS1
            ipureintro; rfl
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS4]
          · unfold owns; iexists _; isplitr
            swap; · iexact HS4
            ipureintro; exact View.read_writes_of_cover _ _ _ _ _ (scover0_A_4 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS5
          ipureintro; exact View.read_writes_of_cover _ _ _ _ _ (scover0_A_5 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]
      · unfold owns; iexists _; isplitr
        swap; · iexact H21
        ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H22]
      · unfold owns; iexists _; isplitr
        swap; · iexact H22
        ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H23]
      · unfold owns; iexists _; isplitr
        swap; · iexact H23
        ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H24
      ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · exfalso; have hN : t.val < 147 := lt_of_lt_of_eq t.isLt (show cfg0.N = 147 from N_0); omega
  · by_cases hz : t.val = 0
    · exfalso; have hN : t.val < 147 := lt_of_lt_of_eq t.isLt (show cfg0.N = 147 from N_0); omega
    · rw [PhiS_castSucc m c t, PhiS_pos m c _ _ hz]
      rw [outsAt0_B m c t h0]
      unfold out0_B_21 out0_B_22 out0_B_23 out0_B_24 sout0_B_0 sout0_B_2 sout0_B_3 sout0_B_4 sout0_B_5; (try dsimp only)
      iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
      iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) _ _ _ _ _).2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexists _; iexact H21
      isplitl [H22]; · iexists _; iexact H22
      isplitl [H23]; · iexists _; iexact H23
      isplitl [H24]; · iexists _; iexact H24
      isplitl [HS0]; · iexact HS0
      isplitl [HS1]; · iexact HS1
      isplitl [HS2]; · iexact HS2
      isplitl [HS3]; · iexact HS3
      isplitl [HS4]; · iexact HS4
      isplitl [HS5]; · iexact HS5
      iintro ⟨H0, H1, H2, H3, H4, H5, H6, H7, H8, H9, H10, H11, H12, H13, H14, H15, H16, H17, H18, H19, H20, ⟨%e21, H21⟩, ⟨%e22, H22⟩, ⟨%e23, H23⟩, ⟨%e24, H24⟩, ⟨%es0, HS0⟩, ⟨%fT1, HS1⟩, ⟨%es2, HS2⟩, ⟨%es3, HS3⟩, ⟨%es4, HS4⟩, ⟨%es5, HS5⟩⟩
      isplitl [HS0 HS1 HS2 HS3 HS4 HS5 Hg]
      · isplitl [HS0 HS1 HS2 HS3 HS4 HS5]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS1]
          · iexists _; unfold owns; iexists _; isplitr
            swap; · iexact HS1
            ipureintro; rfl
          isplitl [HS2]
          · unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (scover0_B_3 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [HS4]
          · unfold owns; iexists _; isplitr
            swap; · iexact HS4
            ipureintro; exact View.read_writes_of_cover _ _ _ _ _ (scover0_B_4 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact HS5
          ipureintro; exact View.read_writes_of_cover _ _ _ _ _ (scover0_B_5 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]
      · unfold owns; iexists _; isplitr
        swap; · iexact H21
        ipureintro; exact View.read_writes_of_cover _ _ _ _ _ (cover0_B_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H22]
      · unfold owns; iexists _; isplitr
        swap; · iexact H22
        ipureintro; exact View.read_writes_of_cover _ _ _ _ _ (cover0_B_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H23]
      · unfold owns; iexists _; isplitr
        swap; · iexact H23
        ipureintro; exact View.read_writes_of_cover _ _ _ _ _ (cover0_B_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H24
      ipureintro; exact View.read_writes_of_cover _ _ _ _ _ (cover0_B_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 2000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5⟩, Hg⟩
  isplitl [HS0 HS1 HS2 HS3 HS4 HS5]
  · isplitl [HS0]
    · iexists _; iexact HS0
    isplitl [HS1]
    · iexact HS1
    isplitl [HS2]
    · iexists _; iexact HS2
    isplitl [HS3]
    · iexists _; iexact HS3
    isplitl [HS4]
    · iexists _; iexact HS4
    iexists _; iexact HS5
  iexact Hg

/-- The same after the last point. -/
theorem hout (c : Dev nD) : (dats m 0 c).Φ (Fin.last cfg0.N) ⊢ Pipeline.ΦA spec0 c :=
  Phi_out m c _ (by rw [Fin.val_last]; have : cfg0.N = 147 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

end Cert.KernelIdeal.Gen

end
-- ==== Proof.Tile.lean ====
module

public import proofs.«01_k».proof.Proof.Gen.KernelIdeal.Skeleton
public import proofs.«01_k».proof.Proof.Rows

@[expose] public section
noncomputable section
open Idealize.ShloMosaic Idealize.ShloMosaic.TcCoe
namespace Cert.KernelIdeal.Merge
open Cert.KernelIdeal Cert.KernelIdeal.Gen _root_.Merge
set_option maxRecDepth 16384

/-- The post norm of a tile's row, as the kernel's body computes it. -/
theorem postNorm_apply (v7 : Vec Ideal S256x1024 .f32) (g b : Vec Ideal S1x1024 .f32) (r : Fin 256) (d : Fin 1024) :
    k0_pay14 v7 g b (ix2 r d) = postNorm (fun e => v7 (ix2 r e)) (fun e => g (ix2 0 e)) (fun e => b (ix2 0 e)) d := by
  pointwise [k0_pay14]
  rfl

/-- The modulated norm of a tile's row, as the kernel's body computes it for its second result. -/
theorem modulated_apply (v : FVec Ideal S256x1024 .f32) (sc sh : Vec Ideal S1x1x1024 .f32) (r : Fin 256) (d : Fin 1024) :
    k0_pay16 v sc sh (ix2 r d) = modulated (fun e => v (ix2 r e)) (fun e => sc (ix3 0 0 e)) (fun e => sh (ix3 0 0 e)) d := by
  pointwise [k0_pay16]
  rfl

/-- The gated unit of the S5 branch on a tile's row. -/
theorem glu_apply (p : Vec Ideal S256x512 .bf16) (w : Vec Ideal S512x1024 .bf16) (r : Fin 256) (k : Fin 512) :
    k0_pay8 p w (ix2 r k) = glu (fun j => p (ix2 r j)) (fun j k => w (ix2 j ⟨k.val, by omega⟩)) (fun j k => w (ix2 j ⟨512 + k.val, by omega⟩)) k := by
  pointwise [k0_pay8]
  rfl

/-- The first branch, added to the accumulator. -/
theorem branch0_apply (h : Vec Ideal S256x1024 .bf16) (acc : FVec Ideal S256x1024 .f32) (b : FVec Ideal S256x512 .bf16) (wg : Vec Ideal S1024x1024 .bf16) (wb : Vec Ideal S1x512x1024 .bf16) (r : Fin 256) (d : Fin 1024) :
    k0_pay13 h acc b wg wb (ix2 r d) = acc (ix2 r d) + branch (fun e => h (ix2 r e)) (fun e d => wg (ix2 e d)) (fun k => b (ix2 r k)) (fun k d => wb (ix3 0 k d)) d := by
  pointwise [k0_pay13]
  rfl

/-- The second branch, added to the accumulator. -/
theorem branch1_apply (h : Vec Ideal S256x1024 .bf16) (acc : FVec Ideal S256x1024 .f32) (b : FVec Ideal S256x512 .bf16) (wg : Vec Ideal S1024x1024 .bf16) (wb : Vec Ideal S1x512x1024 .bf16) (r : Fin 256) (d : Fin 1024) :
    k0_pay19 h b acc wg wb (ix2 r d) = acc (ix2 r d) + branch (fun e => h (ix2 r e)) (fun e d => wg (ix2 e d)) (fun k => b (ix2 r k)) (fun k d => wb (ix3 0 k d)) d := by
  pointwise [k0_pay19]
  rfl

/-- The third branch, added to the accumulator. -/
theorem branch2_apply (h : Vec Ideal S256x1024 .bf16) (acc : FVec Ideal S256x1024 .f32) (b : FVec Ideal S256x512 .bf16) (wg : Vec Ideal S1024x1024 .bf16) (wb : Vec Ideal S1x512x1024 .bf16) (r : Fin 256) (d : Fin 1024) :
    k0_pay73 b acc (k0_pay72 h wg) wb (ix2 r d) = acc (ix2 r d) + branch (fun e => h (ix2 r e)) (fun e d => wg (ix2 e d)) (fun k => b (ix2 r k)) (fun k d => wb (ix3 0 k d)) d := by
  pointwise [k0_pay73, k0_pay72]
  rfl

/-- The fourth branch, the output projection and the residual. -/
theorem residual_apply (h : Vec Ideal S256x1024 .bf16) (acc : FVec Ideal S256x1024 .f32) (b : FVec Ideal S256x512 .bf16) (wg : Vec Ideal S1024x1024 .bf16) (wb : Vec Ideal S1x512x1024 .bf16)
    (wo : Vec Ideal S1024x1024 .bf16) (x : Vec Ideal S1x256x1024 .f32) (g : Vec Ideal S1x1x1024 .f32) (r : Fin 256) (d : Fin 1024) :
    k0_pay628 h b acc wg wb wo x g (ix2 r d) = residual (fun e => x (ix3 0 r e)) (fun e => g (ix3 0 0 e))
      (fun d => acc (ix2 r d) + branch (fun e => h (ix2 r e)) (fun e d => wg (ix2 e d)) (fun k => b (ix2 r k)) (fun k d => wb (ix3 0 k d)) d)
      (fun e d => wo (ix2 e d)) d := by
  pointwise [k0_pay628]
  rfl

/-- The S5 branch's GELU with its skip, on the row the permutation matrix brings. -/
theorem posted_apply (sw : FVec Ideal S256x256 .bf16) (y : Vec Ideal S256x512 .bf16) (d : Vec Ideal S1x512 .f32) (u : Vec Ideal S1x256x512 .f32) (r : Fin 256) (k : Fin 512) :
    k0_pay630 (k0_pay629 sw) y (constant S256x512 .f32 0x00000000#32) d u (ix2 r k) = posted (fun k => ∑ q, sw (ix2 r q) * y (ix2 q k)) (fun k => d (ix2 0 k)) (fun k => u (ix3 0 r k)) k := by
  pointwise [k0_pay630, k0_pay629]
  rfl

/-- The modulated norm the gates are computed from, on a tile's row. -/
theorem hidden_apply (x : Vec Ideal S1x256x1024 .f32) (sc sh : Vec Ideal S1x1x1024 .f32) (r : Fin 256) (d : Fin 1024) :
    k0_pay1 (k0_pay633 (k0_pay631 x) (k0_pay632 x)) (k0_pay634 sc) sh (ix2 r d)
      = modulated (fun e => x (ix3 0 r e)) (fun e => sc (ix3 0 0 e)) (fun e => sh (ix3 0 0 e)) d := by
  pointwise [k0_pay1, k0_pay633, k0_pay631, k0_pay632, k0_pay634]
  rfl
end Cert.KernelIdeal.Merge
-- ==== Proof.Scatter.lean ====
module

public import proofs.«01_k».proof.Proof.Gen.KernelIdeal.Frame.RunA
public import proofs.«01_k».proof.Proof.Gen.KernelIdeal.Frame.RunB
public import Idealize.ShloMosaic.Lib.Pipeline.ReadBack
public import proofs.«01_k».proof.Proof.Tile

@[expose] public section
noncomputable section
open Idealize.ShloMosaic Idealize.ShloMosaic.TcCoe
namespace Cert.KernelIdeal.Merge
open Cert.KernelIdeal Cert.KernelIdeal.Gen
set_option maxRecDepth 16384

/-!
  The S5 tile scattered: 512 blocks of 16 by 16, each a slice of the tile in the scan's layout, stored side by side.
-/

/-- A row of the tile is below 256. -/
theorem row_lt (i : S256x512.Idx) : (i 0).val < 256 := (i 0).isLt

/-- A column of the tile is below 512. -/
theorem col_lt (i : S256x512.Idx) : (i 1).val < 512 := (i 1).isLt

/-- The tile the 512 stores leave: row `t * 16 + q`, column `g * 16 + k` is chunk `q`, group `g`, lane `t * 16 + k`. -/
def scattered (x : Vec Ideal S32x16x256 .bf16) : Vec Ideal S256x512 .bf16 := fun i =>
  x (ix3 ⟨(i 1).val / 16, by have := col_lt i; omega⟩ ⟨(i 0).val % 16, by omega⟩
    ⟨(i 0).val / 16 * 16 + (i 1).val % 16, by have := row_lt i; omega⟩)

/-- A slice cast to a block, at an index. -/
theorem cast_apply (z : Vec Ideal S1x16x16 .bf16) (a b : Fin 16) :
    shapeCast S16x16 z shapeCasts_S1x16x16_S16x16 (ix2 a b) = z (ix3 0 a b) := by
  pointwise

/-- One store: the slice of group `g` at lanes `o` to `o + 15` lands at rows `o` to `o + 15`, columns `16 * g` on. -/
theorem scattered_piece (arg : Memref sig .tc .vmem S32x16x256 .bf16) (h : arg.IsWhole) (x : Vec Ideal S32x16x256 .bf16) (g o p : ℕ)
    (inb : ∀ a, (![g, 0, o] : Fin 3 → ℕ) a + S1x16x16.size a ≤ S32x16x256.size a)
    (inb' : ∀ a, (![o, p] : Fin 2 → ℕ) a + S16x16.size a ≤ S256x512.size a) (hp : p = 16 * g) (ho : o % 16 = 0)
    (y : S16x16.Idx) :
    shapeCast S16x16 (shapeCast S16x16 (View.readAt (Elt Ideal) arg.view (Rect.unit (s := S32x16x256) ![g, 0, o] S1x16x16.size inb).toLoadRect (h.unread x))
      shapeCasts_S1x16x16_S16x16) shapeCasts_S16x16_S16x16 y = scattered x ((Rect.unit (s := S256x512) ![o, p] S16x16.size inb').emb y) := by
  rw [shapeCast_self, View.readAt_eq_ld, h.read_unread]
  idx_vars y
  rw [cast_apply]
  unfold scattered
  show x _ = x _
  congr 1
  have h0 := y0.isLt
  have h1 := y1.isLt
  funext a
  apply Fin.ext
  match a with
  | ⟨0, _⟩ => show g + 1 * 0 = (p + 1 * y1.val) / 16; omega
  | ⟨1, _⟩ => show 0 + 1 * y0.val = (o + 1 * y0.val) % 16; omega
  | ⟨2, _⟩ => show o + 1 * y1.val = (o + 1 * y0.val) / 16 * 16 + (p + 1 * y1.val) % 16; omega

/-- Block `n` stays inside the tile. -/
theorem block_inb (n : ℕ) (a : Fin 2) : (![16 * (n % 512 / 32), 16 * (n % 32)] : Fin 2 → ℕ) a + S16x16.size a ≤ S256x512.size a := by
  match a with
  | ⟨0, _⟩ => show 16 * (n % 512 / 32) + 16 ≤ 256; omega
  | ⟨1, _⟩ => show 16 * (n % 32) + 16 ≤ 512; omega

/-- The slice block `n` is cut from stays inside its array. -/
theorem slice_inb (n : ℕ) (a : Fin 3) : (![n % 32, 0, 16 * (n % 512 / 32)] : Fin 3 → ℕ) a + S1x16x16.size a ≤ S32x16x256.size a := by
  match a with
  | ⟨0, _⟩ => show n % 32 + 1 ≤ 32; omega
  | ⟨1, _⟩ => show 0 + 16 ≤ 16; omega
  | ⟨2, _⟩ => show 16 * (n % 512 / 32) + 16 ≤ 256; omega

/-- Block `n` of the 512: token `n / 32` of the chunk, group `n % 32`. -/
def block (arg : Memref sig .tc .vmem S32x16x256 .bf16) (h : arg.IsWhole) (x : Vec Ideal S32x16x256 .bf16) (n : ℕ) : View.Piece (Elt Ideal) S256x512 .bf16 :=
  ⟨Rect.unit (s := S256x512) ![16 * (n % 512 / 32), 16 * (n % 32)] S16x16.size (block_inb n),
    shapeCast S16x16 (shapeCast S16x16 (View.readAt (Elt Ideal) arg.view (Rect.unit (s := S32x16x256) ![n % 32, 0, 16 * (n % 512 / 32)] S1x16x16.size (slice_inb n)).toLoadRect (h.unread x))
      shapeCasts_S1x16x16_S16x16) shapeCasts_S16x16_S16x16⟩

/-- The first `n` blocks, the last stored first. -/
def blocks (arg : Memref sig .tc .vmem S32x16x256 .bf16) (h : arg.IsWhole) (x : Vec Ideal S32x16x256 .bf16) (n : ℕ) : List (View.Piece (Elt Ideal) S256x512 .bf16) :=
  Nat.rec [] (fun k l => block arg h x k :: l) n

/-- Every one of them is a block of the scattered tile. -/
theorem blocks_pieces (arg : Memref sig .tc .vmem S32x16x256 .bf16) (h : arg.IsWhole) (x : Vec Ideal S32x16x256 .bf16) (n : ℕ) :
    View.PiecesOf (scattered x) (blocks arg h x n) := by
  induction n with
  | zero => exact trivial
  | succ k ih => exact ⟨fun y => scattered_piece arg h x _ _ _ (slice_inb k) (block_inb k) rfl (by omega) y, ih⟩

/-- The stores of case A are the 512 blocks. -/
theorem stores_A (c : Dev nD) (arg9 : Memref sig .tc .vmem S32x16x256 .bf16) (harg9 : arg9.IsWhole) (x8 : Vec Ideal S32x16x256 .bf16) :
    kernelRun0_A.sl.HS1_512 c arg9 harg9 x8 = blocks arg9 harg9 x8 512 := by
  sl_kernel_rfl

/-- Every store of case A is a block of the scattered tile. -/
theorem pieces_A (c : Dev nD) (arg9 : Memref sig .tc .vmem S32x16x256 .bf16) (harg9 : arg9.IsWhole) (x8 : Vec Ideal S32x16x256 .bf16) :
    View.PiecesOf (scattered x8) (kernelRun0_A.sl.HS1_512 c arg9 harg9 x8) := by
  rw [stores_A]
  exact blocks_pieces _ _ _ _

/-- So the tile read back whole in case A is the scattered tile. -/
theorem read_A (c : Dev nD) (arg9 : Memref sig .tc .vmem S32x16x256 .bf16) (harg9 : arg9.IsWhole) (arg27 : Memref sig .tc .vmem S256x512 .bf16) (x8 : Vec Ideal S32x16x256 .bf16) :
    kernelRun0_A.sl.v3126 c arg9 harg9 arg27 x8 = scattered x8 := by
  unfold kernelRun0_A.sl.v3126
  rw [View.readCov_eq_canon']
  funext j
  rw [View.canon_apply_of_pieces (scattered x8) _ (pieces_A c arg9 harg9 x8).mem _ (View.cover_of_tiledL _ ![16, 16] (by sl_kernel_rfl) _)]
  congr 1
  funext a
  apply Fin.ext
  match a with
  | ⟨0, _⟩ => show 0 + 1 * (j 0).val = (j 0).val; omega
  | ⟨1, _⟩ => show 0 + 1 * (j 1).val = (j 1).val; omega

/-- The stores of case B are the 512 blocks. -/
theorem stores_B (c : Dev nD) (arg9 : Memref sig .tc .vmem S32x16x256 .bf16) (harg9 : arg9.IsWhole) (x8 : Vec Ideal S32x16x256 .bf16) :
    kernelRun0_B.sl.HS1_512 c arg9 harg9 x8 = blocks arg9 harg9 x8 512 := by
  sl_kernel_rfl

/-- Every store of case B is a block of the scattered tile. -/
theorem pieces_B (c : Dev nD) (arg9 : Memref sig .tc .vmem S32x16x256 .bf16) (harg9 : arg9.IsWhole) (x8 : Vec Ideal S32x16x256 .bf16) :
    View.PiecesOf (scattered x8) (kernelRun0_B.sl.HS1_512 c arg9 harg9 x8) := by
  rw [stores_B]
  exact blocks_pieces _ _ _ _

/-- So the tile read back whole in case B is the scattered tile. -/
theorem read_B (c : Dev nD) (arg9 : Memref sig .tc .vmem S32x16x256 .bf16) (harg9 : arg9.IsWhole) (arg27 : Memref sig .tc .vmem S256x512 .bf16) (x8 : Vec Ideal S32x16x256 .bf16) :
    kernelRun0_B.sl.v3126 c arg9 harg9 arg27 x8 = scattered x8 := by
  unfold kernelRun0_B.sl.v3126
  rw [View.readCov_eq_canon']
  funext j
  rw [View.canon_apply_of_pieces (scattered x8) _ (pieces_B c arg9 harg9 x8).mem _ (View.cover_of_tiledL _ ![16, 16] (by sl_kernel_rfl) _)]
  congr 1
  funext a
  apply Fin.ext
  match a with
  | ⟨0, _⟩ => show 0 + 1 * (j 0).val = (j 0).val; omega
  | ⟨1, _⟩ => show 0 + 1 * (j 1).val = (j 1).val; omega

end Cert.KernelIdeal.Merge
-- ==== Proof.Pieces.lean ====
module

public import proofs.«01_k».proof.Proof.KernelIdealCases
public import Idealize.ShloMosaic.Lib.Pipeline.ValueKit.Tiles
public import proofs.«01_k».proof.Proof.Scatter

@[expose] public section
noncomputable section
open Idealize.ShloMosaic Idealize.ShloMosaic.TcCoe
namespace Cert.KernelIdeal.Merge
open Cert.KernelIdeal Cert.KernelIdeal.Gen
set_option maxRecDepth 16384

/-!
  What one run of the body leaves in the scratch it carries and in its first two results, row by row, as functions of
  the blocks it is given and of the scratch the run before left.
-/

/-- A load of 1024 columns of a modulation row. -/
theorem ld_mod (x : Vec Ideal S1x1x6144 .f32) (o : ℕ) (inb) (ho : o + 1024 ≤ 6144) (e : Fin 1024) :
    View.ld x (Rect.unit (s := S1x1x6144) ![0, 0, o] ![1, 1, 1024] inb) (ix3 0 0 e) = x (ix3 0 0 ⟨o + e.val, by omega⟩) := by
  refine View.ld_unit_apply_of x _ _ _ _ _ fun a => ?_
  match a with
  | ⟨0, _⟩ => rfl
  | ⟨1, _⟩ => rfl
  | ⟨2, _⟩ => rfl

/-- A load of one branch's gate columns. -/
theorem ld_gate (x : Vec Ideal S1024x4096 .bf16) (o : ℕ) (inb) (ho : o + 1024 ≤ 4096) (r e : Fin 1024) :
    View.ld x (Rect.unit (s := S1024x4096) ![0, o] ![1024, 1024] inb) (ix2 r e) = x (ix2 r ⟨o + e.val, by omega⟩) := by
  refine View.ld_unit_apply_of x _ _ _ _ _ fun a => ?_
  match a with
  | ⟨0, _⟩ => exact (Nat.zero_add _).symm
  | ⟨1, _⟩ => rfl

/-- A load of one branch's projection. -/
theorem ld_proj (x : Vec Ideal S4x512x1024 .bf16) (i : Fin 4) (inb) (k : Fin 512) (d : Fin 1024) :
    View.ld x (Rect.unit (s := S4x512x1024) ![i.val, 0, 0] ![1, 512, 1024] inb) (ix3 0 k d) = x (ix3 i k d) := by
  refine View.ld_unit_apply_of x _ _ _ _ _ fun a => ?_
  match a with
  | ⟨0, _⟩ => rfl
  | ⟨1, _⟩ => exact (Nat.zero_add _).symm
  | ⟨2, _⟩ => exact (Nat.zero_add _).symm

/-- A load of a whole block of shape `S256x1024` is the block. -/
theorem ld_S256x1024 {e : EltTy} (x : Vec Ideal S256x1024 e) (inb) (a : Fin 256) (b : Fin 1024) : View.ld x (Rect.unit (s := S256x1024) ![0, 0] ![256, 1024] inb) (ix2 a b) = x (ix2 a b) :=
  congrFun (View.ld_unit_lit (S := S256x1024) _ x (by decide)) _

/-- A load of a whole block of shape `S1x1024` is the block. -/
theorem ld_S1x1024 {e : EltTy} (x : Vec Ideal S1x1024 e) (inb) (a : Fin 1) (b : Fin 1024) : View.ld x (Rect.unit (s := S1x1024) ![0, 0] ![1, 1024] inb) (ix2 a b) = x (ix2 a b) :=
  congrFun (View.ld_unit_lit (S := S1x1024) _ x (by decide)) _

/-- A load of a whole block of shape `S1x256x1024` is the block. -/
theorem ld_S1x256x1024 {e : EltTy} (x : Vec Ideal S1x256x1024 e) (inb) (a : Fin 1) (b : Fin 256) (c : Fin 1024) : View.ld x (Rect.unit (s := S1x256x1024) ![0, 0, 0] ![1, 256, 1024] inb) (ix3 a b c) = x (ix3 a b c) :=
  congrFun (View.ld_unit_lit (S := S1x256x1024) _ x (by decide)) _

/-- A load of a whole block of shape `S1x256x512` is the block. -/
theorem ld_S1x256x512 {e : EltTy} (x : Vec Ideal S1x256x512 e) (inb) (a : Fin 1) (b : Fin 256) (c : Fin 512) : View.ld x (Rect.unit (s := S1x256x512) ![0, 0, 0] ![1, 256, 512] inb) (ix3 a b c) = x (ix3 a b c) :=
  congrFun (View.ld_unit_lit (S := S1x256x512) _ x (by decide)) _

/-- A load of a whole block of shape `S1x512` is the block. -/
theorem ld_S1x512 {e : EltTy} (x : Vec Ideal S1x512 e) (inb) (a : Fin 1) (b : Fin 512) : View.ld x (Rect.unit (s := S1x512) ![0, 0] ![1, 512] inb) (ix2 a b) = x (ix2 a b) :=
  congrFun (View.ld_unit_lit (S := S1x512) _ x (by decide)) _

/-- A load of a whole block of shape `S256x256` is the block. -/
theorem ld_S256x256 {e : EltTy} (x : Vec Ideal S256x256 e) (inb) (a : Fin 256) (b : Fin 256) : View.ld x (Rect.unit (s := S256x256) ![0, 0] ![256, 256] inb) (ix2 a b) = x (ix2 a b) :=
  congrFun (View.ld_unit_lit (S := S256x256) _ x (by decide)) _

/-- A load of a whole block of shape `S256x512` is the block. -/
theorem ld_S256x512 {e : EltTy} (x : Vec Ideal S256x512 e) (inb) (a : Fin 256) (b : Fin 512) : View.ld x (Rect.unit (s := S256x512) ![0, 0] ![256, 512] inb) (ix2 a b) = x (ix2 a b) :=
  congrFun (View.ld_unit_lit (S := S256x512) _ x (by decide)) _

/-- A load of a whole block of shape `S512x1024` is the block. -/
theorem ld_S512x1024 {e : EltTy} (x : Vec Ideal S512x1024 e) (inb) (a : Fin 512) (b : Fin 1024) : View.ld x (Rect.unit (s := S512x1024) ![0, 0] ![512, 1024] inb) (ix2 a b) = x (ix2 a b) :=
  congrFun (View.ld_unit_lit (S := S512x1024) _ x (by decide)) _

/-- A load of a whole block of shape `S1024x1024` is the block. -/
theorem ld_S1024x1024 {e : EltTy} (x : Vec Ideal S1024x1024 e) (inb) (a : Fin 1024) (b : Fin 1024) : View.ld x (Rect.unit (s := S1024x1024) ![0, 0] ![1024, 1024] inb) (ix2 a b) = x (ix2 a b) :=
  congrFun (View.ld_unit_lit (S := S1024x1024) _ x (by decide)) _

/-- A branch's block without its leading axis. -/
theorem branch_block_apply (x : Vec Ideal S1x256x512 .bf16) (r : Fin 256) (k : Fin 512) :
    k0_pay10 x (ix2 r k) = x (ix3 0 r k) ∧ k0_pay11 x (ix2 r k) = x (ix3 0 r k) ∧ k0_pay12 x (ix2 r k) = x (ix3 0 r k) := by
  refine ⟨?_, ?_, ?_⟩
  · pointwise [k0_pay10]
  · pointwise [k0_pay11]
  · pointwise [k0_pay12]

/-- The accumulator the branches are added to starts at zero. -/
theorem start_apply (r : Fin 256) (d : Fin 1024) : k0_pay9 (F := Ideal) (ix2 r d) = (0 : EReal) := by
  pointwise [k0_pay9]

/-- The first result's block: the post norm with its leading axis. -/
theorem first_apply (v : FVec Ideal S256x1024 .f32) (r : Fin 256) (d : Fin 1024) : k0_pay15 v (ix3 0 r d) = v (ix2 r d) := by
  pointwise [k0_pay15]

/-- The second result's block: the modulated norm with its leading axis. -/
theorem second_apply (v : FVec Ideal S256x1024 .f32) (sc sh : Vec Ideal S1x1x1024 .f32) (r : Fin 256) (d : Fin 1024) :
    k0_pay17 v sc sh (ix3 0 r d) = _root_.Merge.modulated (fun e => v (ix2 r e)) (fun e => sc (ix3 0 0 e)) (fun e => sh (ix3 0 0 e)) d := by
  refine Eq.trans ?_ (modulated_apply v sc sh r d)
  pointwise [k0_pay17]

section CaseA
variable (c : Dev nD) (i : grid0.Coords) (arg1 : Memref sig .tc .vmem S1x256x1024 .f32) (harg1 : arg1.IsWhole) (arg2 : Memref sig .tc .vmem S1x1x6144 .f32) (harg2 : arg2.IsWhole) (arg3 : Memref sig .tc .vmem S1x256x1024 .f32) (harg3 : arg3.IsWhole) (arg4 : Memref sig .tc .vmem S1x1x6144 .f32) (harg4 : arg4.IsWhole) (arg5 : Memref sig .tc .vmem S1x1x6144 .f32) (harg5 : arg5.IsWhole) (arg6 : Memref sig .tc .vmem S1x256x512 .bf16) (harg6 : arg6.IsWhole) (arg7 : Memref sig .tc .vmem S1x256x512 .bf16) (harg7 : arg7.IsWhole) (arg8 : Memref sig .tc .vmem S1x256x512 .bf16) (harg8 : arg8.IsWhole) (arg9 : Memref sig .tc .vmem S32x16x256 .bf16) (harg9 : arg9.IsWhole) (arg10 : Memref sig .tc .vmem S1x256x512 .f32) (harg10 : arg10.IsWhole) (arg11 : Memref sig .tc .vmem S1x512 .f32) (harg11 : arg11.IsWhole) (arg12 : Memref sig .tc .vmem S1024x4096 .bf16) (harg12 : arg12.IsWhole) (arg13 : Memref sig .tc .vmem S4x512x1024 .bf16) (harg13 : arg13.IsWhole) (arg14 : Memref sig .tc .vmem S512x1024 .bf16) (harg14 : arg14.IsWhole) (arg15 : Memref sig .tc .vmem S1024x1024 .bf16) (harg15 : arg15.IsWhole) (arg16 : Memref sig .tc .vmem S1x1024 .f32) (harg16 : arg16.IsWhole) (arg17 : Memref sig .tc .vmem S1x1024 .f32) (harg17 : arg17.IsWhole) (arg18 : Memref sig .tc .vmem S32x1024 .bf16) (harg18 : arg18.IsWhole) (arg19 : Memref sig .tc .vmem S32x1 .f32) (harg19 : arg19.IsWhole) (arg20 : Memref sig .tc .vmem S256x256 .bf16) (harg20 : arg20.IsWhole) (arg21 : Memref sig .tc .vmem S256x256 .bf16) (harg21 : arg21.IsWhole) (arg22 : Memref sig .tc .vmem S1x256x1024 .f32) (harg22 : arg22.IsWhole) (arg23 : Memref sig .tc .vmem S1x256x1024 .bf16) (harg23 : arg23.IsWhole) (arg24 : Memref sig .tc .vmem S8x256 .f32) (harg24 : arg24.IsWhole) (arg25 : Memref sig .tc .vmem S32x128 .f32) (harg25 : arg25.IsWhole) (arg26 : Memref sig .tc .vmem S32x1 .f32) (harg26 : arg26.IsWhole) (arg27 : Memref sig .tc .vmem S256x512 .bf16) (harg27 : arg27.IsWhole) (arg28 : Memref sig .tc .vmem S256x512 .bf16) (harg28 : arg28.IsWhole) (arg29 : Memref sig .tc .vmem S256x1024 .bf16) (harg29 : arg29.IsWhole) (arg30 : Memref sig .tc .vmem S256x1024 .f32) (harg30 : arg30.IsWhole) (arg31 : Memref sig .tc .vmem S256x1024 .bf16) (harg31 : arg31.IsWhole) (hc0 : cond0_0 i) (x0 : Vec Ideal S1x256x1024 .f32) (x1 : Vec Ideal S1x1x6144 .f32) (x2 : Vec Ideal S1x256x1024 .f32) (x3 : Vec Ideal S1x1x6144 .f32) (x4 : Vec Ideal S1x1x6144 .f32) (x5 : Vec Ideal S1x256x512 .bf16) (x6 : Vec Ideal S1x256x512 .bf16) (x7 : Vec Ideal S1x256x512 .bf16) (x8 : Vec Ideal S32x16x256 .bf16) (x9 : Vec Ideal S1x256x512 .f32) (x10 : Vec Ideal S1x512 .f32) (x11 : Vec Ideal S1024x4096 .bf16) (x12 : Vec Ideal S4x512x1024 .bf16) (x13 : Vec Ideal S512x1024 .bf16) (x14 : Vec Ideal S1024x1024 .bf16) (x15 : Vec Ideal S1x1024 .f32) (x16 : Vec Ideal S1x1024 .f32) (x17 : Vec Ideal S32x1024 .bf16) (x18 : Vec Ideal S32x1 .f32) (x19 : Vec Ideal S256x256 .bf16) (x20 : Vec Ideal S256x256 .bf16)

/-- The gates' norm, carried to the next point. -/
theorem norm_A (r : Fin 256) (d : Fin 1024) : sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20 (ix2 r d)
    = _root_.Merge.modulated (fun e => x0 (ix3 0 r e)) (fun e => x1 (ix3 0 0 ⟨1024 + e.val, by omega⟩)) (fun e => x1 (ix3 0 0 ⟨0 + e.val, by omega⟩)) d := by
  unfold sout0_A_3
  rw [View.read_writes_junk_eq_canon]
  unfold kernelRun0_A
  dsimp only
  refine (congrFun (View.canon_cons_unit_lit (S := S256x1024) _ _ _ (by decide)) _).trans ?_
  unfold kernelRun0_A.sl.r_68 kernelRun0_A.sl.r_69 kernelRun0_A.sl.r_66 kernelRun0_A.sl.r_67
  simp only [View.readAt_eq_ld, Memref.IsWhole.read_unread]
  rw [hidden_apply]
  congr 1
  · exact funext fun e => ld_S1x256x1024 x0 _ 0 r e
  · exact funext fun e => ld_mod x1 _ _ (by decide) e
  · exact funext fun e => ld_mod x1 _ _ (by decide) e

/-- The S5 branch before its gated unit, carried to the next point. -/
theorem post_A (r : Fin 256) (k : Fin 512) : sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20 (ix2 r k)
    = _root_.Merge.posted (fun k => ∑ q, x20 (ix2 r q) * scattered x8 (ix2 q k)) (fun k => x10 (ix2 0 k)) (fun k => x9 (ix3 0 r k)) k := by
  unfold sout0_A_2
  rw [View.read_writes_junk_eq_canon]
  unfold kernelRun0_A
  dsimp only
  refine (congrFun (View.canon_cons_unit_lit (S := S256x512) _ _ _ (by decide)) _).trans ?_
  rw [read_A]
  unfold kernelRun0_A.sl.r_65 kernelRun0_A.sl.cst_2758
  simp only [View.readAt_eq_ld, Memref.IsWhole.read_unread]
  refine (posted_apply _ _ _ _ _ _).trans ?_
  congr 1
  · exact funext fun k => Finset.sum_congr rfl fun q _ => congrArg (· * scattered x8 (ix2 q k)) (ld_S256x256 x20 _ r q)
  · exact funext fun k => ld_S1x512 x10 _ 0 k
  · exact funext fun k => ld_S1x256x512 x9 _ 0 r k

end CaseA

section CaseB
variable (c : Dev nD) (i : grid0.Coords) (arg1 : Memref sig .tc .vmem S1x256x1024 .f32) (harg1 : arg1.IsWhole) (arg2 : Memref sig .tc .vmem S1x1x6144 .f32) (harg2 : arg2.IsWhole) (arg3 : Memref sig .tc .vmem S1x256x1024 .f32) (harg3 : arg3.IsWhole) (arg4 : Memref sig .tc .vmem S1x1x6144 .f32) (harg4 : arg4.IsWhole) (arg5 : Memref sig .tc .vmem S1x1x6144 .f32) (harg5 : arg5.IsWhole) (arg6 : Memref sig .tc .vmem S1x256x512 .bf16) (harg6 : arg6.IsWhole) (arg7 : Memref sig .tc .vmem S1x256x512 .bf16) (harg7 : arg7.IsWhole) (arg8 : Memref sig .tc .vmem S1x256x512 .bf16) (harg8 : arg8.IsWhole) (arg9 : Memref sig .tc .vmem S32x16x256 .bf16) (harg9 : arg9.IsWhole) (arg10 : Memref sig .tc .vmem S1x256x512 .f32) (harg10 : arg10.IsWhole) (arg11 : Memref sig .tc .vmem S1x512 .f32) (harg11 : arg11.IsWhole) (arg12 : Memref sig .tc .vmem S1024x4096 .bf16) (harg12 : arg12.IsWhole) (arg13 : Memref sig .tc .vmem S4x512x1024 .bf16) (harg13 : arg13.IsWhole) (arg14 : Memref sig .tc .vmem S512x1024 .bf16) (harg14 : arg14.IsWhole) (arg15 : Memref sig .tc .vmem S1024x1024 .bf16) (harg15 : arg15.IsWhole) (arg16 : Memref sig .tc .vmem S1x1024 .f32) (harg16 : arg16.IsWhole) (arg17 : Memref sig .tc .vmem S1x1024 .f32) (harg17 : arg17.IsWhole) (arg18 : Memref sig .tc .vmem S32x1024 .bf16) (harg18 : arg18.IsWhole) (arg19 : Memref sig .tc .vmem S32x1 .f32) (harg19 : arg19.IsWhole) (arg20 : Memref sig .tc .vmem S256x256 .bf16) (harg20 : arg20.IsWhole) (arg21 : Memref sig .tc .vmem S256x256 .bf16) (harg21 : arg21.IsWhole) (arg22 : Memref sig .tc .vmem S1x256x1024 .f32) (harg22 : arg22.IsWhole) (arg23 : Memref sig .tc .vmem S1x256x1024 .bf16) (harg23 : arg23.IsWhole) (arg24 : Memref sig .tc .vmem S8x256 .f32) (harg24 : arg24.IsWhole) (arg25 : Memref sig .tc .vmem S32x128 .f32) (harg25 : arg25.IsWhole) (arg26 : Memref sig .tc .vmem S32x1 .f32) (harg26 : arg26.IsWhole) (arg27 : Memref sig .tc .vmem S256x512 .bf16) (harg27 : arg27.IsWhole) (arg28 : Memref sig .tc .vmem S256x512 .bf16) (harg28 : arg28.IsWhole) (arg29 : Memref sig .tc .vmem S256x1024 .bf16) (harg29 : arg29.IsWhole) (arg30 : Memref sig .tc .vmem S256x1024 .f32) (harg30 : arg30.IsWhole) (arg31 : Memref sig .tc .vmem S256x1024 .bf16) (harg31 : arg31.IsWhole) (hc0 : ¬cond0_0 i) (x0 : Vec Ideal S1x256x1024 .f32) (x1 : Vec Ideal S1x1x6144 .f32) (x2 : Vec Ideal S1x256x1024 .f32) (x3 : Vec Ideal S1x1x6144 .f32) (x4 : Vec Ideal S1x1x6144 .f32) (x5 : Vec Ideal S1x256x512 .bf16) (x6 : Vec Ideal S1x256x512 .bf16) (x7 : Vec Ideal S1x256x512 .bf16) (x8 : Vec Ideal S32x16x256 .bf16) (x9 : Vec Ideal S1x256x512 .f32) (x10 : Vec Ideal S1x512 .f32) (x11 : Vec Ideal S1024x4096 .bf16) (x12 : Vec Ideal S4x512x1024 .bf16) (x13 : Vec Ideal S512x1024 .bf16) (x14 : Vec Ideal S1024x1024 .bf16) (x15 : Vec Ideal S1x1024 .f32) (x16 : Vec Ideal S1x1024 .f32) (x17 : Vec Ideal S32x1024 .bf16) (x18 : Vec Ideal S32x1 .f32) (x19 : Vec Ideal S256x256 .bf16) (x20 : Vec Ideal S256x256 .bf16) (xs0 : Vec Ideal S32x1 .f32) (xs2 : Vec Ideal S256x512 .bf16) (xs3 : Vec Ideal S256x1024 .bf16) (xs4 : Vec Ideal S256x1024 .f32) (xs5 : Vec Ideal S256x1024 .bf16)

/-- The gates' norm, carried to the next point. -/
theorem norm_B (r : Fin 256) (d : Fin 1024) : sout0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20 xs0 xs2 xs3 xs4 xs5 (ix2 r d)
    = _root_.Merge.modulated (fun e => x0 (ix3 0 r e)) (fun e => x1 (ix3 0 0 ⟨1024 + e.val, by omega⟩)) (fun e => x1 (ix3 0 0 ⟨0 + e.val, by omega⟩)) d := by
  unfold sout0_B_3
  rw [View.read_writes_junk_eq_canon]
  unfold kernelRun0_B
  dsimp only
  refine (congrFun (View.canon_cons_unit_lit (S := S256x1024) _ _ _ (by decide)) _).trans ?_
  unfold kernelRun0_B.sl.r_71 kernelRun0_B.sl.r_72 kernelRun0_B.sl.r_69 kernelRun0_B.sl.r_70
  simp only [View.readAt_eq_ld, Memref.IsWhole.read_unread]
  rw [hidden_apply]
  congr 1
  · exact funext fun e => ld_S1x256x1024 x0 _ 0 r e
  · exact funext fun e => ld_mod x1 _ _ (by decide) e
  · exact funext fun e => ld_mod x1 _ _ (by decide) e

/-- The S5 branch before its gated unit, carried to the next point. -/
theorem post_B (r : Fin 256) (k : Fin 512) : sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20 xs0 xs2 xs3 xs4 xs5 (ix2 r k)
    = _root_.Merge.posted (fun k => ∑ q, x20 (ix2 r q) * scattered x8 (ix2 q k)) (fun k => x10 (ix2 0 k)) (fun k => x9 (ix3 0 r k)) k := by
  unfold sout0_B_2
  rw [View.read_writes_junk_eq_canon]
  unfold kernelRun0_B
  dsimp only
  refine (congrFun (View.canon_cons_unit_lit (S := S256x512) _ _ _ (by decide)) _).trans ?_
  rw [read_B]
  unfold kernelRun0_B.sl.r_68 kernelRun0_B.sl.cst_2758
  simp only [View.readAt_eq_ld, Memref.IsWhole.read_unread]
  refine (posted_apply _ _ _ _ _ _).trans ?_
  congr 1
  · exact funext fun k => Finset.sum_congr rfl fun q _ => congrArg (· * scattered x8 (ix2 q k)) (ld_S256x256 x20 _ r q)
  · exact funext fun k => ld_S1x512 x10 _ 0 k
  · exact funext fun k => ld_S1x256x512 x9 _ 0 r k

/-- The residual stream, carried to the next point. -/
theorem resid_B (r : Fin 256) (d : Fin 1024) : sout0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20 xs0 xs2 xs3 xs4 xs5 (ix2 r d)
    = _root_.Merge.residual (fun e => x2 (ix3 0 r e)) (fun e => x3 (ix3 0 0 ⟨2048 + e.val, by omega⟩))
      (fun d =>
        _root_.Merge.branch (fun e => xs3 (ix2 r e)) (fun e d => x11 (ix2 e ⟨0 + d.val, by omega⟩)) (fun k => x5 (ix3 0 r k)) (fun k d => x12 (ix3 0 k d)) d
        + _root_.Merge.branch (fun e => xs3 (ix2 r e)) (fun e d => x11 (ix2 e ⟨1024 + d.val, by omega⟩)) (fun k => x6 (ix3 0 r k)) (fun k d => x12 (ix3 1 k d)) d
        + _root_.Merge.branch (fun e => xs3 (ix2 r e)) (fun e d => x11 (ix2 e ⟨2048 + d.val, by omega⟩)) (fun k => x7 (ix3 0 r k)) (fun k d => x12 (ix3 2 k d)) d
        + _root_.Merge.branch (fun e => xs3 (ix2 r e)) (fun e d => x11 (ix2 e ⟨3072 + d.val, by omega⟩))
            (_root_.Merge.glu (fun j => xs2 (ix2 r j)) (fun j k => x13 (ix2 j ⟨k.val, by omega⟩)) (fun j k => x13 (ix2 j ⟨512 + k.val, by omega⟩))) (fun k d => x12 (ix3 3 k d)) d)
      (fun e d => x14 (ix2 e d)) d := by
  unfold sout0_B_4
  rw [View.read_writes_junk_eq_canon]
  unfold kernelRun0_B
  dsimp only
  refine (congrFun (View.canon_cons_unit_lit (S := S256x1024) _ _ _ (by decide)) _).trans ?_
  unfold kernelRun0_B.sl.r_57 kernelRun0_B.sl.r_56 kernelRun0_B.sl.r_9 kernelRun0_B.sl.r_6 kernelRun0_B.sl.r_2 kernelRun0_B.sl.r_3
  rw [residual_apply]
  simp only [View.readAt_eq_ld, Memref.IsWhole.read_unread]
  congr 1
  · exact funext fun e => ld_S1x256x1024 x2 _ 0 r e
  · exact funext fun e => ld_mod x3 2048 _ (by decide) e
  · funext d
    rw [branch2_apply, branch1_apply]
    unfold kernelRun0_B.sl.r_7 kernelRun0_B.sl.r_5 kernelRun0_B.sl.r_4 kernelRun0_B.sl.r_2
    rw [branch0_apply, start_apply, zero_add]
    simp only [View.readAt_eq_ld, Memref.IsWhole.read_unread]
    congr 1
    · congr 1
      · congr 1
        · congr 1
          · exact funext fun e => ld_S256x1024 xs3 _ r e
          · exact funext fun e => funext fun d => ld_gate x11 0 _ (by decide) e d
          · exact funext fun k => (branch_block_apply _ r k).1.trans (ld_S1x256x512 x5 _ 0 r k)
          · exact funext fun k => funext fun d => ld_proj x12 0 _ k d
        · congr 1
          · exact funext fun e => ld_S256x1024 xs3 _ r e
          · exact funext fun e => funext fun d => ld_gate x11 1024 _ (by decide) e d
          · exact funext fun k => (branch_block_apply _ r k).2.1.trans (ld_S1x256x512 x6 _ 0 r k)
          · exact funext fun k => funext fun d => ld_proj x12 1 _ k d
      · congr 1
        · exact funext fun e => ld_S256x1024 xs3 _ r e
        · exact funext fun e => funext fun d => ld_gate x11 2048 _ (by decide) e d
        · exact funext fun k => (branch_block_apply _ r k).2.2.trans (ld_S1x256x512 x7 _ 0 r k)
        · exact funext fun k => funext fun d => ld_proj x12 2 _ k d
    · congr 1
      · exact funext fun e => ld_S256x1024 xs3 _ r e
      · exact funext fun e => funext fun d => ld_gate x11 3072 _ (by decide) e d
      · funext k
        refine (glu_apply _ _ r k).trans ?_
        congr 1
        · exact funext fun e => ld_S256x512 xs2 _ r e
        · exact funext fun j => funext fun k => ld_S512x1024 x13 _ j _
        · exact funext fun j => funext fun k => ld_S512x1024 x13 _ j _
      · exact funext fun k => funext fun d => ld_proj x12 3 _ k d
  · exact funext fun e => funext fun d => ld_S1024x1024 x14 _ e d

/-- The first result. -/
theorem first_B (r : Fin 256) (d : Fin 1024) : out0_B_21 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20 xs0 xs2 xs3 xs4 xs5 (ix3 0 r d)
    = _root_.Merge.postNorm (fun e => xs4 (ix2 r e)) (fun e => x15 (ix2 0 e)) (fun e => x16 (ix2 0 e)) d := by
  unfold out0_B_21
  rw [View.read_writes_junk_eq_canon]
  unfold kernelRun0_B
  dsimp only
  refine (congrFun (View.canon_cons_unit_lit (S := S1x256x1024) _ _ _ (by decide)) _).trans ?_
  unfold kernelRun0_B.sl.r_8 kernelRun0_B.sl.r_1
  rw [first_apply, postNorm_apply]
  simp only [View.readAt_eq_ld, Memref.IsWhole.read_unread]
  congr 1
  · exact funext fun e => ld_S256x1024 xs4 _ r e
  · exact funext fun e => ld_S1x1024 x15 _ 0 e
  · exact funext fun e => ld_S1x1024 x16 _ 0 e

/-- The second result. -/
theorem second_B (r : Fin 256) (d : Fin 1024) : out0_B_22 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 x0 x1 x2 x3 x4 x5 x6 x7 x8 x9 x10 x11 x12 x13 x14 x15 x16 x17 x18 x19 x20 xs0 xs2 xs3 xs4 xs5 (ix3 0 r d)
    = _root_.Merge.modulated (_root_.Merge.postNorm (fun e => xs4 (ix2 r e)) (fun e => x15 (ix2 0 e)) (fun e => x16 (ix2 0 e)))
      (fun e => x4 (ix3 0 0 ⟨4096 + e.val, by omega⟩)) (fun e => x4 (ix3 0 0 ⟨3072 + e.val, by omega⟩)) d := by
  unfold out0_B_22
  rw [View.read_writes_junk_eq_canon]
  unfold kernelRun0_B
  dsimp only
  refine (congrFun (View.canon_cons_unit_lit (S := S1x256x1024) _ _ _ (by decide)) _).trans ?_
  unfold kernelRun0_B.sl.r_8 kernelRun0_B.sl.r_1
  rw [second_apply]
  simp only [postNorm_apply, View.readAt_eq_ld, Memref.IsWhole.read_unread]
  congr 1
  · funext e
    congr 1
    · exact funext fun e => ld_S256x1024 xs4 _ r e
    · exact funext fun e => ld_S1x1024 x15 _ 0 e
    · exact funext fun e => ld_S1x1024 x16 _ 0 e
  · exact funext fun e => ld_mod x4 _ _ (by decide) e
  · exact funext fun e => ld_mod x4 _ _ (by decide) e

end CaseB

end Cert.KernelIdeal.Merge
-- ==== Proof.Host.lean ====
module

public import proofs.«01_k».proof.Proof.Gen.KernelIdeal.Frame.Runs
public import Idealize.ShloMosaic.Lib.StableHlo.ReadAt
public import proofs.«01_k».proof.Proof.Token

@[expose] public section
noncomputable section
open Idealize.ShloMosaic Idealize.ShloMosaic.TcCoe Idealize.ShloMosaic.StableHlo
namespace Cert.KernelIdeal.Merge
open Cert.KernelIdeal Cert.KernelIdeal.Gen _root_.Merge
set_option maxRecDepth 16384

variable (m : (ℓ : Loc nD τ sig) → Buf (Elt Ideal) ℓ) (c : Dev nD)

/-- The kernel's arguments at their coordinates. -/
def args : Args where
  x s n e := m ((c : Thread nD τ).loc main_arg0) (ix3 s n e)
  md s e := m ((c : Thread nD τ).loc main_arg1) (ix3 s 0 e)
  ya s n e := m ((c : Thread nD τ).loc main_arg2) (ix3 s n e)
  ys s n e := m ((c : Thread nD τ).loc main_arg3) (ix3 s n e)
  yg s n e := m ((c : Thread nD τ).loc main_arg4) (ix3 s n e)
  y5 s n e := m ((c : Thread nD τ).loc main_arg5) (ix3 s n e)
  su s n e := m ((c : Thread nD τ).loc main_arg6) (ix3 s n e)
  sd e := m ((c : Thread nD τ).loc main_arg7) (ix1 e)
  win e d := m ((c : Thread nD τ).loc main_arg8) (ix2 e d)
  wb i k d := m ((c : Thread nD τ).loc main_arg9) (ix3 i k d)
  wglu k d := m ((c : Thread nD τ).loc main_arg10) (ix2 k d)
  wo e d := m ((c : Thread nD τ).loc main_arg11) (ix2 e d)
  g e := m ((c : Thread nD τ).loc main_arg12) (ix1 e)
  b e := m ((c : Thread nD τ).loc main_arg13) (ix1 e)

/-- The gates' columns of the input projection, as the region finds them. -/
theorem gates_apply (e : Fin 1024) (d : Fin 4096) :
    V m c main_v14 (ix2 e d) = (args m c).win e ⟨3600 + d.val, by omega⟩ := by
  unfold V
  after_reads_at
  rfl

/-- The S5 skip weights, as the region finds them. -/
theorem sd_apply (z : Fin 1) (d : Fin 512) : V m c main_v15 (ix2 z d) = (args m c).sd d := by
  unfold V
  after_reads_at
  rfl
/-- The branch projections, as the region finds them. -/
theorem wb_apply (i : Fin 4) (k : Fin 512) (d : Fin 1024) : V m c main_v16 (ix3 i k d) = (args m c).wb i k d := by
  unfold V
  after_reads_at
  rfl
/-- The gated unit's weights, as the region finds them. -/
theorem wglu_apply (k : Fin 512) (d : Fin 1024) : V m c main_v17 (ix2 k d) = (args m c).wglu k d := by
  unfold V
  after_reads_at
  rfl
/-- The output projection, as the region finds it. -/
theorem wo_apply (k : Fin 1024) (d : Fin 1024) : V m c main_v18 (ix2 k d) = (args m c).wo k d := by
  unfold V
  after_reads_at
  rfl
/-- The post norm's scale, as the region finds it. -/
theorem g_apply (z : Fin 1) (d : Fin 1024) : V m c main_v19 (ix2 z d) = (args m c).g d := by
  unfold V
  after_reads_at
  rfl
/-- The column a row of the permutation picks, as the host's words compute it. -/
theorem swap_word : ∀ r : Fin 256, IntOp.addi (IntOp.muli (IntOp.remsi ArithUnit.host (BitVec.ofNat 32 r.val) 16#32) 16#32)
    (IntOp.divsi ArithUnit.host (BitVec.ofNat 32 r.val) 16#32) = BitVec.ofNat 32 (r.val % 16 * 16 + r.val / 16) := by
  decide +kernel

/-- The post norm's shift, as the region finds it. -/
theorem b_apply (z : Fin 1) (d : Fin 1024) : V m c main_v20 (ix2 z d) = (args m c).b d := by
  unfold V
  after_reads_at
  rfl

/-- The permutation, as the region finds it: row `r` picks row `(r mod 16) * 16 + r / 16`. -/
theorem swap_apply (r q : Fin 256) : V m c main_v39 (ix2 r q) = (if q.val = r.val % 16 * 16 + r.val / 16 then 1 else 0 : EReal) := by
  unfold V
  after_reads_at
  rw [id]
  pointwise
  rw [swap_word]
  have hq := q.isLt
  have hr := r.isLt
  by_cases h : q.val = r.val % 16 * 16 + r.val / 16
  · rw [if_pos h, h]
    simp [Scalar.select, IntOp.cmpi]
  · have hw : BitVec.ofNat 32 q.val ≠ BitVec.ofNat 32 (r.val % 16 * 16 + r.val / 16) := by
      intro e
      apply h
      have := congrArg BitVec.toNat e
      simp only [BitVec.toNat_ofNat] at this
      omega
    rw [if_neg h]
    simp only [Scalar.select, IntOp.cmpi, beq_eq_false_iff_ne.2 hw]
    rfl

end Cert.KernelIdeal.Merge
-- ==== Proof.Blocks.lean ====
module

public import proofs.«01_k».proof.Proof.Gen.KernelIdeal.Points
public import proofs.«01_k».proof.Proof.Host

@[expose] public section
noncomputable section
open Idealize.ShloMosaic Idealize.ShloMosaic.TcCoe
namespace Cert.KernelIdeal.Merge
open Cert.KernelIdeal Cert.KernelIdeal.Gen _root_.Merge
set_option maxRecDepth 16384

/-!
  The blocks the windows hold, at their indices. A step of the grid reads three tiles: the newest one, the one a step
  behind and the one two steps behind, each kept within the 144 tiles there are.
-/

/-- The tile a window running `k` steps behind holds at step `t`. -/
def tile (k t : ℕ) : Fin 144 := ⟨min (t - k) 143, by omega⟩

/-- The sequence of a tile. -/
def seq (u : Fin 144) : Fin 16 := ⟨u.val / 9, by omega⟩

/-- The token at row `r` of a tile. -/
def tok (u : Fin 144) (r : Fin 256) : Fin 2304 := ⟨u.val % 9 * 256 + r.val, by omega⟩

/-- The modulation row of a tile is each of its tokens'. -/
theorem modRow_tile (u : Fin 144) (r : Fin 256) :
    (Args.modRow (seq u) (tok u r)).val = if u.val % 9 = 0 then 16 else u.val / 9 := by
  unfold Args.modRow tok seq
  dsimp only
  split <;> split <;> dsimp only <;> omega

variable (m : (ℓ : Loc nD τ sig) → Buf (Elt Ideal) ℓ) (c : Dev nD)

/-- Where window 0's block lies at each step. -/
theorem index_0 : ∀ t : Fin cfg0.N, win0_0.index t 0 = min (t.val - 0) 143 / 9 ∧ win0_0.index t 1 = min (t.val - 0) 143 % 9 ∧ win0_0.index t 2 = 0 := by
  decide +kernel

/-- The newest tile of the residual stream. -/
theorem block_0 (t : Fin cfg0.N) (z : Fin 1) (r : Fin 256) (e : Fin 1024) : (iblk m c 0 t : Vec Ideal _ _) (ix3 z r e) = (args m c).x (seq (tile 0 t)) (tok (tile 0 t) r) e := by
  have hi := index_0 t
  unfold iblk
  rw [View.read_apply]
  refine Eq.trans (b := V m c main_arg0 (ix3 (seq (tile 0 t)) (tok (tile 0 t) r) e)) ?_ ?_
  · show V m c main_arg0 _ = V m c main_arg0 _
    congr 1
    funext a
    apply Fin.ext
    match a with
    | ⟨0, _⟩ => show win0_0.index t 0 * 1 + 1 * z.val = (seq _).val; rw [hi.1]; simp only [seq, tile]; omega
    | ⟨1, _⟩ => show win0_0.index t 1 * 256 + 1 * r.val = (tok _ r).val; rw [hi.2.1]; simp only [tok, tile]; omega
    | ⟨2, _⟩ => show win0_0.index t 2 * 1024 + 1 * e.val = e.val; rw [hi.2.2]; omega
  · rw [V_main_arg0]; rfl

/-- Where window 1's block lies at each step. -/
theorem index_1 : ∀ t : Fin cfg0.N, win0_1.index t 0 = (if min (t.val - 0) 143 % 9 = 0 then 16 else min (t.val - 0) 143 / 9) ∧ win0_1.index t 1 = 0 ∧ win0_1.index t 2 = 0 := by
  decide +kernel

/-- The newest tile's modulation row, which is each of its tokens'. -/
theorem block_1 (t : Fin cfg0.N) (r : Fin 256) (z y : Fin 1) (e : Fin 6144) : (iblk m c 1 t : Vec Ideal _ _) (ix3 z y e) = (args m c).md (Args.modRow (seq (tile 0 t)) (tok (tile 0 t) r)) e := by
  have hi := index_1 t
  unfold iblk
  rw [View.read_apply]
  refine Eq.trans (b := V m c main_arg1 (ix3 (Args.modRow (seq (tile 0 t)) (tok (tile 0 t) r)) 0 e)) ?_ ?_
  · show V m c main_arg1 _ = V m c main_arg1 _
    congr 1
    funext a
    apply Fin.ext
    match a with
    | ⟨0, _⟩ => show win0_1.index t 0 * 1 + 1 * z.val = (Args.modRow _ _).val; rw [hi.1.trans (modRow_tile (tile 0 t) r).symm]; omega
    | ⟨1, _⟩ => show win0_1.index t 1 * 1 + 1 * y.val = 0; rw [hi.2.1]; omega
    | ⟨2, _⟩ => show win0_1.index t 2 * 6144 + 1 * e.val = e.val; rw [hi.2.2]; omega
  · rw [V_main_arg1]; rfl

/-- Where window 2's block lies at each step. -/
theorem index_2 : ∀ t : Fin cfg0.N, win0_2.index t 0 = min (t.val - 1) 143 / 9 ∧ win0_2.index t 1 = min (t.val - 1) 143 % 9 ∧ win0_2.index t 2 = 0 := by
  decide +kernel

/-- The residual stream's tile a step behind. -/
theorem block_2 (t : Fin cfg0.N) (z : Fin 1) (r : Fin 256) (e : Fin 1024) : (iblk m c 2 t : Vec Ideal _ _) (ix3 z r e) = (args m c).x (seq (tile 1 t)) (tok (tile 1 t) r) e := by
  have hi := index_2 t
  unfold iblk
  rw [View.read_apply]
  refine Eq.trans (b := V m c main_arg0 (ix3 (seq (tile 1 t)) (tok (tile 1 t) r) e)) ?_ ?_
  · show V m c main_arg0 _ = V m c main_arg0 _
    congr 1
    funext a
    apply Fin.ext
    match a with
    | ⟨0, _⟩ => show win0_2.index t 0 * 1 + 1 * z.val = (seq _).val; rw [hi.1]; simp only [seq, tile]; omega
    | ⟨1, _⟩ => show win0_2.index t 1 * 256 + 1 * r.val = (tok _ r).val; rw [hi.2.1]; simp only [tok, tile]; omega
    | ⟨2, _⟩ => show win0_2.index t 2 * 1024 + 1 * e.val = e.val; rw [hi.2.2]; omega
  · rw [V_main_arg0]; rfl

/-- Where window 3's block lies at each step. -/
theorem index_3 : ∀ t : Fin cfg0.N, win0_3.index t 0 = (if min (t.val - 1) 143 % 9 = 0 then 16 else min (t.val - 1) 143 / 9) ∧ win0_3.index t 1 = 0 ∧ win0_3.index t 2 = 0 := by
  decide +kernel

/-- The modulation row of the tile a step behind. -/
theorem block_3 (t : Fin cfg0.N) (r : Fin 256) (z y : Fin 1) (e : Fin 6144) : (iblk m c 3 t : Vec Ideal _ _) (ix3 z y e) = (args m c).md (Args.modRow (seq (tile 1 t)) (tok (tile 1 t) r)) e := by
  have hi := index_3 t
  unfold iblk
  rw [View.read_apply]
  refine Eq.trans (b := V m c main_arg1 (ix3 (Args.modRow (seq (tile 1 t)) (tok (tile 1 t) r)) 0 e)) ?_ ?_
  · show V m c main_arg1 _ = V m c main_arg1 _
    congr 1
    funext a
    apply Fin.ext
    match a with
    | ⟨0, _⟩ => show win0_3.index t 0 * 1 + 1 * z.val = (Args.modRow _ _).val; rw [hi.1.trans (modRow_tile (tile 1 t) r).symm]; omega
    | ⟨1, _⟩ => show win0_3.index t 1 * 1 + 1 * y.val = 0; rw [hi.2.1]; omega
    | ⟨2, _⟩ => show win0_3.index t 2 * 6144 + 1 * e.val = e.val; rw [hi.2.2]; omega
  · rw [V_main_arg1]; rfl

/-- Where window 4's block lies at each step. -/
theorem index_4 : ∀ t : Fin cfg0.N, win0_4.index t 0 = (if min (t.val - 2) 143 % 9 = 0 then 16 else min (t.val - 2) 143 / 9) ∧ win0_4.index t 1 = 0 ∧ win0_4.index t 2 = 0 := by
  decide +kernel

/-- The modulation row of the tile two steps behind. -/
theorem block_4 (t : Fin cfg0.N) (r : Fin 256) (z y : Fin 1) (e : Fin 6144) : (iblk m c 4 t : Vec Ideal _ _) (ix3 z y e) = (args m c).md (Args.modRow (seq (tile 2 t)) (tok (tile 2 t) r)) e := by
  have hi := index_4 t
  unfold iblk
  rw [View.read_apply]
  refine Eq.trans (b := V m c main_arg1 (ix3 (Args.modRow (seq (tile 2 t)) (tok (tile 2 t) r)) 0 e)) ?_ ?_
  · show V m c main_arg1 _ = V m c main_arg1 _
    congr 1
    funext a
    apply Fin.ext
    match a with
    | ⟨0, _⟩ => show win0_4.index t 0 * 1 + 1 * z.val = (Args.modRow _ _).val; rw [hi.1.trans (modRow_tile (tile 2 t) r).symm]; omega
    | ⟨1, _⟩ => show win0_4.index t 1 * 1 + 1 * y.val = 0; rw [hi.2.1]; omega
    | ⟨2, _⟩ => show win0_4.index t 2 * 6144 + 1 * e.val = e.val; rw [hi.2.2]; omega
  · rw [V_main_arg1]; rfl

/-- Where window 5's block lies at each step. -/
theorem index_5 : ∀ t : Fin cfg0.N, win0_5.index t 0 = min (t.val - 1) 143 / 9 ∧ win0_5.index t 1 = min (t.val - 1) 143 % 9 ∧ win0_5.index t 2 = 0 := by
  decide +kernel

/-- The window attention's tile a step behind. -/
theorem block_5 (t : Fin cfg0.N) (z : Fin 1) (r : Fin 256) (e : Fin 512) : (iblk m c 5 t : Vec Ideal _ _) (ix3 z r e) = (args m c).ya (seq (tile 1 t)) (tok (tile 1 t) r) e := by
  have hi := index_5 t
  unfold iblk
  rw [View.read_apply]
  refine Eq.trans (b := V m c main_arg2 (ix3 (seq (tile 1 t)) (tok (tile 1 t) r) e)) ?_ ?_
  · show V m c main_arg2 _ = V m c main_arg2 _
    congr 1
    funext a
    apply Fin.ext
    match a with
    | ⟨0, _⟩ => show win0_5.index t 0 * 1 + 1 * z.val = (seq _).val; rw [hi.1]; simp only [seq, tile]; omega
    | ⟨1, _⟩ => show win0_5.index t 1 * 256 + 1 * r.val = (tok _ r).val; rw [hi.2.1]; simp only [tok, tile]; omega
    | ⟨2, _⟩ => show win0_5.index t 2 * 512 + 1 * e.val = e.val; rw [hi.2.2]; omega
  · rw [V_main_arg2]; rfl

/-- Where window 6's block lies at each step. -/
theorem index_6 : ∀ t : Fin cfg0.N, win0_6.index t 0 = min (t.val - 1) 143 / 9 ∧ win0_6.index t 1 = min (t.val - 1) 143 % 9 ∧ win0_6.index t 2 = 0 := by
  decide +kernel

/-- The state space branch's tile a step behind. -/
theorem block_6 (t : Fin cfg0.N) (z : Fin 1) (r : Fin 256) (e : Fin 512) : (iblk m c 6 t : Vec Ideal _ _) (ix3 z r e) = (args m c).ys (seq (tile 1 t)) (tok (tile 1 t) r) e := by
  have hi := index_6 t
  unfold iblk
  rw [View.read_apply]
  refine Eq.trans (b := V m c main_arg3 (ix3 (seq (tile 1 t)) (tok (tile 1 t) r) e)) ?_ ?_
  · show V m c main_arg3 _ = V m c main_arg3 _
    congr 1
    funext a
    apply Fin.ext
    match a with
    | ⟨0, _⟩ => show win0_6.index t 0 * 1 + 1 * z.val = (seq _).val; rw [hi.1]; simp only [seq, tile]; omega
    | ⟨1, _⟩ => show win0_6.index t 1 * 256 + 1 * r.val = (tok _ r).val; rw [hi.2.1]; simp only [tok, tile]; omega
    | ⟨2, _⟩ => show win0_6.index t 2 * 512 + 1 * e.val = e.val; rw [hi.2.2]; omega
  · rw [V_main_arg3]; rfl

/-- Where window 7's block lies at each step. -/
theorem index_7 : ∀ t : Fin cfg0.N, win0_7.index t 0 = min (t.val - 1) 143 / 9 ∧ win0_7.index t 1 = min (t.val - 1) 143 % 9 ∧ win0_7.index t 2 = 0 := by
  decide +kernel

/-- The dense attention's tile a step behind. -/
theorem block_7 (t : Fin cfg0.N) (z : Fin 1) (r : Fin 256) (e : Fin 512) : (iblk m c 7 t : Vec Ideal _ _) (ix3 z r e) = (args m c).yg (seq (tile 1 t)) (tok (tile 1 t) r) e := by
  have hi := index_7 t
  unfold iblk
  rw [View.read_apply]
  refine Eq.trans (b := V m c main_arg4 (ix3 (seq (tile 1 t)) (tok (tile 1 t) r) e)) ?_ ?_
  · show V m c main_arg4 _ = V m c main_arg4 _
    congr 1
    funext a
    apply Fin.ext
    match a with
    | ⟨0, _⟩ => show win0_7.index t 0 * 1 + 1 * z.val = (seq _).val; rw [hi.1]; simp only [seq, tile]; omega
    | ⟨1, _⟩ => show win0_7.index t 1 * 256 + 1 * r.val = (tok _ r).val; rw [hi.2.1]; simp only [tok, tile]; omega
    | ⟨2, _⟩ => show win0_7.index t 2 * 512 + 1 * e.val = e.val; rw [hi.2.2]; omega
  · rw [V_main_arg4]; rfl

/-- Where window 8's block lies at each step. -/
theorem index_8 : ∀ t : Fin cfg0.N, win0_8.index t 0 = 0 ∧ win0_8.index t 1 = min t.val 143 % 9 ∧ win0_8.index t 2 = min t.val 143 / 9 := by
  decide +kernel

/-- The newest tile of the S5 scan: 16 chunks of one sequence, in the scan's layout. -/
theorem block_8 (t : Fin cfg0.N) (g : Fin 32) (q : Fin 16) (e : Fin 256) : (iblk m c 8 t : Vec Ideal _ _) (ix3 g q e) = (args m c).y5 g ⟨(tile 0 t).val % 9 * 16 + q.val, by omega⟩ ⟨(tile 0 t).val / 9 * 256 + e.val, by omega⟩ := by
  have hi := index_8 t
  unfold iblk
  rw [View.read_apply]
  refine Eq.trans (b := V m c main_arg5 (ix3 g ⟨(tile 0 t).val % 9 * 16 + q.val, by omega⟩ ⟨(tile 0 t).val / 9 * 256 + e.val, by omega⟩)) ?_ ?_
  · show V m c main_arg5 _ = V m c main_arg5 _
    congr 1
    funext a
    apply Fin.ext
    match a with
    | ⟨0, _⟩ => show win0_8.index t 0 * 32 + 1 * g.val = g.val; rw [hi.1]; omega
    | ⟨1, _⟩ => show win0_8.index t 1 * 16 + 1 * q.val = (tile 0 t).val % 9 * 16 + q.val; rw [hi.2.1]; simp only [tile]; omega
    | ⟨2, _⟩ => show win0_8.index t 2 * 256 + 1 * e.val = (tile 0 t).val / 9 * 256 + e.val; rw [hi.2.2]; simp only [tile]; omega
  · rw [V_main_arg5]; rfl

/-- Where window 9's block lies at each step. -/
theorem index_9 : ∀ t : Fin cfg0.N, win0_9.index t 0 = min (t.val - 0) 143 / 9 ∧ win0_9.index t 1 = min (t.val - 0) 143 % 9 ∧ win0_9.index t 2 = 0 := by
  decide +kernel

/-- The newest tile of the S5 scan's input. -/
theorem block_9 (t : Fin cfg0.N) (z : Fin 1) (r : Fin 256) (e : Fin 512) : (iblk m c 9 t : Vec Ideal _ _) (ix3 z r e) = (args m c).su (seq (tile 0 t)) (tok (tile 0 t) r) e := by
  have hi := index_9 t
  unfold iblk
  rw [View.read_apply]
  refine Eq.trans (b := V m c main_arg6 (ix3 (seq (tile 0 t)) (tok (tile 0 t) r) e)) ?_ ?_
  · show V m c main_arg6 _ = V m c main_arg6 _
    congr 1
    funext a
    apply Fin.ext
    match a with
    | ⟨0, _⟩ => show win0_9.index t 0 * 1 + 1 * z.val = (seq _).val; rw [hi.1]; simp only [seq, tile]; omega
    | ⟨1, _⟩ => show win0_9.index t 1 * 256 + 1 * r.val = (tok _ r).val; rw [hi.2.1]; simp only [tok, tile]; omega
    | ⟨2, _⟩ => show win0_9.index t 2 * 512 + 1 * e.val = e.val; rw [hi.2.2]; omega
  · rw [V_main_arg6]; rfl

/-- Where window 10's block lies at each step. -/
theorem index_10 : ∀ t : Fin cfg0.N, win0_10.index t 0 = 0 ∧ win0_10.index t 1 = 0 := by
  decide +kernel

/-- The S5 skip weights. -/
theorem block_10 (t : Fin cfg0.N) (z : Fin 1) (e : Fin 512) : (iblk m c 10 t : Vec Ideal _ _) (ix2 z e) = (args m c).sd e := by
  have hi := index_10 t
  unfold iblk
  rw [View.read_apply]
  refine Eq.trans (b := V m c main_v15 (ix2 z e)) ?_ ?_
  · show V m c main_v15 _ = V m c main_v15 _
    congr 1
    funext a
    apply Fin.ext
    match a with
    | ⟨0, _⟩ => show win0_10.index t 0 * 1 + 1 * z.val = z.val; rw [hi.1]; omega
    | ⟨1, _⟩ => show win0_10.index t 1 * 512 + 1 * e.val = e.val; rw [hi.2]; omega
  · exact sd_apply m c z e

/-- Where window 11's block lies at each step. -/
theorem index_11 : ∀ t : Fin cfg0.N, win0_11.index t 0 = 0 ∧ win0_11.index t 1 = 0 := by
  decide +kernel

/-- The gates' columns of the input projection. -/
theorem block_11 (t : Fin cfg0.N) (r : Fin 1024) (e : Fin 4096) : (iblk m c 11 t : Vec Ideal _ _) (ix2 r e) = (args m c).win r ⟨3600 + e.val, by omega⟩ := by
  have hi := index_11 t
  unfold iblk
  rw [View.read_apply]
  refine Eq.trans (b := V m c main_v14 (ix2 r e)) ?_ ?_
  · show V m c main_v14 _ = V m c main_v14 _
    congr 1
    funext a
    apply Fin.ext
    match a with
    | ⟨0, _⟩ => show win0_11.index t 0 * 1024 + 1 * r.val = r.val; rw [hi.1]; omega
    | ⟨1, _⟩ => show win0_11.index t 1 * 4096 + 1 * e.val = e.val; rw [hi.2]; omega
  · exact gates_apply m c r e

/-- Where window 12's block lies at each step. -/
theorem index_12 : ∀ t : Fin cfg0.N, win0_12.index t 0 = 0 ∧ win0_12.index t 1 = 0 ∧ win0_12.index t 2 = 0 := by
  decide +kernel

/-- The four branch projections. -/
theorem block_12 (t : Fin cfg0.N) (i : Fin 4) (r : Fin 512) (e : Fin 1024) : (iblk m c 12 t : Vec Ideal _ _) (ix3 i r e) = (args m c).wb i r e := by
  have hi := index_12 t
  unfold iblk
  rw [View.read_apply]
  refine Eq.trans (b := V m c main_v16 (ix3 i r e)) ?_ ?_
  · show V m c main_v16 _ = V m c main_v16 _
    congr 1
    funext a
    apply Fin.ext
    match a with
    | ⟨0, _⟩ => show win0_12.index t 0 * 4 + 1 * i.val = i.val; rw [hi.1]; omega
    | ⟨1, _⟩ => show win0_12.index t 1 * 512 + 1 * r.val = r.val; rw [hi.2.1]; omega
    | ⟨2, _⟩ => show win0_12.index t 2 * 1024 + 1 * e.val = e.val; rw [hi.2.2]; omega
  · exact wb_apply m c i r e

/-- Where window 13's block lies at each step. -/
theorem index_13 : ∀ t : Fin cfg0.N, win0_13.index t 0 = 0 ∧ win0_13.index t 1 = 0 := by
  decide +kernel

/-- The gated unit's weights. -/
theorem block_13 (t : Fin cfg0.N) (r : Fin 512) (e : Fin 1024) : (iblk m c 13 t : Vec Ideal _ _) (ix2 r e) = (args m c).wglu r e := by
  have hi := index_13 t
  unfold iblk
  rw [View.read_apply]
  refine Eq.trans (b := V m c main_v17 (ix2 r e)) ?_ ?_
  · show V m c main_v17 _ = V m c main_v17 _
    congr 1
    funext a
    apply Fin.ext
    match a with
    | ⟨0, _⟩ => show win0_13.index t 0 * 512 + 1 * r.val = r.val; rw [hi.1]; omega
    | ⟨1, _⟩ => show win0_13.index t 1 * 1024 + 1 * e.val = e.val; rw [hi.2]; omega
  · exact wglu_apply m c r e

/-- Where window 14's block lies at each step. -/
theorem index_14 : ∀ t : Fin cfg0.N, win0_14.index t 0 = 0 ∧ win0_14.index t 1 = 0 := by
  decide +kernel

/-- The output projection. -/
theorem block_14 (t : Fin cfg0.N) (r : Fin 1024) (e : Fin 1024) : (iblk m c 14 t : Vec Ideal _ _) (ix2 r e) = (args m c).wo r e := by
  have hi := index_14 t
  unfold iblk
  rw [View.read_apply]
  refine Eq.trans (b := V m c main_v18 (ix2 r e)) ?_ ?_
  · show V m c main_v18 _ = V m c main_v18 _
    congr 1
    funext a
    apply Fin.ext
    match a with
    | ⟨0, _⟩ => show win0_14.index t 0 * 1024 + 1 * r.val = r.val; rw [hi.1]; omega
    | ⟨1, _⟩ => show win0_14.index t 1 * 1024 + 1 * e.val = e.val; rw [hi.2]; omega
  · exact wo_apply m c r e

/-- Where window 15's block lies at each step. -/
theorem index_15 : ∀ t : Fin cfg0.N, win0_15.index t 0 = 0 ∧ win0_15.index t 1 = 0 := by
  decide +kernel

/-- The post norm's scale. -/
theorem block_15 (t : Fin cfg0.N) (z : Fin 1) (e : Fin 1024) : (iblk m c 15 t : Vec Ideal _ _) (ix2 z e) = (args m c).g e := by
  have hi := index_15 t
  unfold iblk
  rw [View.read_apply]
  refine Eq.trans (b := V m c main_v19 (ix2 z e)) ?_ ?_
  · show V m c main_v19 _ = V m c main_v19 _
    congr 1
    funext a
    apply Fin.ext
    match a with
    | ⟨0, _⟩ => show win0_15.index t 0 * 1 + 1 * z.val = z.val; rw [hi.1]; omega
    | ⟨1, _⟩ => show win0_15.index t 1 * 1024 + 1 * e.val = e.val; rw [hi.2]; omega
  · exact g_apply m c z e

/-- Where window 16's block lies at each step. -/
theorem index_16 : ∀ t : Fin cfg0.N, win0_16.index t 0 = 0 ∧ win0_16.index t 1 = 0 := by
  decide +kernel

/-- The post norm's shift. -/
theorem block_16 (t : Fin cfg0.N) (z : Fin 1) (e : Fin 1024) : (iblk m c 16 t : Vec Ideal _ _) (ix2 z e) = (args m c).b e := by
  have hi := index_16 t
  unfold iblk
  rw [View.read_apply]
  refine Eq.trans (b := V m c main_v20 (ix2 z e)) ?_ ?_
  · show V m c main_v20 _ = V m c main_v20 _
    congr 1
    funext a
    apply Fin.ext
    match a with
    | ⟨0, _⟩ => show win0_16.index t 0 * 1 + 1 * z.val = z.val; rw [hi.1]; omega
    | ⟨1, _⟩ => show win0_16.index t 1 * 1024 + 1 * e.val = e.val; rw [hi.2]; omega
  · exact b_apply m c z e

/-- Where window 20's block lies at each step. -/
theorem index_20 : ∀ t : Fin cfg0.N, win0_20.index t 0 = 0 ∧ win0_20.index t 1 = 0 := by
  decide +kernel

/-- The permutation of a tile's rows. -/
theorem block_20 (t : Fin cfg0.N) (r : Fin 256) (e : Fin 256) : (iblk m c 20 t : Vec Ideal _ _) (ix2 r e) = (if e.val = r.val % 16 * 16 + r.val / 16 then 1 else 0 : EReal) := by
  have hi := index_20 t
  unfold iblk
  rw [View.read_apply]
  refine Eq.trans (b := V m c main_v39 (ix2 r e)) ?_ ?_
  · show V m c main_v39 _ = V m c main_v39 _
    congr 1
    funext a
    apply Fin.ext
    match a with
    | ⟨0, _⟩ => show win0_20.index t 0 * 256 + 1 * r.val = r.val; rw [hi.1]; omega
    | ⟨1, _⟩ => show win0_20.index t 1 * 256 + 1 * e.val = e.val; rw [hi.2]; omega
  · exact swap_apply m c r e

end Cert.KernelIdeal.Merge
-- ==== Proof.Chain.lean ====
module

public import proofs.«01_k».proof.Proof.KernelIdealFrame
public import proofs.«01_k».proof.Proof.Pieces
public import proofs.«01_k».proof.Proof.Blocks

@[expose] public section
noncomputable section
open Idealize.ShloMosaic Idealize.ShloMosaic.TcCoe
namespace Cert.KernelIdeal.Merge
open Cert.KernelIdeal Cert.KernelIdeal.Gen _root_.Merge
set_option maxRecDepth 16384

/-!
  What the grid's points carry from one to the next: a tile's norm and S5 branch for one step, its residual stream for
  the next, its two results a step later.
-/

variable (m : (ℓ : Loc nD τ sig) → Buf (Elt Ideal) ℓ) (c : Dev nD)

/-- The norm of the newest tile, out of the blocks. -/
theorem norm_blocks (t : Fin cfg0.N) (r : Fin 256) (d : Fin 1024) :
    modulated (fun e => (iblk m c 0 t : Vec Ideal S1x256x1024 .f32) (ix3 0 r e)) (fun e => (iblk m c 1 t : Vec Ideal S1x1x6144 .f32) (ix3 0 0 ⟨1024 + e.val, by omega⟩))
      (fun e => (iblk m c 1 t : Vec Ideal S1x1x6144 .f32) (ix3 0 0 ⟨0 + e.val, by omega⟩)) d = (args m c).hidden (seq (tile 0 t)) (tok (tile 0 t) r) d := by
  unfold Args.hidden
  congr 1
  · exact funext fun e => block_0 m c t 0 r e
  · exact funext fun e => block_1 m c t r 0 0 _
  · exact funext fun e => block_1 m c t r 0 0 _

/-- The permutation matrix brings a token's row of the scattered S5 tile. -/
theorem scan_blocks (t : Fin cfg0.N) (x20 : Vec Ideal S256x256 .bf16) (x8 : Vec Ideal S32x16x256 .bf16) (h20 : x20 = iblk m c 20 t) (h8 : x8 = iblk m c 8 t)
    (r : Fin 256) (k : Fin 512) :
    ∑ q, x20 (ix2 r q) * scattered x8 (ix2 q k) = (args m c).scanned (seq (tile 0 t)) (tok (tile 0 t) r) k := by
  have e20 : ∀ q, x20 (ix2 r q) = (if q.val = r.val % 16 * 16 + r.val / 16 then 1 else 0 : EReal) := fun q => by rw [h20]; exact block_20 m c t r q
  have hq : r.val / 16 < 16 := by omega
  have h1 : (r.val % 16 * 16 + r.val / 16) % 16 = r.val / 16 := by rw [Nat.mul_add_mod_self_right, Nat.mod_eq_of_lt hq]
  have h2 : (r.val % 16 * 16 + r.val / 16) / 16 = r.val % 16 := by omega
  rw [Finset.sum_eq_single ⟨r.val % 16 * 16 + r.val / 16, by omega⟩]
  · rw [e20, if_pos rfl, one_mul, h8]
    refine (block_8 m c t _ _ _).trans ?_
    unfold Args.scanned
    congr 1
    · apply Fin.ext
      simp only [tok]
      show (tile 0 t).val % 9 * 16 + (r.val % 16 * 16 + r.val / 16) % 16 = ((tile 0 t).val % 9 * 256 + r.val) / 16
      rw [h1]
      omega
    · apply Fin.ext
      simp only [tok, seq]
      show (tile 0 t).val / 9 * 256 + ((r.val % 16 * 16 + r.val / 16) / 16 * 16 + k.val % 16) = (tile 0 t).val / 9 * 256 + ((tile 0 t).val % 9 * 256 + r.val) % 16 * 16 + k.val % 16
      rw [h2]
      omega
  · intro q _ hq
    rw [e20, if_neg (fun h => hq (Fin.ext h)), zero_mul]
  · intro h
    exact absurd (Finset.mem_univ _) h

/-- The S5 branch of the newest tile, out of the blocks. -/
theorem post_blocks (t : Fin cfg0.N) (x20 : Vec Ideal S256x256 .bf16) (x8 : Vec Ideal S32x16x256 .bf16) (x10 : Vec Ideal S1x512 .f32) (x9 : Vec Ideal S1x256x512 .f32)
    (h20 : x20 = iblk m c 20 t) (h8 : x8 = iblk m c 8 t) (h10 : x10 = iblk m c 10 t) (h9 : x9 = iblk m c 9 t) (r : Fin 256) (k : Fin 512) :
    posted (fun k => ∑ q, x20 (ix2 r q) * scattered x8 (ix2 q k)) (fun k => x10 (ix2 0 k)) (fun k => x9 (ix3 0 r k)) k = (args m c).s5pre (seq (tile 0 t)) (tok (tile 0 t) r) k := by
  unfold Args.s5pre
  congr 1
  · exact funext fun k => scan_blocks m c t x20 x8 h20 h8 r k
  · rw [h10]; exact funext fun k => block_10 m c t 0 k
  · rw [h9]; exact funext fun k => block_9 m c t 0 r k

set_option maxHeartbeats 4000000 in
/-- After every point the carried norm is the newest tile's. -/
theorem norm_carried (t : Fin cfg0.N) (r : Fin 256) (d : Fin 1024) :
    (outsAt0 m c t.val t.isLt).2.2.2.2.2.2.1 (ix2 r d) = (args m c).hidden (seq (tile 0 t)) (tok (tile 0 t) r) d := by
  by_cases h0 : t.val % 147 = 0
  · rw [outsAt0_A m c t h0]
    dsimp only
    rw [norm_A]
    exact norm_blocks m c t r d
  · rw [outsAt0_B m c t h0]
    dsimp only
    rw [norm_B]
    exact norm_blocks m c t r d

set_option maxHeartbeats 4000000 in
/-- After every point the carried S5 branch is the newest tile's. -/
theorem post_carried (t : Fin cfg0.N) (r : Fin 256) (k : Fin 512) :
    (outsAt0 m c t.val t.isLt).2.2.2.2.2.1 (ix2 r k) = (args m c).s5pre (seq (tile 0 t)) (tok (tile 0 t) r) k := by
  by_cases h0 : t.val % 147 = 0
  · rw [outsAt0_A m c t h0]
    dsimp only
    rw [post_A]
    exact post_blocks m c t _ _ _ _ rfl rfl rfl rfl r k
  · rw [outsAt0_B m c t h0]
    dsimp only
    rw [post_B]
    exact post_blocks m c t _ _ _ _ rfl rfl rfl rfl r k

/-- The point before. -/
def prev (t : Fin cfg0.N) : Fin cfg0.N := ⟨t.val - 1, Nat.lt_of_le_of_lt (Nat.sub_le _ _) t.isLt⟩

/-- The tile one step behind is the point before's newest. -/
theorem tile_prev (t : Fin cfg0.N) : tile 0 (prev t) = tile 1 t := rfl

/-- The tile two steps behind is the point before's tile one step behind. -/
theorem tile_prev' (t : Fin cfg0.N) : tile 1 (prev t) = tile 2 t := rfl

set_option maxHeartbeats 4000000 in
/-- After every point but the first the carried residual stream is that of the tile one step behind. -/
theorem resid_carried (t : Fin cfg0.N) (h0 : ¬t.val % 147 = 0) (r : Fin 256) (d : Fin 1024) :
    (outsAt0 m c t.val t.isLt).2.2.2.2.2.2.2.1 (ix2 r d) = (args m c).resid (seq (tile 1 t)) (tok (tile 1 t) r) d := by
  rw [outsAt0_B m c t h0]
  dsimp only
  rw [resid_B]
  have hn : ∀ e, (outsAt0 m c (t.val - 1) (Nat.lt_of_le_of_lt (Nat.sub_le _ _) t.isLt)).2.2.2.2.2.2.1 (ix2 r e) = (args m c).hidden (seq (tile 1 t)) (tok (tile 1 t) r) e :=
    fun e => norm_carried m c (prev t) r e
  have hp : ∀ j, (outsAt0 m c (t.val - 1) (Nat.lt_of_le_of_lt (Nat.sub_le _ _) t.isLt)).2.2.2.2.2.1 (ix2 r j) = (args m c).s5pre (seq (tile 1 t)) (tok (tile 1 t) r) j :=
    fun j => post_carried m c (prev t) r j
  unfold Args.resid
  congr 1
  · exact funext fun e => block_2 m c t 0 r e
  · exact funext fun e => block_3 m c t r 0 0 _
  · funext d
    unfold Args.merged Args.gated
    congr 1
    · congr 1
      · congr 1
        · congr 1
          · exact funext hn
          · exact funext fun e => funext fun d => block_11 m c t e _
          · exact funext fun k => block_5 m c t 0 r k
          · exact funext fun k => funext fun d => block_12 m c t 0 k d
        · congr 1
          · exact funext hn
          · exact funext fun e => funext fun d => block_11 m c t e _
          · exact funext fun k => block_6 m c t 0 r k
          · exact funext fun k => funext fun d => block_12 m c t 1 k d
      · congr 1
        · exact funext hn
        · exact funext fun e => funext fun d => block_11 m c t e _
        · exact funext fun k => block_7 m c t 0 r k
        · exact funext fun k => funext fun d => block_12 m c t 2 k d
    · congr 1
      · exact funext hn
      · exact funext fun e => funext fun d => block_11 m c t e _
      · unfold Args.s5
        funext k
        congr 1
        · exact funext hp
        · exact funext fun j => funext fun k => block_13 m c t j _
        · exact funext fun j => funext fun k => block_13 m c t j _
      · exact funext fun k => funext fun d => block_12 m c t 3 k d
  · exact funext fun e => funext fun d => block_14 m c t e d

set_option maxHeartbeats 4000000 in
/-- After every point but the first two the first result's block is that of the tile two steps behind. -/
theorem first_carried (t : Fin cfg0.N) (h : 2 ≤ t.val) (r : Fin 256) (d : Fin 1024) :
    (outsAt0 m c t.val t.isLt).1 (ix3 0 r d) = (args m c).x1 (seq (tile 2 t)) (tok (tile 2 t) r) d := by
  have hN : t.val < 147 := t.isLt
  rw [outsAt0_B m c t (by omega)]
  dsimp only
  rw [first_B]
  unfold Args.x1
  congr 1
  · exact funext fun e => resid_carried m c (prev t) (by show ¬(t.val - 1) % 147 = 0; omega) r e
  · exact funext fun e => block_15 m c t 0 e
  · exact funext fun e => block_16 m c t 0 e

set_option maxHeartbeats 4000000 in
/-- After every point but the first two the second result's block is that of the tile two steps behind. -/
theorem second_carried (t : Fin cfg0.N) (h : 2 ≤ t.val) (r : Fin 256) (d : Fin 1024) :
    (outsAt0 m c t.val t.isLt).2.1 (ix3 0 r d) = (args m c).h2 (seq (tile 2 t)) (tok (tile 2 t) r) d := by
  have hN : t.val < 147 := t.isLt
  rw [outsAt0_B m c t (by omega)]
  dsimp only
  rw [second_B]
  unfold Args.h2
  congr 1
  · unfold Args.x1
    congr 1
    · exact funext fun e => resid_carried m c (prev t) (by show ¬(t.val - 1) % 147 = 0; omega) r e
    · exact funext fun e => block_15 m c t 0 e
    · exact funext fun e => block_16 m c t 0 e
  · exact funext fun e => block_4 m c t r 0 0 _
  · exact funext fun e => block_4 m c t r 0 0 _

end Cert.KernelIdeal.Merge
-- ==== Proof.Result.lean ====
module

public import proofs.«01_k».proof.Proof.Chain

@[expose] public section
noncomputable section
open Idealize.ShloMosaic Idealize.ShloMosaic.TcCoe Idealize.SL.Sem
namespace Cert.KernelIdeal.Merge
open Cert.KernelIdeal Cert.KernelIdeal.Gen _root_.Merge
set_option maxRecDepth 16384

/-!
  The two result arrays after the run: every tile is written back once, by the point two steps behind which it is the
  newest, so the arrays end at the two results of every token of every sequence.
-/

variable (m : (ℓ : Loc nD τ sig) → Buf (Elt Ideal) ℓ) (ρ : Dev nD → PrngReg) (c : Dev nD)

/-- The first result of every token of every sequence. -/
def firstOf (a : Args) : Vec Ideal S16x2304x1024 .f32 := fun i => a.x1 (i 0) (i 1) (i 2)

/-- The second result of every token of every sequence. -/
def secondOf (a : Args) : Vec Ideal S16x2304x1024 .bf16 := fun i => a.h2 (i 0) (i 1) (i 2)

/-- Where window 21's block lies at each point. -/
theorem index_21 : ∀ t : Fin cfg0.N, win0_21.index t 0 = min (t.val - 2) 143 / 9 ∧ win0_21.index t 1 = min (t.val - 2) 143 % 9 ∧ win0_21.index t 2 = 0 := by
  decide +kernel

/-- Window 21 is written back at every point but the first two and the last but one. -/
theorem flush_21 : ∀ t : Fin cfg0.N, (cfg0.win 21).flush t = true ↔ (2 ≤ t.val ∧ t.val ≤ 144 ∨ t.val = 146) := by
  decide +kernel

/-- A block of window 21, at an index: the token of the tile two steps behind. -/
theorem emb_21 (t : Fin cfg0.N) (z : Fin 1) (r : Fin 256) (e : Fin 1024) :
    ((cfg0.win 21).blk t).view.emb (ix3 z r e) = (ix3 (seq (tile 2 t)) (tok (tile 2 t) r) e : S16x2304x1024.Idx) := by
  have hi := index_21 t
  funext a
  apply Fin.ext
  match a with
  | ⟨0, _⟩ => show win0_21.index t 0 * 1 + 1 * z.val = (seq _).val; rw [hi.1]; simp only [seq, tile]; omega
  | ⟨1, _⟩ => show win0_21.index t 1 * 256 + 1 * r.val = (tok _ r).val; rw [hi.2.1]; simp only [tok, tile]; omega
  | ⟨2, _⟩ => show win0_21.index t 2 * 1024 + 1 * e.val = e.val; rw [hi.2.2]; omega

/-- What a point writes back through window 21 is its block of the result. -/
theorem flushed_21 (t : Fin cfg0.N) (hf : (cfg0.win 21).flush t = true) :
    (dats m 0 c).flushed 21 t = ((cfg0.win 21).blk t).view.read (Elt Ideal) (firstOf (args m c)) := by
  have h2 : 2 ≤ t.val := by have := (flush_21 t).mp hf; omega
  show (cfg0.win 21).cut (grid0.coords t) ((dats m 0 c).after 21 t) = _
  rw [after0_21]
  funext j
  rw [View.read_apply]
  have key : ∀ y : S1x256x1024.Idx, (outsAt0 m c t.val t.isLt).1 y = firstOf (args m c) (((cfg0.win 21).blk t).view.emb y) := fun y => by
    idx_vars y
    rw [emb_21]
    obtain rfl : y0 = 0 := Subsingleton.elim _ _
    exact first_carried m c t h2 y1 y2
  exact key j

/-- Every index of the array lies in a block window 21 is written back from. -/
theorem covered_21 (i : S16x2304x1024.Idx) :
    ∃ t : Fin cfg0.N, (cfg0.win 21).flush t = true ∧ i ∈ ((cfg0.win 21).blk t).view.set := by
  idx_vars i
  have h0 := i0.isLt
  have h1 := i1.isLt
  have hu : i0.val * 9 + i1.val / 256 ≤ 143 := by omega
  obtain ⟨t, ht, htv⟩ : ∃ t : Fin cfg0.N, (cfg0.win 21).flush t = true ∧ min (t.val - 2) 143 = i0.val * 9 + i1.val / 256 := by
    by_cases hl : i0.val * 9 + i1.val / 256 = 143
    · exact ⟨⟨146, by decide⟩, (flush_21 _).mpr (Or.inr rfl), by rw [hl]; rfl⟩
    · exact ⟨⟨i0.val * 9 + i1.val / 256 + 2, by show _ < 147; omega⟩, (flush_21 _).mpr (Or.inl ⟨by show 2 ≤ _ + 2; omega, by show _ + 2 ≤ 144; omega⟩), by
        show min (i0.val * 9 + i1.val / 256 + 2 - 2) 143 = _; omega⟩
  refine ⟨t, ht, ?_⟩
  have hm := ((cfg0.win 21).blk t).view.emb_mem_set (ix3 (0 : Fin 1) ⟨i1.val % 256, by omega⟩ i2 : S1x256x1024.Idx)
  rw [emb_21] at hm
  have hs : seq (tile 2 t) = i0 := by
    apply Fin.ext; simp only [seq, tile]; rw [htv]; omega
  have hk : tok (tile 2 t) ⟨i1.val % 256, by omega⟩ = i1 := by
    apply Fin.ext; simp only [tok, tile]; rw [htv]; omega
  rw [hs, hk] at hm
  exact hm

/-- So the array ends at the result. -/
theorem final_21 : (dats m 0 c).arrAt 21 cfg0.N = firstOf (args m c) :=
  (dats m 0 c).arrAt_eq_of_cover 21 (firstOf (args m c)) (flushed_21 m c) covered_21

/-- Where window 22's block lies at each point. -/
theorem index_22 : ∀ t : Fin cfg0.N, win0_22.index t 0 = min (t.val - 2) 143 / 9 ∧ win0_22.index t 1 = min (t.val - 2) 143 % 9 ∧ win0_22.index t 2 = 0 := by
  decide +kernel

/-- Window 22 is written back at every point but the first two and the last but one. -/
theorem flush_22 : ∀ t : Fin cfg0.N, (cfg0.win 22).flush t = true ↔ (2 ≤ t.val ∧ t.val ≤ 144 ∨ t.val = 146) := by
  decide +kernel

/-- A block of window 22, at an index: the token of the tile two steps behind. -/
theorem emb_22 (t : Fin cfg0.N) (z : Fin 1) (r : Fin 256) (e : Fin 1024) :
    ((cfg0.win 22).blk t).view.emb (ix3 z r e) = (ix3 (seq (tile 2 t)) (tok (tile 2 t) r) e : S16x2304x1024.Idx) := by
  have hi := index_22 t
  funext a
  apply Fin.ext
  match a with
  | ⟨0, _⟩ => show win0_22.index t 0 * 1 + 1 * z.val = (seq _).val; rw [hi.1]; simp only [seq, tile]; omega
  | ⟨1, _⟩ => show win0_22.index t 1 * 256 + 1 * r.val = (tok _ r).val; rw [hi.2.1]; simp only [tok, tile]; omega
  | ⟨2, _⟩ => show win0_22.index t 2 * 1024 + 1 * e.val = e.val; rw [hi.2.2]; omega

/-- What a point writes back through window 22 is its block of the result. -/
theorem flushed_22 (t : Fin cfg0.N) (hf : (cfg0.win 22).flush t = true) :
    (dats m 0 c).flushed 22 t = ((cfg0.win 22).blk t).view.read (Elt Ideal) (secondOf (args m c)) := by
  have h2 : 2 ≤ t.val := by have := (flush_22 t).mp hf; omega
  show (cfg0.win 22).cut (grid0.coords t) ((dats m 0 c).after 22 t) = _
  rw [after0_22]
  funext j
  rw [View.read_apply]
  have key : ∀ y : S1x256x1024.Idx, (outsAt0 m c t.val t.isLt).2.1 y = secondOf (args m c) (((cfg0.win 22).blk t).view.emb y) := fun y => by
    idx_vars y
    rw [emb_22]
    obtain rfl : y0 = 0 := Subsingleton.elim _ _
    exact second_carried m c t h2 y1 y2
  exact key j

/-- Every index of the array lies in a block window 22 is written back from. -/
theorem covered_22 (i : S16x2304x1024.Idx) :
    ∃ t : Fin cfg0.N, (cfg0.win 22).flush t = true ∧ i ∈ ((cfg0.win 22).blk t).view.set := by
  idx_vars i
  have h0 := i0.isLt
  have h1 := i1.isLt
  have hu : i0.val * 9 + i1.val / 256 ≤ 143 := by omega
  obtain ⟨t, ht, htv⟩ : ∃ t : Fin cfg0.N, (cfg0.win 22).flush t = true ∧ min (t.val - 2) 143 = i0.val * 9 + i1.val / 256 := by
    by_cases hl : i0.val * 9 + i1.val / 256 = 143
    · exact ⟨⟨146, by decide⟩, (flush_22 _).mpr (Or.inr rfl), by rw [hl]; rfl⟩
    · exact ⟨⟨i0.val * 9 + i1.val / 256 + 2, by show _ < 147; omega⟩, (flush_22 _).mpr (Or.inl ⟨by show 2 ≤ _ + 2; omega, by show _ + 2 ≤ 144; omega⟩), by
        show min (i0.val * 9 + i1.val / 256 + 2 - 2) 143 = _; omega⟩
  refine ⟨t, ht, ?_⟩
  have hm := ((cfg0.win 22).blk t).view.emb_mem_set (ix3 (0 : Fin 1) ⟨i1.val % 256, by omega⟩ i2 : S1x256x1024.Idx)
  rw [emb_22] at hm
  have hs : seq (tile 2 t) = i0 := by
    apply Fin.ext; simp only [seq, tile]; rw [htv]; omega
  have hk : tok (tile 2 t) ⟨i1.val % 256, by omega⟩ = i1 := by
    apply Fin.ext; simp only [tok, tile]; rw [htv]; omega
  rw [hs, hk] at hm
  exact hm

/-- So the array ends at the result. -/
theorem final_22 : (dats m 0 c).arrAt 22 cfg0.N = secondOf (args m c) :=
  (dats m 0 c).arrAt_eq_of_cover 22 (secondOf (args m c)) (flushed_22 m c) covered_22

/-- The run, read: both result arrays at the results, the arguments unchanged. -/
theorem run : θ_run defs (onTc (τ := τ) (main (F := Ideal))) ⟨m, fun _ => 0, ρ⟩ (fun r => ∀ c : Dev nD,
      r.2.mem ((c.tc : Thread nD τ).loc main_v40_0) = firstOf (args m c)
      ∧ r.2.mem ((c.tc : Thread nD τ).loc main_v40_1) = secondOf (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h.1 c).1 21).trans (final_21 m c), ((h.1 c).1 22).trans (final_22 m c), h.2 c⟩)
    (θ_run_and (run_main m ρ) (unchanged m ρ))

end Cert.KernelIdeal.Merge
-- ==== Proof.Ref.lean ====
module

public import proofs.«01_k».proof.Proof.Gen.ReferenceIdeal.Run
public import proofs.«01_k».proof.Proof.Token

@[expose] public section
noncomputable section
open Idealize.ShloMosaic Idealize.ShloMosaic.TcCoe Idealize.ShloMosaic.StableHlo
namespace Cert.ReferenceIdeal.Merge
open Cert.ReferenceIdeal Cert.ReferenceIdeal.Gen Cert.ReferenceIdeal.Value _root_.Merge
set_option maxRecDepth 16384

variable (V0 : Valuation τ sig (Elt Ideal))

/-- The reference's arguments at their coordinates. -/
def args : Args where
  x s n e := V0 (Proc.devRef .tc main_arg0) (ix3 s n e)
  md s e := V0 (Proc.devRef .tc main_arg1) (ix3 s 0 e)
  ya s n e := V0 (Proc.devRef .tc main_arg2) (ix3 s n e)
  ys s n e := V0 (Proc.devRef .tc main_arg3) (ix3 s n e)
  yg s n e := V0 (Proc.devRef .tc main_arg4) (ix3 s n e)
  y5 s n e := V0 (Proc.devRef .tc main_arg5) (ix3 s n e)
  su s n e := V0 (Proc.devRef .tc main_arg6) (ix3 s n e)
  sd e := V0 (Proc.devRef .tc main_arg7) (ix1 e)
  win e d := V0 (Proc.devRef .tc main_arg8) (ix2 e d)
  wb i k d := V0 (Proc.devRef .tc main_arg9) (ix3 i k d)
  wglu k d := V0 (Proc.devRef .tc main_arg10) (ix2 k d)
  wo e d := V0 (Proc.devRef .tc main_arg11) (ix2 e d)
  g e := V0 (Proc.devRef .tc main_arg12) (ix1 e)
  b e := V0 (Proc.devRef .tc main_arg13) (ix1 e)

/-- The modulation laid along the tokens: the context's row under the first 256, the sequence's own under the rest. -/
theorem mod_apply (s : Fin 16) (n : Fin 2304) (e : Fin 6144) :
    res_main_v4 V0 (ix3 s n e) = (args V0).md (Args.modRow s n) e := by
  unfold res_main_v4
  pointwise
  unfold Args.modRow
  split <;> rfl

/-- The S5 scan's result out of its layout, plus the skip of its input. -/
theorem skip_apply (s : Fin 16) (n : Fin 2304) (k : Fin 512) :
    res_main_v40 V0 (ix3 s n k) = (args V0).scanned s n k + (args V0).sd k * (args V0).su s n k := by
  unfold res_main_v40
  pointwise
  rfl

/-- The GELU as the reference groups it. -/
theorem gelu_apply (y : EReal) :
    y * (Ideal.ofBits FTy.f32 1056964608#32 * (1 + Ideal.tanh (Ideal.ofBits FTy.f32 1061962282#32 *
      (y + Ideal.ofBits FTy.f32 1027024659#32 * (y * y * y))))) = gelu y := by
  rw [← mul_assoc, mul_comm y]
  rfl

/-- The gated unit's product: the S5 branch against all its columns. -/
theorem unit_apply (s : Fin 16) (n : Fin 2304) (d : Fin 1024) :
    res_main_v54 V0 (ix3 s n d) = ∑ j, (args V0).s5pre s n j * (args V0).wglu j d := by
  unfold res_main_v54
  pointwise
  simp only [skip_apply, gelu_apply]
  rfl

/-- The mean of a token's residual. -/
theorem mean_apply (s : Fin 16) (n : Fin 2304) (z : Fin 1) :
    res_main_v14 V0 (ix3 s n z) = mean ((args V0).x s n) := by
  unfold res_main_v14
  pointwise
  rfl

/-- A token's residual about its mean. -/
theorem cen_apply (s : Fin 16) (n : Fin 2304) (d : Fin 1024) :
    res_main_v16 V0 (ix3 s n d) = (args V0).x s n d - mean ((args V0).x s n) := by
  unfold res_main_v16
  pointwise
  simp only [mean_apply]
  rfl

/-- The modulated norm, its shift read at the first 1024 columns. -/
theorem hidden_apply (s : Fin 16) (n : Fin 2304) (d : Fin 1024) :
    norm ((args V0).x s n) d * (1 + (args V0).md (Args.modRow s n) ⟨1024 + d.val, by omega⟩)
      + (args V0).md (Args.modRow s n) ⟨d.val, by omega⟩ = (args V0).hidden s n d := by
  unfold Args.hidden modulated Args.modAt
  congr 3
  simp

/-- One gated branch, the gate written out and the weights before the branch. -/
theorem branch_apply (h : Fin 1024 → EReal) (wg : Fin 1024 → Fin 1024 → EReal) (y : Fin 512 → EReal)
    (wb : Fin 512 → Fin 1024 → EReal) (d : Fin 1024) :
    Ideal.div 1 (1 + Ideal.exp (-∑ e, h e * wg e d)) * ∑ k, wb k d * y k = branch h wg y wb d := by
  unfold branch
  rw [gate_eq]
  simp only [mul_comm (wb _ d)]

/-- The residual stream after the mixer. -/
theorem resid_apply (s : Fin 16) (n : Fin 2304) (d : Fin 1024) :
    res_main_v89 V0 (ix3 s n d) = (args V0).resid s n d := by
  unfold res_main_v89
  pointwise
  simp only [mean_apply, cen_apply, unit_apply, mod_apply]
  unfold Args.resid _root_.Merge.residual
  refine congrArg₂ (· + ·) rfl (congrArg₂ (· * ·) rfl (Finset.sum_congr rfl fun e _ => congrArg₂ (· * ·) ?_ rfl))
  rw [Fin.sum_univ_four]
  unfold Args.merged Args.gated
  simp only [← branch_apply, ← hidden_apply, Args.s5, glu, gate_eq]
  refine congrArg₂ (· + ·) (congrArg₂ (· + ·) (congrArg₂ (· + ·) ?_ ?_) ?_) ?_
  · rfl
  · rfl
  · rfl
  · rfl

/-- The post norm: the first result. -/
theorem x1_apply (s : Fin 16) (n : Fin 2304) (d : Fin 1024) :
    res_main_v113 V0 (ix3 s n d) = (args V0).x1 s n d := by
  unfold res_main_v113
  pointwise [res_main_v93, res_main_v95]
  simp only [resid_apply]
  rfl

/-- The modulated norm of the first result: the second result. -/
theorem h2_apply (s : Fin 16) (n : Fin 2304) (d : Fin 1024) :
    (truncf .bf16 (addf (mulf (mulf (subf (res_main_v113 V0) (broadcastInDim S16x2304x1024 ![0, 1, 2] bcast_S16x2304x1_S16x2304x1024_0_1_2 (res_main_v117 V0))) (broadcastInDim S16x2304x1024 ![0, 1, 2] bcast_S16x2304x1_S16x2304x1024_0_1_2 (Host.rsqrt (addf (Host.divf (broadcastInDim S16x2304x1 ![0, 1] bcast_S16x2304_S16x2304x1_0_1 (Host.reduceAdd (mulf (res_main_v119 V0) (res_main_v119 V0)) (constant S_ .f32 0x00000000#32) reducesTo_S16x2304x1024_S16x2304_d2 h_S_)) (broadcastInDim S16x2304x1 ![] bcast_S_S16x2304x1 (constant S_ .f32 0x44800000#32))) (broadcastInDim S16x2304x1 ![] bcast_S_S16x2304x1 (constant S_ .f32 0x358637BD#32)))))) (addf (broadcastInDim S16x2304x1024 ![] bcast_S_S16x2304x1024 (constant S_ .f32 0x3F800000#32)) (extractStridedSlice S16x2304x1024 ![0, 0, 4096] (res_main_v4 V0) slices_S16x2304x6144_S16x2304x1024_0_0_4096))) (extractStridedSlice S16x2304x1024 ![0, 0, 3072] (res_main_v4 V0) slices_S16x2304x6144_S16x2304x1024_0_0_3072)) bitsLt_bf16_f32 : Vec Ideal S16x2304x1024 .bf16) (ix3 s n d) = (args V0).h2 s n d := by
  pointwise [res_main_v117, res_main_v119]
  simp only [x1_apply, mod_apply]
  rfl

/-- The first result as an array. -/
theorem x1_array : (res_main_v113 V0 : Vec Ideal S16x2304x1024 .f32) = fun j => (args V0).x1 (j 0) (j 1) (j 2) := by
  refine funext fun (j : S16x2304x1024.Idx) => ?_
  idx_vars j
  exact x1_apply V0 j0 j1 j2

/-- The second result as an array. -/
theorem h2_array :
    (truncf .bf16 (addf (mulf (mulf (subf (res_main_v113 V0) (broadcastInDim S16x2304x1024 ![0, 1, 2] bcast_S16x2304x1_S16x2304x1024_0_1_2 (res_main_v117 V0))) (broadcastInDim S16x2304x1024 ![0, 1, 2] bcast_S16x2304x1_S16x2304x1024_0_1_2 (Host.rsqrt (addf (Host.divf (broadcastInDim S16x2304x1 ![0, 1] bcast_S16x2304_S16x2304x1_0_1 (Host.reduceAdd (mulf (res_main_v119 V0) (res_main_v119 V0)) (constant S_ .f32 0x00000000#32) reducesTo_S16x2304x1024_S16x2304_d2 h_S_)) (broadcastInDim S16x2304x1 ![] bcast_S_S16x2304x1 (constant S_ .f32 0x44800000#32))) (broadcastInDim S16x2304x1 ![] bcast_S_S16x2304x1 (constant S_ .f32 0x358637BD#32)))))) (addf (broadcastInDim S16x2304x1024 ![] bcast_S_S16x2304x1024 (constant S_ .f32 0x3F800000#32)) (extractStridedSlice S16x2304x1024 ![0, 0, 4096] (res_main_v4 V0) slices_S16x2304x6144_S16x2304x1024_0_0_4096))) (extractStridedSlice S16x2304x1024 ![0, 0, 3072] (res_main_v4 V0) slices_S16x2304x6144_S16x2304x1024_0_0_3072)) bitsLt_bf16_f32 : Vec Ideal S16x2304x1024 .bf16) = fun j => (args V0).h2 (j 0) (j 1) (j 2) := by
  refine funext fun (j : S16x2304x1024.Idx) => ?_
  idx_vars j
  exact h2_apply V0 j0 j1 j2

end Cert.ReferenceIdeal.Merge
-- ==== Proof.FinalResult.lean ====
module

public import proofs.«01_k».proof.Proof.FinalTile

@[expose] public section
noncomputable section
open Idealize.ShloMosaic Idealize.ShloMosaic.TcCoe Idealize.ShloMosaic.StableHlo Idealize.SL.Sem
namespace Cert.Kernel3Ideal.Final
open Cert.Kernel3Ideal Cert.Kernel3Ideal.Gen _root_.Final
set_option maxRecDepth 16384

/-!
  The blocks the windows of the last call hold, and the array it leaves: every tile of latent tokens is written once, so
  the array ends at the layer's output on every latent token of every sequence.
-/

variable (m : (ℓ : Loc nD τ sig) → Buf (Elt Ideal) ℓ) (ρ : Dev nD → PrngReg) (c : Dev nD)

/-- The kernel's arguments at their coordinates. -/
def args : Args where
  x1 s n e := m ((c : Thread nD τ).loc main_arg0) (ix3 s n e)
  md s e := m ((c : Thread nD τ).loc main_arg1) (ix3 s 0 e)
  f k s n e := m ((c : Thread nD τ).loc main_arg2) (ix4 k s n e)
  route k p := m ((c : Thread nD τ).loc main_arg3) (ix2 k p)
  g e := m ((c : Thread nD τ).loc main_arg4) (ix1 e)
  b e := m ((c : Thread nD τ).loc main_arg5) (ix1 e)

/-- The norm's scale, as the region finds it. -/
theorem g_apply (z : Fin 1) (d : Fin 1024) : V m c main_v0 (ix2 z d) = (args m c).g d := by
  unfold V
  after_reads_at
  rfl

/-- The norm's shift, as the region finds it. -/
theorem b_apply (z : Fin 1) (d : Fin 1024) : V m c main_v1 (ix2 z d) = (args m c).b d := by
  unfold V
  after_reads_at
  rfl

/-- The sequence of a point's tile. -/
def seq (t : Fin cfg0.N) : Fin 16 := ⟨t.val / 8, by have h : t.val < 128 := t.isLt; omega⟩

/-- The latent token at row `r` of a point's tile. -/
def row (t : Fin cfg0.N) (r : Fin 256) : Fin 2048 := ⟨t.val % 8 * 256 + r.val, by omega⟩

/-- Where window 0's block lies at each point. -/
theorem index_0 : ∀ t : Fin cfg0.N, win0_0.index t 0 = t.val / 8 ∧ win0_0.index t 1 = t.val % 8 + 1 ∧ win0_0.index t 2 = 0 := by
  decide +kernel

/-- The tile of the stream after the mixer. -/
theorem block_0 (t : Fin cfg0.N) (z : Fin 1) (r : Fin 256) (e : Fin 1024) :
    (iblk m c 0 t : Vec Ideal _ _) (ix3 z r e) = (args m c).x1 (seq t) (tok (row t r)) e := by
  have hi := index_0 t
  unfold iblk
  rw [View.read_apply]
  refine Eq.trans (b := V m c main_arg0 (ix3 (seq t) (tok (row t r)) e)) ?_ ?_
  · show V m c main_arg0 _ = V m c main_arg0 _
    congr 1
    funext a
    apply Fin.ext
    match a with
    | ⟨0, _⟩ => show win0_0.index t 0 * 1 + 1 * z.val = (seq _).val; rw [hi.1]; simp only [seq]; omega
    | ⟨1, _⟩ => show win0_0.index t 1 * 256 + 1 * r.val = (tok _).val; rw [hi.2.1]; simp only [tok, row]; omega
    | ⟨2, _⟩ => show win0_0.index t 2 * 1024 + 1 * e.val = e.val; rw [hi.2.2]; omega
  · rw [V_main_arg0]; rfl

/-- Where window 1's block lies at each point. -/
theorem index_1 : ∀ t : Fin cfg0.N, win0_1.index t 0 = t.val / 8 ∧ win0_1.index t 1 = 0 ∧ win0_1.index t 2 = 0 := by
  decide +kernel

/-- The sequence's modulation row. -/
theorem block_1 (t : Fin cfg0.N) (z y : Fin 1) (e : Fin 6144) :
    (iblk m c 1 t : Vec Ideal _ _) (ix3 z y e) = (args m c).md ⟨(seq t).val, by omega⟩ e := by
  have hi := index_1 t
  unfold iblk
  rw [View.read_apply]
  refine Eq.trans (b := V m c main_arg1 (ix3 (⟨(seq t).val, by omega⟩ : Fin 24) 0 e)) ?_ ?_
  · show V m c main_arg1 _ = V m c main_arg1 _
    congr 1
    funext a
    apply Fin.ext
    match a with
    | ⟨0, _⟩ => show win0_1.index t 0 * 1 + 1 * z.val = (seq _).val; rw [hi.1]; simp only [seq]; omega
    | ⟨1, _⟩ => show win0_1.index t 1 * 1 + 1 * y.val = 0; rw [hi.2.1]; omega
    | ⟨2, _⟩ => show win0_1.index t 2 * 6144 + 1 * e.val = e.val; rw [hi.2.2]; omega
  · rw [V_main_arg1]; rfl

/-- Where window 2's block lies at each point. -/
theorem index_2 : ∀ t : Fin cfg0.N, win0_2.index t 0 = 0 ∧ win0_2.index t 1 = t.val / 8 ∧ win0_2.index t 2 = t.val % 8 + 1 ∧ win0_2.index t 3 = 0 := by
  decide +kernel

/-- The tile of the first slot's expert. -/
theorem block_2 (t : Fin cfg0.N) (z y : Fin 1) (r : Fin 256) (e : Fin 1024) :
    (iblk m c 2 t : Vec Ideal _ _) (ix4 z y r e) = (args m c).f 0 (seq t) (tok (row t r)) e := by
  have hi := index_2 t
  unfold iblk
  rw [View.read_apply]
  refine Eq.trans (b := V m c main_arg2 (ix4 0 (seq t) (tok (row t r)) e)) ?_ ?_
  · show V m c main_arg2 _ = V m c main_arg2 _
    congr 1
    funext a
    apply Fin.ext
    match a with
    | ⟨0, _⟩ => show win0_2.index t 0 * 1 + 1 * z.val = 0; rw [hi.1]; omega
    | ⟨1, _⟩ => show win0_2.index t 1 * 1 + 1 * y.val = (seq _).val; rw [hi.2.1]; simp only [seq]; omega
    | ⟨2, _⟩ => show win0_2.index t 2 * 256 + 1 * r.val = (tok _).val; rw [hi.2.2.1]; simp only [tok, row]; omega
    | ⟨3, _⟩ => show win0_2.index t 3 * 1024 + 1 * e.val = e.val; rw [hi.2.2.2]; omega
  · rw [V_main_arg2]; rfl

/-- Where window 3's block lies at each point. -/
theorem index_3 : ∀ t : Fin cfg0.N, win0_3.index t 0 = 1 ∧ win0_3.index t 1 = t.val / 8 ∧ win0_3.index t 2 = t.val % 8 + 1 ∧ win0_3.index t 3 = 0 := by
  decide +kernel

/-- The tile of the second slot's expert. -/
theorem block_3 (t : Fin cfg0.N) (z y : Fin 1) (r : Fin 256) (e : Fin 1024) :
    (iblk m c 3 t : Vec Ideal _ _) (ix4 z y r e) = (args m c).f 1 (seq t) (tok (row t r)) e := by
  have hi := index_3 t
  unfold iblk
  rw [View.read_apply]
  refine Eq.trans (b := V m c main_arg2 (ix4 1 (seq t) (tok (row t r)) e)) ?_ ?_
  · show V m c main_arg2 _ = V m c main_arg2 _
    congr 1
    funext a
    apply Fin.ext
    match a with
    | ⟨0, _⟩ => show win0_3.index t 0 * 1 + 1 * z.val = 1; rw [hi.1]; omega
    | ⟨1, _⟩ => show win0_3.index t 1 * 1 + 1 * y.val = (seq _).val; rw [hi.2.1]; simp only [seq]; omega
    | ⟨2, _⟩ => show win0_3.index t 2 * 256 + 1 * r.val = (tok _).val; rw [hi.2.2.1]; simp only [tok, row]; omega
    | ⟨3, _⟩ => show win0_3.index t 3 * 1024 + 1 * e.val = e.val; rw [hi.2.2.2]; omega
  · rw [V_main_arg2]; rfl

/-- Where window 4's block lies at each point. -/
theorem index_4 : ∀ t : Fin cfg0.N, win0_4.index t 0 = 0 ∧ win0_4.index t 1 = t.val / 8 * 9 + t.val % 8 + 1 := by
  decide +kernel

/-- The tile's columns of the routing rows. -/
theorem block_4 (t : Fin cfg0.N) (k : Fin 8) (r : Fin 256) :
    (iblk m c 4 t : Vec Ideal _ _) (ix2 k r) = (args m c).route k (flat (seq t) (tok (row t r))) := by
  have hi := index_4 t
  unfold iblk
  rw [View.read_apply]
  refine Eq.trans (b := V m c main_arg3 (ix2 k (flat (seq t) (tok (row t r))))) ?_ ?_
  · show V m c main_arg3 _ = V m c main_arg3 _
    congr 1
    funext a
    apply Fin.ext
    match a with
    | ⟨0, _⟩ => show win0_4.index t 0 * 8 + 1 * k.val = k.val; rw [hi.1]; omega
    | ⟨1, _⟩ => show win0_4.index t 1 * 256 + 1 * r.val = (flat _ _).val; rw [hi.2]; simp only [flat, tok, row, seq]; omega
  · rw [V_main_arg3]; rfl

/-- Where window 5's block lies at each point. -/
theorem index_5 : ∀ t : Fin cfg0.N, win0_5.index t 0 = 0 ∧ win0_5.index t 1 = 0 := by
  decide +kernel

/-- The norm's scale. -/
theorem block_5 (t : Fin cfg0.N) (z : Fin 1) (e : Fin 1024) : (iblk m c 5 t : Vec Ideal _ _) (ix2 z e) = (args m c).g e := by
  have hi := index_5 t
  unfold iblk
  rw [View.read_apply]
  refine Eq.trans (b := V m c main_v0 (ix2 z e)) ?_ (g_apply m c z e)
  show V m c main_v0 _ = V m c main_v0 _
  congr 1
  funext a
  apply Fin.ext
  match a with
  | ⟨0, _⟩ => show win0_5.index t 0 * 1 + 1 * z.val = z.val; rw [hi.1]; omega
  | ⟨1, _⟩ => show win0_5.index t 1 * 1024 + 1 * e.val = e.val; rw [hi.2]; omega

/-- Where window 6's block lies at each point. -/
theorem index_6 : ∀ t : Fin cfg0.N, win0_6.index t 0 = 0 ∧ win0_6.index t 1 = 0 := by
  decide +kernel

/-- The norm's shift. -/
theorem block_6 (t : Fin cfg0.N) (z : Fin 1) (e : Fin 1024) : (iblk m c 6 t : Vec Ideal _ _) (ix2 z e) = (args m c).b e := by
  have hi := index_6 t
  unfold iblk
  rw [View.read_apply]
  refine Eq.trans (b := V m c main_v1 (ix2 z e)) ?_ (b_apply m c z e)
  show V m c main_v1 _ = V m c main_v1 _
  congr 1
  funext a
  apply Fin.ext
  match a with
  | ⟨0, _⟩ => show win0_6.index t 0 * 1 + 1 * z.val = z.val; rw [hi.1]; omega
  | ⟨1, _⟩ => show win0_6.index t 1 * 1024 + 1 * e.val = e.val; rw [hi.2]; omega

/-- The layer's output on every latent token of every sequence. -/
def outOf (a : Args) : Vec Ideal S16x2048x1024 .f32 := fun i => a.out (i 0) (i 1) (i 2)

/-- What a point leaves in the result's buffer is the layer's output on its tile. -/
theorem left_apply (t : Fin cfg0.N) (z : Fin 1) (r : Fin 256) (d : Fin 1024) :
    out0_7 (iblk m c 0 t) (iblk m c 1 t) (iblk m c 2 t) (iblk m c 3 t) (iblk m c 4 t) (iblk m c 5 t) (iblk m c 6 t) (ix3 z r d)
      = (args m c).out (seq t) (row t r) d := by
  refine (out_apply _ _ _ _ _ _ _ z r d).trans ?_
  simp only [block_0, block_1, block_2, block_3, block_4, block_5, block_6]
  rfl

/-- Where window 7's block lies at each point. -/
theorem index_7 : ∀ t : Fin cfg0.N, win0_7.index t 0 = t.val / 8 ∧ win0_7.index t 1 = t.val % 8 ∧ win0_7.index t 2 = 0 := by
  decide +kernel

/-- The result is written back at every point. -/
theorem flush_7 : ∀ t : Fin cfg0.N, (cfg0.win 7).flush t = true := by
  decide +kernel

/-- A block of the result, at an index: a latent token of the point's tile. -/
theorem emb_7 (t : Fin cfg0.N) (z : Fin 1) (r : Fin 256) (e : Fin 1024) :
    ((cfg0.win 7).blk t).view.emb (ix3 z r e) = (ix3 (seq t) (row t r) e : S16x2048x1024.Idx) := by
  have hi := index_7 t
  funext a
  apply Fin.ext
  match a with
  | ⟨0, _⟩ => show win0_7.index t 0 * 1 + 1 * z.val = (seq _).val; rw [hi.1]; simp only [seq]; omega
  | ⟨1, _⟩ => show win0_7.index t 1 * 256 + 1 * r.val = (row _ r).val; rw [hi.2.1]; simp only [row]; omega
  | ⟨2, _⟩ => show win0_7.index t 2 * 1024 + 1 * e.val = e.val; rw [hi.2.2]; omega

/-- What a point writes back is its block of the result. -/
theorem flushed_7 (t : Fin cfg0.N) (_ : (cfg0.win 7).flush t = true) :
    (dats m 0 c).flushed 7 t = ((cfg0.win 7).blk t).view.read (Elt Ideal) (outOf (args m c)) := by
  rw [Cert.Kernel3Ideal.Value.flushed7]
  funext j
  rw [View.read_apply]
  have key : ∀ y : S1x256x1024.Idx, out0_7 (iblk m c 0 t) (iblk m c 1 t) (iblk m c 2 t) (iblk m c 3 t) (iblk m c 4 t) (iblk m c 5 t) (iblk m c 6 t) y
      = outOf (args m c) (((cfg0.win 7).blk t).view.emb y) := fun y => by
    idx_vars y
    rw [emb_7]
    exact left_apply m c t y0 y1 y2
  exact key j

/-- Every index of the array lies in a block that is written back. -/
theorem covered_7 (i : S16x2048x1024.Idx) : ∃ t : Fin cfg0.N, (cfg0.win 7).flush t = true ∧ i ∈ ((cfg0.win 7).blk t).view.set := by
  idx_vars i
  have h0 := i0.isLt
  have h1 := i1.isLt
  refine ⟨⟨i0.val * 8 + i1.val / 256, by show _ < 128; omega⟩, flush_7 _, ?_⟩
  have hm := ((cfg0.win 7).blk ⟨i0.val * 8 + i1.val / 256, by show _ < 128; omega⟩).view.emb_mem_set (ix3 (0 : Fin 1) ⟨i1.val % 256, by omega⟩ i2 : S1x256x1024.Idx)
  rw [emb_7] at hm
  have hs : seq ⟨i0.val * 8 + i1.val / 256, by show _ < 128; omega⟩ = i0 := by
    apply Fin.ext; simp only [seq]; omega
  have hk : row ⟨i0.val * 8 + i1.val / 256, by show _ < 128; omega⟩ ⟨i1.val % 256, by omega⟩ = i1 := by
    apply Fin.ext; simp only [row]; omega
  rw [hs, hk] at hm
  exact hm

/-- So the array ends at the result. -/
theorem final_7 : (dats m 0 c).arrAt 7 cfg0.N = outOf (args m c) :=
  (dats m 0 c).arrAt_eq_of_cover 7 (outOf (args m c)) (flushed_7 m c) covered_7

/-- The run, read: the result array at the result, the arguments unchanged. -/
theorem run : θ_run defs (onTc (τ := τ) (main (F := Ideal))) ⟨m, fun _ => 0, ρ⟩ (fun r => ∀ c : Dev nD,
      r.2.mem ((c.tc : Thread nD τ).loc main_v2) = outOf (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (final_7 m c), (h c).2⟩)
    (Cert.Kernel3Ideal.Value.run_blocks m ρ)

end Cert.Kernel3Ideal.Final
-- ==== Proof.FinalRef.lean ====
module

public import proofs.«01_k».proof.Proof.Gen.Reference3Ideal.Run
public import proofs.«01_k».proof.Proof.FinalToken
public import Idealize.ShloMosaic.Lib.Pipeline.Value

@[expose] public section
noncomputable section
open Idealize.ShloMosaic Idealize.ShloMosaic.TcCoe Idealize.ShloMosaic.StableHlo
namespace Cert.Reference3Ideal.Final
open Cert.Reference3Ideal Cert.Reference3Ideal.Gen Cert.Reference3Ideal.Value _root_.Final
set_option maxRecDepth 16384

/-!
  What the reference of the last call computes at an index.
-/

variable (x : Vec Ideal S16x2304x1024 .f32) (md : Vec Ideal S24x1x6144 .f32) (f : Vec Ideal S2x16x2304x1024 .bf16)
  (rt : Vec Ideal S8x36864 .f32) (g b : Vec Ideal S1024 .f32)

/-- The arguments at their coordinates. -/
def args : Args where
  x1 s n e := x (ix3 s n e)
  md s e := md (ix3 s 0 e)
  f k s n e := f (ix4 k s n e)
  route k p := rt (ix2 k p)
  g e := g (ix1 e)
  b e := b (ix1 e)

/-- The experts' weighted sums. -/
def ffn : Vec Ideal S16x2048x1024 .f32 :=
  (Host.reduceAdd (mulf (broadcastInDim S2x16x2048x1024 ![0, 1, 2, 3] bcast_S2x16x2048x1_S2x16x2048x1024_0_1_2_3 (broadcastInDim S2x16x2048x1 ![0, 1, 2] bcast_S2x16x2048_S2x16x2048x1_0_1_2 (extractStridedSlice S2x16x2048 ![0, 0, 256] (shapeCast S2x16x2304 (extractStridedSlice S2x36864 ![2, 0] rt slices_S8x36864_S2x36864_2_0) shapeCasts_S2x36864_S2x16x2304) slices_S2x16x2304_S2x16x2048_0_0_256))) (extf (F := Ideal) .f32 (extractStridedSlice S2x16x2048x1024 ![0, 0, 256, 0] f slices_S2x16x2304x1024_S2x16x2048x1024_0_0_256_0) bitsLt_bf16_f32)) (constant (F := Ideal) S_ .f32 0x00000000#32) reducesTo_S2x16x2048x1024_S16x2048x1024_d0 h_S_)

/-- The residual stream. -/
def resid : Vec Ideal S16x2048x1024 .f32 :=
  (addf (mulf (broadcastInDim S16x2048x1024 ![] bcast_S_S16x2048x1024 (constant (F := Ideal) S_ .f32 0x3FD744FD#32)) (extractStridedSlice S16x2048x1024 ![0, 256, 0] x slices_S16x2304x1024_S16x2048x1024_0_256_0)) (mulf (broadcastInDim S16x2048x1024 ![0, 1, 2] bcast_S16x1x1024_S16x2048x1024_0_1_2 (extractStridedSlice S16x1x1024 ![0, 0, 5120] (extractStridedSlice S16x1x6144 ![0, 0, 0] md slices_S24x1x6144_S16x1x6144_0_0_0) slices_S16x1x6144_S16x1x1024_0_0_5120)) (ffn f rt)))

/-- The norm of the residual stream: the result. -/
def result : Vec Ideal S16x2048x1024 .f32 :=
  addf (mulf (mulf (subf (resid x md f rt) (broadcastInDim S16x2048x1024 ![0, 1, 2] bcast_S16x2048x1_S16x2048x1024_0_1_2 (Host.divf (broadcastInDim S16x2048x1 ![0, 1] bcast_S16x2048_S16x2048x1_0_1 (Host.reduceAdd (resid x md f rt) (constant (F := Ideal) S_ .f32 0x00000000#32) reducesTo_S16x2048x1024_S16x2048_d2 h_S_)) (broadcastInDim S16x2048x1 ![] bcast_S_S16x2048x1 (constant (F := Ideal) S_ .f32 0x44800000#32))))) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf (subf (resid x md f rt) (broadcastInDim S16x2048x1024 ![0, 1, 2] bcast_S16x2048x1_S16x2048x1024_0_1_2 (Host.divf (broadcastInDim S16x2048x1 ![0, 1] bcast_S16x2048_S16x2048x1_0_1 (Host.reduceAdd (resid x md f rt) (constant (F := Ideal) S_ .f32 0x00000000#32) reducesTo_S16x2048x1024_S16x2048_d2 h_S_)) (broadcastInDim S16x2048x1 ![] bcast_S_S16x2048x1 (constant (F := Ideal) S_ .f32 0x44800000#32))))) (subf (resid x md f rt) (broadcastInDim S16x2048x1024 ![0, 1, 2] bcast_S16x2048x1_S16x2048x1024_0_1_2 (Host.divf (broadcastInDim S16x2048x1 ![0, 1] bcast_S16x2048_S16x2048x1_0_1 (Host.reduceAdd (resid x md f rt) (constant (F := Ideal) S_ .f32 0x00000000#32) reducesTo_S16x2048x1024_S16x2048_d2 h_S_)) (broadcastInDim S16x2048x1 ![] bcast_S_S16x2048x1 (constant (F := Ideal) S_ .f32 0x44800000#32)))))) (constant (F := Ideal) S_ .f32 0x00000000#32) reducesTo_S16x2048x1024_S16x2048_d2 h_S_)) (broadcastInDim S16x2048x1 ![] bcast_S_S16x2048x1 (constant (F := Ideal) S_ .f32 0x44800000#32))) (broadcastInDim S16x2048x1 ![] bcast_S_S16x2048x1 (constant (F := Ideal) S_ .f32 0x358637BD#32)))))) (broadcastInDim S16x2048x1024 ![0, 1, 2] bcast_S1x1x1024_S16x2048x1024_0_1_2 (broadcastInDim S1x1x1024 ![2] bcast_S1024_S1x1x1024_2 g))) (broadcastInDim S16x2048x1024 ![0, 1, 2] bcast_S1x1x1024_S16x2048x1024_0_1_2 (broadcastInDim S1x1x1024 ![2] bcast_S1024_S1x1x1024_2 b))

/-- The experts' weighted sum on a latent token. -/
theorem ffn_apply (s : Fin 16) (n : Fin 2048) (d : Fin 1024) : ffn f rt (ix3 s n d) = (args x md f rt g b).ffn s n d := by
  unfold ffn
  pointwise
  rw [Fin.sum_univ_two]
  unfold Args.ffn mixed
  refine congrArg₂ (· + ·) (congrArg₂ (· * ·) (congrArg rt ?_) rfl) (congrArg₂ (· * ·) (congrArg rt ?_) rfl)
  · rfl
  · rfl

/-- The residual stream on a latent token. -/
theorem resid_apply (s : Fin 16) (n : Fin 2048) (d : Fin 1024) : resid x md f rt (ix3 s n d) = (args x md f rt g b).resid s n d := by
  unfold resid
  pointwise
  rw [ffn_apply x md f rt g b]
  rfl

/-- The result on a latent token. -/
theorem result_apply (s : Fin 16) (n : Fin 2048) (d : Fin 1024) : result x md f rt g b (ix3 s n d) = (args x md f rt g b).out s n d := by
  unfold result
  pointwise
  simp only [resid_apply x md f rt g b]
  rfl

/-- The result as an array. -/
theorem result_array : result x md f rt g b = fun j => (args x md f rt g b).out (j 0) (j 1) (j 2) := by
  refine funext fun (j : S16x2048x1024.Idx) => ?_
  idx_vars j
  exact result_apply x md f rt g b j0 j1 j2

/-- What the reference's run leaves in its result is that array. -/
theorem run_eq (m : (ℓ : Loc nD τ sig) → Buf (Elt Ideal) ℓ) (c : Dev nD) :
    res_main_v45 m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  rfl

end Cert.Reference3Ideal.Final
-- ==== Proof.ModToken.lean ====
module

public import proofs.«01_k».proof.Proof.Gate

@[expose] public section
noncomputable section
open Idealize.ShloMosaic

/-!
  The modulation over the extended reals: what the kernel and the reference of the modulation's call both compute, as a
  function of the arguments.
-/

namespace Modulation

/-- The arguments at their coordinates: the samples' conditioning vectors, the context's, and each layer's weights and
    biases. -/
structure Args where
  c : Fin 16 → Fin 1024 → EReal
  ctx : Fin 1024 → EReal
  w : Fin 4 → Fin 1024 → Fin 6144 → EReal
  b : Fin 4 → Fin 6144 → EReal

/-- A number times its logistic function. -/
def silu (z : EReal) : EReal := z * Merge.gate z

/-- At zero it is zero. -/
theorem silu_zero : silu 0 = 0 := zero_mul _

namespace Args

variable (a : Args)

/-- The conditioning rows: the samples', the context's, then rows of zeros. -/
def row (s : Fin 24) (e : Fin 1024) : EReal :=
  if h : s.val < 16 then a.c ⟨s.val, h⟩ e else if s.val = 16 then a.ctx e else 0

/-- A layer's modulation of a row. -/
def out (l : Fin 4) (s : Fin 24) (d : Fin 6144) : EReal := (∑ e : Fin 1024, silu (a.row s e) * a.w l e d) + a.b l d

end Args
end Modulation
-- ==== Proof.ModTile.lean ====
module

public import proofs.«01_k».proof.Proof.Gen.Kernel4Ideal.Value
public import Idealize.ShloMosaic.Lib.StableHlo.ReadAt
public import Idealize.ShloMosaic.Lib.Pipeline.ValueKit
public import Idealize.ShloMosaic.Lib.Routing.OpsSet
public import proofs.«01_k».proof.Proof.ModToken

@[expose] public section
noncomputable section
open Idealize.ShloMosaic Idealize.ShloMosaic.TcCoe Idealize.ShloMosaic.StableHlo
namespace Cert.Kernel4Ideal.Modulation
open Cert.Kernel4Ideal Cert.Kernel4Ideal.Gen _root_.Modulation
set_option maxRecDepth 16384

/-!
  What the body of the modulation's call computes on a tile, at an index, and what the writes of the conditioning rows
  into the array of zeros leave at an index.
-/

/-- The tile: the rows through the gate, times the weights, plus the bias. -/
theorem tile_apply (x : Vec Ideal S24x1024 .f32) (w : Vec Ideal S1x1024x1024 .f32) (b : Vec Ideal S1x1x1024 .f32) (z : Fin 1) (r : Fin 24) (d : Fin 1024) :
    k0_pay1 x w b (ix3 z r d) = (∑ e : Fin 1024, silu (x (ix2 r e)) * w (ix3 0 e d)) + b (ix3 0 0 d) := by
  pointwise [k0_pay1]
  rfl

/-- What the body leaves in the result's buffer, at an index, from the blocks it reads. -/
theorem out_apply (x0 : Vec Ideal S24x1024 .f32) (x1 : Vec Ideal S1x1024x1024 .f32) (x2 : Vec Ideal S1x1x1024 .f32) (z : Fin 1) (r : Fin 24) (d : Fin 1024) :
    out0_3 x0 x1 x2 (ix3 z r d) = (∑ e : Fin 1024, silu (x0 (ix2 r e)) * x1 (ix3 0 e d)) + x2 (ix3 0 0 d) := by
  unfold out0_3
  refine (congrFun (View.canon_cons_unit_lit (S := S1x24x1024) _ _ _ (by decide)) _).trans ?_
  rw [tile_apply]
  have h0 : View.ld x0 r0_0 = x0 := View.ld_unit_lit (S := S24x1024) _ x0 (by decide)
  have h1 : View.ld x1 r0_1 = x1 := View.ld_unit_lit (S := S1x1024x1024) _ x1 (by decide)
  have h2 : View.ld x2 r0_2 = x2 := View.ld_unit_lit (S := S1x1x1024) _ x2 (by decide)
  rw [h0, h1, h2]

/-- An update of a scatter lands at an element exactly when its start plus its window's coordinate is the element's on
    every axis. -/
theorem lands_iff {s si u : Shape} {w : ℕ} (d : ScatterDims s si u) (j : u.Idx) (idx : IVec si w) (i : s.Idx) :
    d.resultIdx? j idx = some i ↔ ∀ a, d.start j idx a + d.window j a = ((i a).val : ℤ) := by
  unfold ScatterDims.resultIdx?
  constructor
  · intro h a
    split at h
    · next hb =>
      have := hb a
      rw [← Option.some.inj h]
      show _ = ((Int.toNat _ : ℕ) : ℤ)
      omega
    · exact absurd h (by simp)
  · intro h
    rw [dif_pos fun a => by rw [h a]; have := (i a).isLt; omega]
    congr 1
    funext a
    apply Fin.ext
    show Int.toNat _ = _
    rw [h a]
    rfl

/-- Where the rows of the samples land: each at its own row. -/
theorem lands_rows (idx : IVec S1 32) (hidx : (idx (ix1 0)).toInt = 0) (r : Fin 16) (e' : Fin 1024) (s : Fin 24) (e : Fin 1024) :
    scatter_S24x1024_S1_S16x1024_01_n_0_0.resultIdx? (ix2 r e') idx = some (ix2 s e) ↔ r.val = s.val ∧ e' = e := by
  have hs : scatter_S24x1024_S1_S16x1024_01_n_0_0.start (ix2 r e' : S16x1024.Idx) idx 0 = 0 := by
    unfold ScatterDims.start
    rw [dif_pos (by decide)]
    refine Eq.trans (congrArg (fun q => (idx q).toInt) ?_) hidx
    funext b
    match b with
    | ⟨0, _⟩ => exact Subsingleton.elim (α := Fin 1) _ _
  have hs1 : scatter_S24x1024_S1_S16x1024_01_n_0_0.start (ix2 r e' : S16x1024.Idx) idx 1 = 0 := by
    unfold ScatterDims.start
    rw [dif_neg (by decide)]
  have hw : scatter_S24x1024_S1_S16x1024_01_n_0_0.window (ix2 r e' : S16x1024.Idx) 0 = r.val := by
    unfold ScatterDims.window
    rw [dif_pos (by decide)]
    rfl
  have hw1 : scatter_S24x1024_S1_S16x1024_01_n_0_0.window (ix2 r e' : S16x1024.Idx) 1 = e'.val := by
    unfold ScatterDims.window
    rw [dif_pos (by decide)]
    rfl
  rw [lands_iff]
  constructor
  · intro h
    have h0 := h 0
    have h1 := h 1
    rw [hs, hw] at h0
    rw [hs1, hw1] at h1
    have k0 : (0 : ℤ) + (r.val : ℤ) = (s.val : ℤ) := h0
    have k1 : (0 : ℤ) + (e'.val : ℤ) = (e.val : ℤ) := h1
    exact ⟨by omega, Fin.ext (by omega)⟩
  · rintro ⟨h0, rfl⟩ a
    match a with
    | ⟨0, _⟩ => refine (congrArg₂ (fun (p : ℤ) (q : ℕ) => p + (q : ℤ)) hs hw).trans ?_; show (0 : ℤ) + (r.val : ℤ) = (s.val : ℤ); omega
    | ⟨1, _⟩ => refine (congrArg₂ (fun (p : ℤ) (q : ℕ) => p + (q : ℤ)) hs1 hw1).trans ?_; show (0 : ℤ) + (e'.val : ℤ) = (e'.val : ℤ); omega

/-- The array after the samples' rows are written from row 0, at an index. -/
theorem rows_apply (x : Vec Ideal S24x1024 .f32) (idx : IVec S1 32) (hidx : (idx (ix1 0)).toInt = 0) (u : Vec Ideal S16x1024 .f32) (s : Fin 24) (e : Fin 1024) :
    Host.scatter scatter_S24x1024_S1_S16x1024_01_n_0_0 (fun _ b => b) x idx u (ix2 s e)
      = if h : s.val < 16 then u (ix2 ⟨s.val, h⟩ e) else x (ix2 s e) := by
  split
  · next h =>
    refine Routing.scatter_set_hit _ x idx u _ _ (fun k hk => ?_) (ix2 ⟨s.val, h⟩ e) ((lands_rows idx hidx _ _ s e).2 ⟨rfl, rfl⟩)
    idx_vars k
    obtain ⟨h0, h1⟩ := (lands_rows idx hidx k0 k1 s e).1 hk
    subst h1
    congr 2
    exact Fin.ext h0
  · next h =>
    refine Routing.scatter_set_miss _ x idx u _ fun k hk => ?_
    idx_vars k
    obtain ⟨h0, _⟩ := (lands_rows idx hidx k0 k1 s e).1 hk
    have := k0.isLt
    omega

/-- Where the context's row lands: at row 16. -/
theorem lands_ctx (idx : IVec S1 32) (hidx : (idx (ix1 0)).toInt = 16) (e' : Fin 1024) (s : Fin 24) (e : Fin 1024) :
    scatter_S24x1024_S1_S1024_0_0_0_0.resultIdx? (ix1 e') idx = some (ix2 s e) ↔ s.val = 16 ∧ e' = e := by
  have hs : scatter_S24x1024_S1_S1024_0_0_0_0.start (ix1 e' : S1024.Idx) idx 0 = 16 := by
    unfold ScatterDims.start
    rw [dif_pos (by decide)]
    refine Eq.trans (congrArg (fun q => (idx q).toInt) ?_) hidx
    funext b
    match b with
    | ⟨0, _⟩ => exact Subsingleton.elim (α := Fin 1) _ _
  have hs1 : scatter_S24x1024_S1_S1024_0_0_0_0.start (ix1 e' : S1024.Idx) idx 1 = 0 := by
    unfold ScatterDims.start
    rw [dif_neg (by decide)]
  have hw : scatter_S24x1024_S1_S1024_0_0_0_0.window (ix1 e' : S1024.Idx) 0 = 0 := by
    unfold ScatterDims.window
    rw [dif_neg (by decide)]
  have hw1 : scatter_S24x1024_S1_S1024_0_0_0_0.window (ix1 e' : S1024.Idx) 1 = e'.val := by
    unfold ScatterDims.window
    rw [dif_pos (by decide)]
    rfl
  rw [lands_iff]
  constructor
  · intro h
    have h0 := h 0
    have h1 := h 1
    rw [hs, hw] at h0
    rw [hs1, hw1] at h1
    have k0 : (16 : ℤ) + ((0 : ℕ) : ℤ) = (s.val : ℤ) := h0
    have k1 : (0 : ℤ) + (e'.val : ℤ) = (e.val : ℤ) := h1
    exact ⟨by omega, Fin.ext (by omega)⟩
  · rintro ⟨h0, rfl⟩ a
    match a with
    | ⟨0, _⟩ => refine (congrArg₂ (fun (p : ℤ) (q : ℕ) => p + (q : ℤ)) hs hw).trans ?_; show (16 : ℤ) + ((0 : ℕ) : ℤ) = (s.val : ℤ); omega
    | ⟨1, _⟩ => refine (congrArg₂ (fun (p : ℤ) (q : ℕ) => p + (q : ℤ)) hs1 hw1).trans ?_; show (0 : ℤ) + (e'.val : ℤ) = (e'.val : ℤ); omega

/-- The array after the context's row is written at row 16, at an index. -/
theorem ctx_apply (x : Vec Ideal S24x1024 .f32) (idx : IVec S1 32) (hidx : (idx (ix1 0)).toInt = 16) (u : Vec Ideal S1024 .f32) (s : Fin 24) (e : Fin 1024) :
    Host.scatter scatter_S24x1024_S1_S1024_0_0_0_0 (fun _ b => b) x idx u (ix2 s e) = if s.val = 16 then u (ix1 e) else x (ix2 s e) := by
  split
  · next h =>
    refine Routing.scatter_set_hit _ x idx u _ _ (fun k hk => ?_) (ix1 e) ((lands_ctx idx hidx _ s e).2 ⟨h, rfl⟩)
    idx_vars k
    rw [((lands_ctx idx hidx k0 s e).1 hk).2]
  · next h =>
    refine Routing.scatter_set_miss _ x idx u _ fun k hk => ?_
    idx_vars k
    exact h ((lands_ctx idx hidx k0 s e).1 hk).1

end Cert.Kernel4Ideal.Modulation
-- ==== Proof.ModResult.lean ====
module

public import proofs.«01_k».proof.Proof.ModTile

@[expose] public section
noncomputable section
open Idealize.ShloMosaic Idealize.ShloMosaic.TcCoe Idealize.ShloMosaic.StableHlo Idealize.SL.Sem
namespace Cert.Kernel4Ideal.Modulation
open Cert.Kernel4Ideal Cert.Kernel4Ideal.Gen _root_.Modulation
set_option maxRecDepth 16384

/-!
  The blocks the windows of the modulation's call hold, and the array it leaves: every block of columns of every layer is
  written once.
-/

variable (m : (ℓ : Loc nD τ sig) → Buf (Elt Ideal) ℓ) (ρ : Dev nD → PrngReg) (c : Dev nD)

/-- The kernel's arguments at their coordinates. -/
def args : Args where
  c s e := m ((c : Thread nD τ).loc main_arg0) (ix2 s e)
  ctx e := m ((c : Thread nD τ).loc main_arg1) (ix1 e)
  w l e d := m ((c : Thread nD τ).loc main_arg2) (ix3 l e d)
  b l d := m ((c : Thread nD τ).loc main_arg3) (ix2 l d)

/-- The conditioning rows, as the region finds them. -/
theorem cond_apply (s : Fin 24) (e : Fin 1024) : V m c main_v4 (ix2 s e) = (args m c).row s e := by
  unfold V
  after_reads_at
  refine (ctx_apply _ _ (by rfl) _ s e).trans ?_
  rw [rows_apply _ _ (by rfl)]
  unfold Args.row
  by_cases h : s.val < 16
  · rw [if_neg (by omega), dif_pos h, dif_pos h]
    rfl
  · rw [dif_neg h, dif_neg h]
    split
    · rfl
    · pointwise

/-- The biases, as the region finds them. -/
theorem bias_apply (l : Fin 4) (z : Fin 1) (d : Fin 6144) : V m c main_v5 (ix3 l z d) = (args m c).b l d := by
  unfold V
  after_reads_at
  rfl

/-- The layer of a point. -/
def layer (t : Fin cfg0.N) : Fin 4 := ⟨t.val / 6, by have h : t.val < 24 := t.isLt; omega⟩

/-- The column at `d` of a point's block. -/
def col (t : Fin cfg0.N) (d : Fin 1024) : Fin 6144 := ⟨t.val % 6 * 1024 + d.val, by omega⟩

/-- Where window 0's block lies at each point. -/
theorem index_0 : ∀ t : Fin cfg0.N, win0_0.index t 0 = 0 ∧ win0_0.index t 1 = 0 := by
  decide +kernel

/-- The conditioning rows, whole at every point. -/
theorem block_0 (t : Fin cfg0.N) (s : Fin 24) (e : Fin 1024) : (iblk m c 0 t : Vec Ideal _ _) (ix2 s e) = (args m c).row s e := by
  have hi := index_0 t
  unfold iblk
  rw [View.read_apply]
  refine Eq.trans (b := V m c main_v4 (ix2 s e)) ?_ (cond_apply m c s e)
  show V m c main_v4 _ = V m c main_v4 _
  congr 1
  funext a
  apply Fin.ext
  match a with
  | ⟨0, _⟩ => show win0_0.index t 0 * 24 + 1 * s.val = s.val; rw [hi.1]; omega
  | ⟨1, _⟩ => show win0_0.index t 1 * 1024 + 1 * e.val = e.val; rw [hi.2]; omega

/-- Where window 1's block lies at each point. -/
theorem index_1 : ∀ t : Fin cfg0.N, win0_1.index t 0 = t.val / 6 ∧ win0_1.index t 1 = 0 ∧ win0_1.index t 2 = t.val % 6 := by
  decide +kernel

/-- The block of the layer's weights. -/
theorem block_1 (t : Fin cfg0.N) (z : Fin 1) (e d : Fin 1024) : (iblk m c 1 t : Vec Ideal _ _) (ix3 z e d) = (args m c).w (layer t) e (col t d) := by
  have hi := index_1 t
  unfold iblk
  rw [View.read_apply]
  refine Eq.trans (b := V m c main_arg2 (ix3 (layer t) e (col t d))) ?_ ?_
  · show V m c main_arg2 _ = V m c main_arg2 _
    congr 1
    funext a
    apply Fin.ext
    match a with
    | ⟨0, _⟩ => show win0_1.index t 0 * 1 + 1 * z.val = (layer t).val; rw [hi.1]; simp only [layer]; omega
    | ⟨1, _⟩ => show win0_1.index t 1 * 1024 + 1 * e.val = e.val; rw [hi.2.1]; omega
    | ⟨2, _⟩ => show win0_1.index t 2 * 1024 + 1 * d.val = (col t d).val; rw [hi.2.2]; simp only [col]; omega
  · rw [V_main_arg2]; rfl

/-- Where window 2's block lies at each point. -/
theorem index_2 : ∀ t : Fin cfg0.N, win0_2.index t 0 = t.val / 6 ∧ win0_2.index t 1 = 0 ∧ win0_2.index t 2 = t.val % 6 := by
  decide +kernel

/-- The block of the layer's biases. -/
theorem block_2 (t : Fin cfg0.N) (z y : Fin 1) (d : Fin 1024) : (iblk m c 2 t : Vec Ideal _ _) (ix3 z y d) = (args m c).b (layer t) (col t d) := by
  have hi := index_2 t
  unfold iblk
  rw [View.read_apply]
  refine Eq.trans (b := V m c main_v5 (ix3 (layer t) 0 (col t d))) ?_ (bias_apply m c _ _ _)
  show V m c main_v5 _ = V m c main_v5 _
  congr 1
  funext a
  apply Fin.ext
  match a with
  | ⟨0, _⟩ => show win0_2.index t 0 * 1 + 1 * z.val = (layer t).val; rw [hi.1]; simp only [layer]; omega
  | ⟨1, _⟩ => show win0_2.index t 1 * 1 + 1 * y.val = 0; rw [hi.2.1]; omega
  | ⟨2, _⟩ => show win0_2.index t 2 * 1024 + 1 * d.val = (col t d).val; rw [hi.2.2]; simp only [col]; omega

/-- The modulation of every row at every layer. -/
def outOf (a : Args) : Vec Ideal S4x24x6144 .f32 := fun i => a.out (i 0) (i 1) (i 2)

/-- What a point leaves in the result's buffer is the modulation on its block. -/
theorem left_apply (t : Fin cfg0.N) (z : Fin 1) (s : Fin 24) (d : Fin 1024) :
    out0_3 (iblk m c 0 t) (iblk m c 1 t) (iblk m c 2 t) (ix3 z s d) = (args m c).out (layer t) s (col t d) := by
  refine (out_apply _ _ _ z s d).trans ?_
  simp only [block_0, block_1, block_2]
  rfl

/-- Where window 3's block lies at each point. -/
theorem index_3 : ∀ t : Fin cfg0.N, win0_3.index t 0 = t.val / 6 ∧ win0_3.index t 1 = 0 ∧ win0_3.index t 2 = t.val % 6 := by
  decide +kernel

/-- The result is written back at every point. -/
theorem flush_3 : ∀ t : Fin cfg0.N, (cfg0.win 3).flush t = true := by
  decide +kernel

/-- A block of the result, at an index: the point's layer and columns. -/
theorem emb_3 (t : Fin cfg0.N) (z : Fin 1) (s : Fin 24) (d : Fin 1024) :
    ((cfg0.win 3).blk t).view.emb (ix3 z s d) = (ix3 (layer t) s (col t d) : S4x24x6144.Idx) := by
  have hi := index_3 t
  funext a
  apply Fin.ext
  match a with
  | ⟨0, _⟩ => show win0_3.index t 0 * 1 + 1 * z.val = (layer t).val; rw [hi.1]; simp only [layer]; omega
  | ⟨1, _⟩ => show win0_3.index t 1 * 24 + 1 * s.val = s.val; rw [hi.2.1]; omega
  | ⟨2, _⟩ => show win0_3.index t 2 * 1024 + 1 * d.val = (col t d).val; rw [hi.2.2]; simp only [col]; omega

/-- What a point writes back is its block of the result. -/
theorem flushed_3 (t : Fin cfg0.N) (_ : (cfg0.win 3).flush t = true) :
    (dats m 0 c).flushed 3 t = ((cfg0.win 3).blk t).view.read (Elt Ideal) (outOf (args m c)) := by
  rw [Cert.Kernel4Ideal.Value.flushed3]
  funext j
  rw [View.read_apply]
  have key : ∀ y : S1x24x1024.Idx, out0_3 (iblk m c 0 t) (iblk m c 1 t) (iblk m c 2 t) y
      = outOf (args m c) (((cfg0.win 3).blk t).view.emb y) := fun y => by
    idx_vars y
    rw [emb_3]
    exact left_apply m c t y0 y1 y2
  exact key j

/-- Every index of the array lies in a block that is written back. -/
theorem covered_3 (i : S4x24x6144.Idx) : ∃ t : Fin cfg0.N, (cfg0.win 3).flush t = true ∧ i ∈ ((cfg0.win 3).blk t).view.set := by
  idx_vars i
  have h0 := i0.isLt
  have h2 := i2.isLt
  refine ⟨⟨i0.val * 6 + i2.val / 1024, by show _ < 24; omega⟩, flush_3 _, ?_⟩
  have hm := ((cfg0.win 3).blk ⟨i0.val * 6 + i2.val / 1024, by show _ < 24; omega⟩).view.emb_mem_set (ix3 (0 : Fin 1) i1 ⟨i2.val % 1024, by omega⟩ : S1x24x1024.Idx)
  rw [emb_3] at hm
  have hs : layer ⟨i0.val * 6 + i2.val / 1024, by show _ < 24; omega⟩ = i0 := by
    apply Fin.ext; simp only [layer]; omega
  have hk : col ⟨i0.val * 6 + i2.val / 1024, by show _ < 24; omega⟩ ⟨i2.val % 1024, by omega⟩ = i2 := by
    apply Fin.ext; simp only [col]; omega
  rw [hs, hk] at hm
  exact hm

/-- So the array ends at the result. -/
theorem final_3 : (dats m 0 c).arrAt 3 cfg0.N = outOf (args m c) :=
  (dats m 0 c).arrAt_eq_of_cover 3 (outOf (args m c)) (flushed_3 m c) covered_3

/-- The run, read: the result array at the result, the arguments unchanged. -/
theorem run : θ_run defs (onTc (τ := τ) (main (F := Ideal))) ⟨m, fun _ => 0, ρ⟩ (fun r => ∀ c : Dev nD,
      r.2.mem ((c.tc : Thread nD τ).loc main_v6) = outOf (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (final_3 m c), (h c).2⟩)
    (Cert.Kernel4Ideal.Value.run_blocks m ρ)

end Cert.Kernel4Ideal.Modulation
-- ==== Proof.ModRef.lean ====
module

public import proofs.«01_k».proof.Proof.Gen.Reference4Ideal.Run
public import proofs.«01_k».proof.Proof.ModToken
public import Idealize.ShloMosaic.Lib.Pipeline.Value

@[expose] public section
noncomputable section
open Idealize.ShloMosaic Idealize.ShloMosaic.TcCoe Idealize.ShloMosaic.StableHlo
namespace Cert.Reference4Ideal.Modulation
open Cert.Reference4Ideal Cert.Reference4Ideal.Gen Cert.Reference4Ideal.Value _root_.Modulation
set_option maxRecDepth 16384

/-!
  What the reference of the modulation's call computes at an index.
-/

variable (c : Vec Ideal S16x1024 .f32) (ctx : Vec Ideal S1024 .f32) (w : Vec Ideal S4x1024x6144 .f32) (b : Vec Ideal S4x6144 .f32)

/-- The arguments at their coordinates. -/
def args : Args where
  c s e := c (ix2 s e)
  ctx e := ctx (ix1 e)
  w l e d := w (ix3 l e d)
  b l d := b (ix2 l d)

/-- The conditioning rows through the logistic gate. -/
def rows : Vec Ideal S24x1024 .f32 :=
  concatenate S24x1024 0 [⟨S16x1024, ((mulf c (Host.divf (broadcastInDim S16x1024 ![] bcast_S_S16x1024 (constant (F := Ideal) S_ .f32 0x3F800000#32)) (addf (broadcastInDim S16x1024 ![] bcast_S_S16x1024 (constant (F := Ideal) S_ .f32 0x3F800000#32)) (Host.exp (Host.negf c))))) : Vec Ideal S16x1024 .f32)⟩, ⟨S1x1024, ((broadcastInDim S1x1024 ![1] bcast_S1024_S1x1024_1 (mulf ctx (Host.divf (broadcastInDim S1024 ![] bcast_S_S1024 (constant (F := Ideal) S_ .f32 0x3F800000#32)) (addf (broadcastInDim S1024 ![] bcast_S_S1024 (constant (F := Ideal) S_ .f32 0x3F800000#32)) (Host.exp (Host.negf ctx)))))) : Vec Ideal S1x1024 .f32)⟩, ⟨S7x1024, ((broadcastInDim S7x1024 ![] bcast_S_S7x1024 (constant (F := Ideal) S_ .f32 0x00000000#32)) : Vec Ideal S7x1024 .f32)⟩] concatenates_S16x1024_S1x1024_S7x1024_S24x1024_d0

/-- The modulations: the result. -/
def result : Vec Ideal S4x24x6144 .f32 :=
  addf (transpose S4x24x6144 [0, 2, 1] (Host.dotGeneral (F := Ideal) (φ₁ := .f32) (φ₂ := .f32) dot_S4x1024x6144_S24x1024_S4x6144x24_1_1_02_0_n_n none w (rows c ctx)) transposes_S4x6144x24_S4x24x6144_0_2_1) (broadcastInDim S4x24x6144 ![0, 1, 2] bcast_S4x1x6144_S4x24x6144_0_1_2 (broadcastInDim S4x1x6144 ![0, 2] bcast_S4x6144_S4x1x6144_0_2 b))

/-- A conditioning row through the gate. -/
theorem rows_apply (s : Fin 24) (e : Fin 1024) : rows c ctx (ix2 s e) = silu ((args c ctx w b).row s e) := by
  unfold rows silu Args.row
  rw [Merge.gate_eq]
  pointwise
  by_cases h : s.val < 16
  · simp only [dif_pos h]
    rfl
  · simp only [dif_neg h]
    by_cases k : s.val = 16
    · rw [dif_pos (by omega), if_pos k]
      rfl
    · rw [dif_neg (by omega), if_neg k, zero_mul]

/-- The result at an index. -/
theorem result_apply (l : Fin 4) (s : Fin 24) (d : Fin 6144) : result c ctx w b (ix3 l s d) = (args c ctx w b).out l s d := by
  unfold result
  pointwise
  simp only [rows_apply c ctx w b]
  unfold Args.out
  congr 1
  exact Finset.sum_congr rfl fun e _ => mul_comm _ _

/-- The result as an array. -/
theorem result_array : result c ctx w b = fun j => (args c ctx w b).out (j 0) (j 1) (j 2) := by
  refine funext fun (j : S4x24x6144.Idx) => ?_
  idx_vars j
  exact result_apply c ctx w b j0 j1 j2

end Cert.Reference4Ideal.Modulation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.NextResult
public import proofs.«01_k».proof.Proof.NextRef
public import proofs.«01_k».proof.Proof.KernelFrame
public import proofs.«01_k».proof.Proof.Result
public import proofs.«01_k».proof.Proof.Ref
public import proofs.«01_k».proof.Proof.ProjResult
public import proofs.«01_k».proof.Proof.ProjRef
public import proofs.«01_k».proof.Proof.FinalResult
public import proofs.«01_k».proof.Proof.FinalRef
public import proofs.«01_k».proof.Proof.ModResult
public import proofs.«01_k».proof.Proof.ModRef
public import Idealize.ShloMosaic.Adequacy
public import Idealize.ShloMosaic.Init

@[expose] public section

noncomputable section

namespace Cert.Proof

open Idealize.ShloMosaic Idealize.SL.Sem Cert.Kernel

/-- The kernel runs to the end, leaves its arguments as they were and its counters at zero. -/
theorem frame_kernel : @Cert.quiescent_Kernel Cert.Kernel.Gen.facts := fun m ρ _ => Cert.Kernel.Gen.frame m ρ

/-- So does the idealized kernel. -/
theorem frame_ideal : @Cert.quiescent_KernelIdeal Cert.KernelIdeal.Gen.facts := fun m ρ _ => Cert.KernelIdeal.Gen.frame m ρ

/-- So does the idealized reference. -/
theorem frame_reference : @Cert.quiescent_ReferenceIdeal Cert.ReferenceIdeal.Gen.facts := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run m ρ)

/-- The kernel is the program its idealization was made from. -/
theorem preserves : Cert.preserves_Kernel_KernelIdeal := trivial

/-- From arguments that agree, both results of the idealized kernel are those of the idealized reference: each token's
    row of either array is the same function of the arguments. -/
theorem algebraic : @Cert.algebraic_KernelIdeal_ReferenceIdeal Cert.KernelIdeal.Gen.facts Cert.ReferenceIdeal.Gen.facts := by
  intro m ρ m' ρ' _ hagree
  refine ⟨fun c => Cert.KernelIdeal.Merge.firstOf (Cert.KernelIdeal.Merge.args m c), fun c => Cert.KernelIdeal.Merge.secondOf (Cert.KernelIdeal.Merge.args m c),
    Cert.KernelIdeal.Merge.run m ρ, ?_⟩
  refine (θ_run Cert.ReferenceIdeal.defs _ _).mono (fun _ h c => ?_) (Cert.ReferenceIdeal.Value.run (F := Ideal) m' ρ')
  have ha : Cert.ReferenceIdeal.Merge.args (Idealize.ShloMosaic.StableHlo.launchContents m' c) = Cert.KernelIdeal.Merge.args m c := by
    obtain ⟨h0, h1, h2, h3, h4, h5, h6, h7, h8, h9, h10, h11, h12, h13, h14, h15⟩ := hagree c
    unfold Cert.ReferenceIdeal.Merge.args Cert.KernelIdeal.Merge.args
    rw [← h0, ← h1, ← h2, ← h3, ← h4, ← h5, ← h6, ← h7, ← h8, ← h9, ← h10, ← h11, ← h12, ← h13]
  refine ⟨(h c).1.trans ((Cert.ReferenceIdeal.Merge.x1_array _).trans ?_), (h c).2.1.trans ((Cert.ReferenceIdeal.Merge.h2_array _).trans ?_), (h c).2.2⟩
  · rw [ha]
    rfl
  · rw [ha]
    rfl

/-- The input projection's kernel runs to the end, leaves its arguments as they were and its counters at zero. -/
theorem frame_kernel2 : @Cert.quiescent_Kernel2 Cert.Kernel2.Gen.facts := fun m ρ _ => Cert.Kernel2.Gen.frame m ρ

/-- So does its idealization. -/
theorem frame_ideal2 : @Cert.quiescent_Kernel2Ideal Cert.Kernel2Ideal.Gen.facts := fun m ρ _ => Cert.Kernel2Ideal.Gen.frame m ρ

/-- So does the input projection's idealized reference. -/
theorem frame_reference2 : @Cert.quiescent_Reference2Ideal Cert.Reference2Ideal.Gen.facts := fun m ρ _ =>
  (θ_run Cert.Reference2Ideal.defs _ _).mono (fun r h => ⟨fun c => (h c).2.2.2.2.2.2,
      Idealize.ShloMosaic.sem_eq_zero_of_no_sems (by decide) r.2⟩)
    (Cert.Reference2Ideal.Value.run m ρ)

/-- The input projection's kernel is the program its idealization was made from. -/
theorem preserves2 : Cert.preserves_Kernel2_Kernel2Ideal := trivial

/-- From arguments that agree, all six results of the idealized input projection are those of its idealized reference:
    each entry of each array is the same function of the arguments. -/
theorem algebraic2 : @Cert.algebraic_Kernel2Ideal_Reference2Ideal Cert.Kernel2Ideal.Gen.facts Cert.Reference2Ideal.Gen.facts := by
  intro m ρ m' ρ' _ hagree
  refine ⟨fun c => Cert.Kernel2Ideal.Project.attnOf (Cert.Kernel2Ideal.Project.args m c), fun c => Cert.Kernel2Ideal.Project.convOf (Cert.Kernel2Ideal.Project.args m c), fun c => Cert.Kernel2Ideal.Project.szOf (Cert.Kernel2Ideal.Project.args m c), fun c => Cert.Kernel2Ideal.Project.suOf (Cert.Kernel2Ideal.Project.args m c), fun c => Cert.Kernel2Ideal.Project.dtOf (Cert.Kernel2Ideal.Project.args m c), fun c => Cert.Kernel2Ideal.Project.uOf (Cert.Kernel2Ideal.Project.args m c),
    Cert.Kernel2Ideal.Project.run m ρ, ?_⟩
  refine (θ_run Cert.Reference2Ideal.defs _ _).mono (fun _ h c => ?_) (Cert.Reference2Ideal.Value.run (F := Ideal) m' ρ')
  have ha : Cert.Reference2Ideal.Project.args (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) = Cert.Kernel2Ideal.Project.args m c := by
    obtain ⟨h0, h1, h2⟩ := hagree c
    unfold Cert.Reference2Ideal.Project.args Cert.Kernel2Ideal.Project.args
    rw [← h0, ← h1, ← h2]
  refine ⟨(h c).1.trans ((Cert.Reference2Ideal.Project.attn_array _ _ _).trans ?_),
    (h c).2.1.trans ((Cert.Reference2Ideal.Project.conv_array _ _ _).trans ?_),
    (h c).2.2.1.trans ((Cert.Reference2Ideal.Project.sz_array _ _ _).trans ?_),
    (h c).2.2.2.1.trans ((Cert.Reference2Ideal.Project.su_array _ _ _).trans ?_),
    (h c).2.2.2.2.1.trans ((Cert.Reference2Ideal.Project.dt_array _ _ _).trans ?_),
    (h c).2.2.2.2.2.1.trans ((Cert.Reference2Ideal.Project.u_array _ _ _).trans ?_), (h c).2.2.2.2.2.2⟩
  all_goals (rw [ha]; rfl)

/-- The last call's kernel runs to the end, leaves its arguments as they were and its counters at zero. -/
theorem frame_kernel3 : @Cert.quiescent_Kernel3 Cert.Kernel3.Gen.facts := fun m ρ _ => Cert.Kernel3.Gen.frame m ρ

/-- So does its idealization. -/
theorem frame_ideal3 : @Cert.quiescent_Kernel3Ideal Cert.Kernel3Ideal.Gen.facts := fun m ρ _ => Cert.Kernel3Ideal.Gen.frame m ρ

/-- So does the last call's idealized reference. -/
theorem frame_reference3 : @Cert.quiescent_Reference3Ideal Cert.Reference3Ideal.Gen.facts := fun m ρ _ =>
  (θ_run Cert.Reference3Ideal.defs _ _).mono (fun r h => ⟨fun c => (h c).2,
      Idealize.ShloMosaic.sem_eq_zero_of_no_sems (by decide) r.2⟩)
    (Cert.Reference3Ideal.Value.run m ρ)

/-- The last call's kernel is the program its idealization was made from. -/
theorem preserves3 : Cert.preserves_Kernel3_Kernel3Ideal := trivial

/-- From arguments that agree, the result of the idealized last call is that of its idealized reference: each latent
    token's row is the same function of the arguments. -/
theorem algebraic3 : @Cert.algebraic_Kernel3Ideal_Reference3Ideal Cert.Kernel3Ideal.Gen.facts Cert.Reference3Ideal.Gen.facts := by
  intro m ρ m' ρ' _ hagree
  refine ⟨fun c => Cert.Kernel3Ideal.Final.outOf (Cert.Kernel3Ideal.Final.args m c), Cert.Kernel3Ideal.Final.run m ρ, ?_⟩
  refine (θ_run Cert.Reference3Ideal.defs _ _).mono (fun _ h c => ?_) (Cert.Reference3Ideal.Value.run (F := Ideal) m' ρ')
  refine ⟨(h c).1.trans ((Cert.Reference3Ideal.Final.run_eq m' c).trans ((Cert.Reference3Ideal.Final.result_array _ _ _ _ _ _).trans ?_)), (h c).2⟩
  obtain ⟨h0, h1, h2, h3, h4, h5⟩ := hagree c
  rw [h0, h1, h2, h3, h4, h5]
  rfl

/-- The modulation's kernel runs to the end, leaves its arguments as they were and its counters at zero. -/
theorem frame_kernel4 : @Cert.quiescent_Kernel4 Cert.Kernel4.Gen.facts := fun m ρ _ => Cert.Kernel4.Gen.frame m ρ

/-- So does its idealization. -/
theorem frame_ideal4 : @Cert.quiescent_Kernel4Ideal Cert.Kernel4Ideal.Gen.facts := fun m ρ _ => Cert.Kernel4Ideal.Gen.frame m ρ

/-- So does the modulation's idealized reference. -/
theorem frame_reference4 : @Cert.quiescent_Reference4Ideal Cert.Reference4Ideal.Gen.facts := fun m ρ _ =>
  (θ_run Cert.Reference4Ideal.defs _ _).mono (fun r h => ⟨fun c => (h c).2,
      Idealize.ShloMosaic.sem_eq_zero_of_no_sems (by decide) r.2⟩)
    (Cert.Reference4Ideal.Value.run m ρ)

/-- The modulation's kernel is the program its idealization was made from. -/
theorem preserves4 : Cert.preserves_Kernel4_Kernel4Ideal := trivial

/-- From arguments that agree, the result of the idealized modulation is that of its idealized reference: each layer's
    modulation of each row is the same function of the arguments. -/
theorem algebraic4 : @Cert.algebraic_Kernel4Ideal_Reference4Ideal Cert.Kernel4Ideal.Gen.facts Cert.Reference4Ideal.Gen.facts := by
  intro m ρ m' ρ' _ hagree
  refine ⟨fun c => Cert.Kernel4Ideal.Modulation.outOf (Cert.Kernel4Ideal.Modulation.args m c), Cert.Kernel4Ideal.Modulation.run m ρ, ?_⟩
  refine (θ_run Cert.Reference4Ideal.defs _ _).mono (fun _ h c => ?_) (Cert.Reference4Ideal.Value.run (F := Ideal) m' ρ')
  refine ⟨(h c).1.trans ((Cert.Reference4Ideal.Modulation.result_array _ _ _ _).trans ?_), (h c).2⟩
  obtain ⟨h0, h1, h2, h3⟩ := hagree c
  rw [h0, h1, h2, h3]
  rfl

/-- The kernel of the later layers' input projection runs to the end, leaves its arguments as they were and its counters
    at zero. -/
theorem frame_kernel5 : @Cert.quiescent_Kernel5 Cert.Kernel5.Gen.facts := fun m ρ _ => Cert.Kernel5.Gen.frame m ρ

/-- So does its idealization. -/
theorem frame_ideal5 : @Cert.quiescent_Kernel5Ideal Cert.Kernel5Ideal.Gen.facts := fun m ρ _ => Cert.Kernel5Ideal.Gen.frame m ρ

/-- So does the idealized reference of the later layers' input projection. -/
theorem frame_reference5 : @Cert.quiescent_Reference5Ideal Cert.Reference5Ideal.Gen.facts := fun m ρ _ =>
  (θ_run Cert.Reference5Ideal.defs _ _).mono (fun r h => ⟨fun c => (h c).2.2.2.2.2.2.2,
      Idealize.ShloMosaic.sem_eq_zero_of_no_sems (by decide) r.2⟩)
    (Cert.Reference5Ideal.Value.run m ρ)

/-- The kernel of the later layers' input projection is the program its idealization was made from. -/
theorem preserves5 : Cert.preserves_Kernel5_Kernel5Ideal := trivial

/-- From arguments that agree, all seven results of the later layers' idealized input projection are those of its
    idealized reference: each entry of each array is the same function of the arguments. -/
theorem algebraic5 : @Cert.algebraic_Kernel5Ideal_Reference5Ideal Cert.Kernel5Ideal.Gen.facts Cert.Reference5Ideal.Gen.facts := by
  intro m ρ m' ρ' _ hagree
  refine ⟨fun c => Cert.Kernel5Ideal.Next.xOf (Cert.Kernel5Ideal.Next.args m c), fun c => Cert.Kernel2Ideal.Project.attnOf (Cert.Kernel5Ideal.Next.args m c).next, fun c => Cert.Kernel2Ideal.Project.convOf (Cert.Kernel5Ideal.Next.args m c).next, fun c => Cert.Kernel2Ideal.Project.szOf (Cert.Kernel5Ideal.Next.args m c).next, fun c => Cert.Kernel2Ideal.Project.suOf (Cert.Kernel5Ideal.Next.args m c).next, fun c => Cert.Kernel2Ideal.Project.dtOf (Cert.Kernel5Ideal.Next.args m c).next, fun c => Cert.Kernel2Ideal.Project.uOf (Cert.Kernel5Ideal.Next.args m c).next, Cert.Kernel5Ideal.Next.run m ρ, ?_⟩
  refine (θ_run Cert.Reference5Ideal.defs _ _).mono (fun _ h c => ?_) (Cert.Reference5Ideal.Value.run (F := Ideal) m' ρ')
  have ha : Cert.Reference5Ideal.Next.args (Idealize.ShloMosaic.StableHlo.launchContents m' c) = Cert.Kernel5Ideal.Next.args m c := by
    obtain ⟨h0, h1, h2, h3, h4, h5, h6, h7⟩ := hagree c
    unfold Cert.Kernel5Ideal.Next.args
    rw [← h0, ← h1, ← h2, ← h3, ← h4, ← h5, ← h6, ← h7]
    rfl
  have hn := (Cert.Reference5Ideal.Next.args_eq (Idealize.ShloMosaic.StableHlo.launchContents m' c)).trans (congrArg Next.Args.next ha)
  refine ⟨(h c).1.trans ((Cert.Reference5Ideal.Next.x_array _).trans ?_),
    (h c).2.1.trans ((Cert.Reference2Ideal.Project.attn_array _ _ _).trans ?_),
    (h c).2.2.1.trans ((Cert.Reference2Ideal.Project.conv_array _ _ _).trans ?_),
    (h c).2.2.2.1.trans ((Cert.Reference2Ideal.Project.sz_array _ _ _).trans ?_),
    (h c).2.2.2.2.1.trans ((Cert.Reference2Ideal.Project.su_array _ _ _).trans ?_),
    (h c).2.2.2.2.2.1.trans ((Cert.Reference2Ideal.Project.dt_array _ _ _).trans ?_),
    (h c).2.2.2.2.2.2.1.trans ((Cert.Reference2Ideal.Project.u_array _ _ _).trans ?_), (h c).2.2.2.2.2.2.2⟩
  · rw [ha]; rfl
  all_goals (rw [hn]; rfl)

/-- The certificate's claims, all twenty-five. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    frame_kernel, frame_ideal, frame_reference, frame_kernel2, frame_ideal2, frame_reference2, frame_kernel3, frame_ideal3, frame_reference3,
    frame_kernel4, frame_ideal4, frame_reference4, frame_kernel5, frame_ideal5, frame_reference5,
    preserves, algebraic, preserves2, algebraic2, preserves3, algebraic3, preserves4, algebraic4, preserves5, algebraic5⟩

end Cert.Proof

end
